-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_InProjGla (m : (ℓ : Loc Cert.InProjGla.nD Cert.InProjGla.τ Cert.InProjGla.sig) → Buf (Elt Bits) ℓ) : Prop :=
  True

def Pre_InProjGlaIdeal (m : (ℓ : Loc Cert.InProjGlaIdeal.nD Cert.InProjGlaIdeal.τ Cert.InProjGlaIdeal.sig) → Buf (Elt Ideal) ℓ) : Prop :=
  True

def Pre_InProjGlaRefIdeal (m : (ℓ : Loc Cert.InProjGlaRefIdeal.nD Cert.InProjGlaRefIdeal.τ Cert.InProjGlaRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormStats (m : (ℓ : Loc Cert.NormStats.nD Cert.NormStats.τ Cert.NormStats.sig) → Buf (Elt Bits) ℓ) : Prop :=
  True

def Pre_NormStatsIdeal (m : (ℓ : Loc Cert.NormStatsIdeal.nD Cert.NormStatsIdeal.τ Cert.NormStatsIdeal.sig) → Buf (Elt Ideal) ℓ) : Prop :=
  True

def Pre_NormStatsRefIdeal (m : (ℓ : Loc Cert.NormStatsRefIdeal.nD Cert.NormStatsRefIdeal.τ Cert.NormStatsRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_InProjSsdPrompt (m : (ℓ : Loc Cert.InProjSsdPrompt.nD Cert.InProjSsdPrompt.τ Cert.InProjSsdPrompt.sig) → Buf (Elt Bits) ℓ) : Prop :=
  True

def Pre_InProjSsdPromptIdeal (m : (ℓ : Loc Cert.InProjSsdPromptIdeal.nD Cert.InProjSsdPromptIdeal.τ Cert.InProjSsdPromptIdeal.sig) → Buf (Elt Ideal) ℓ) : Prop :=
  True

def Pre_InProjSsdPromptRefIdeal (m : (ℓ : Loc Cert.InProjSsdPromptRefIdeal.nD Cert.InProjSsdPromptRefIdeal.τ Cert.InProjSsdPromptRefIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_MixersRefIdeal (m : (ℓ : Loc Cert.MixersRefIdeal.nD Cert.MixersRefIdeal.τ Cert.MixersRefIdeal.sig) → Buf (Elt Ideal) ℓ) : Prop :=
  True

def Pre_MlpUpPrompt (m : (ℓ : Loc Cert.MlpUpPrompt.nD Cert.MlpUpPrompt.τ Cert.MlpUpPrompt.sig) → Buf (Elt Bits) ℓ) : Prop :=
  True

def Pre_MlpUpPromptIdeal (m : (ℓ : Loc Cert.MlpUpPromptIdeal.nD Cert.MlpUpPromptIdeal.τ Cert.MlpUpPromptIdeal.sig) → Buf (Elt Ideal) ℓ) : Prop :=
  True

def Pre_MlpUpPromptRefIdeal (m : (ℓ : Loc Cert.MlpUpPromptRefIdeal.nD Cert.MlpUpPromptRefIdeal.τ Cert.MlpUpPromptRefIdeal.sig) → Buf (Elt Ideal) ℓ) : Prop :=
  True

def Pre_DownProjPrompt (m : (ℓ : Loc Cert.DownProjPrompt.nD Cert.DownProjPrompt.τ Cert.DownProjPrompt.sig) → Buf (Elt Bits) ℓ) : Prop :=
  True

def Pre_DownProjPromptIdeal (m : (ℓ : Loc Cert.DownProjPromptIdeal.nD Cert.DownProjPromptIdeal.τ Cert.DownProjPromptIdeal.sig) → Buf (Elt Ideal) ℓ) : Prop :=
  True

def Pre_DownProjPromptRefIdeal (m : (ℓ : Loc Cert.DownProjPromptRefIdeal.nD Cert.DownProjPromptRefIdeal.τ Cert.DownProjPromptRefIdeal.sig) → Buf (Elt Ideal) ℓ) : Prop :=
  True

def Pre_InProjGlaPrompt (m : (ℓ : Loc Cert.InProjGlaPrompt.nD Cert.InProjGlaPrompt.τ Cert.InProjGlaPrompt.sig) → Buf (Elt Bits) ℓ) : Prop :=
  True

def Pre_InProjGlaPromptIdeal (m : (ℓ : Loc Cert.InProjGlaPromptIdeal.nD Cert.InProjGlaPromptIdeal.τ Cert.InProjGlaPromptIdeal.sig) → Buf (Elt Ideal) ℓ) : Prop :=
  True

def Pre_InProjGlaPromptRefIdeal (m : (ℓ : Loc Cert.InProjGlaPromptRefIdeal.nD Cert.InProjGlaPromptRefIdeal.τ Cert.InProjGlaPromptRefIdeal.sig) → Buf (Elt Ideal) ℓ) : Prop :=
  True

def Pre_OutProjPrompt (m : (ℓ : Loc Cert.OutProjPrompt.nD Cert.OutProjPrompt.τ Cert.OutProjPrompt.sig) → Buf (Elt Bits) ℓ) : Prop :=
  True

def Pre_OutProjPromptIdeal (m : (ℓ : Loc Cert.OutProjPromptIdeal.nD Cert.OutProjPromptIdeal.τ Cert.OutProjPromptIdeal.sig) → Buf (Elt Ideal) ℓ) : Prop :=
  True

def Pre_OutProjPromptRefIdeal (m : (ℓ : Loc Cert.OutProjPromptRefIdeal.nD Cert.OutProjPromptRefIdeal.τ Cert.OutProjPromptRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4)
      ∧ r.2.mem ((c.tc : Thread Cert.DownProj.nD Cert.DownProj.τ).loc Cert.DownProj.main_arg5) = m ((c.tc : Thread Cert.DownProj.nD Cert.DownProj.τ).loc Cert.DownProj.main_arg5))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4)
      ∧ r.2.mem ((c.tc : Thread Cert.DownProjIdeal.nD Cert.DownProjIdeal.τ).loc Cert.DownProjIdeal.main_arg5) = m ((c.tc : Thread Cert.DownProjIdeal.nD Cert.DownProjIdeal.τ).loc Cert.DownProjIdeal.main_arg5))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3)
      ∧ r.2.mem ((c.tc : Thread Cert.DownProjRefIdeal.nD Cert.DownProjRefIdeal.τ).loc Cert.DownProjRefIdeal.main_arg4) = m ((c.tc : Thread Cert.DownProjRefIdeal.nD Cert.DownProjRefIdeal.τ).loc Cert.DownProjRefIdeal.main_arg4)
      ∧ r.2.mem ((c.tc : Thread Cert.DownProjRefIdeal.nD Cert.DownProjRefIdeal.τ).loc Cert.DownProjRefIdeal.main_arg5) = m ((c.tc : Thread Cert.DownProjRefIdeal.nD Cert.DownProjRefIdeal.τ).loc Cert.DownProjRefIdeal.main_arg5))
      ∧ r.2.sem = fun _ => 0)

def quiescent_InProjGla [hInProjGla : Cert.InProjGla.Facts] : Prop :=
  ∀ (m : (ℓ : Loc Cert.InProjGla.nD Cert.InProjGla.τ Cert.InProjGla.sig) → Buf (Elt Bits) ℓ) (g : Dev Cert.InProjGla.nD → PrngReg), Pre_InProjGla m →
    θ_run (Cert.InProjGla.defs (F := Bits)) (onTc (τ := Cert.InProjGla.τ) (Cert.InProjGla.main (F := Bits))) ⟨m, fun _ => 0, g⟩ (fun r => (∀ c : Dev Cert.InProjGla.nD,
      r.2.mem ((c.tc : Thread Cert.InProjGla.nD Cert.InProjGla.τ).loc Cert.InProjGla.main_arg0) = m ((c.tc : Thread Cert.InProjGla.nD Cert.InProjGla.τ).loc Cert.InProjGla.main_arg0)
      ∧ r.2.mem ((c.tc : Thread Cert.InProjGla.nD Cert.InProjGla.τ).loc Cert.InProjGla.main_arg1) = m ((c.tc : Thread Cert.InProjGla.nD Cert.InProjGla.τ).loc Cert.InProjGla.main_arg1)
      ∧ r.2.mem ((c.tc : Thread Cert.InProjGla.nD Cert.InProjGla.τ).loc Cert.InProjGla.main_arg2) = m ((c.tc : Thread Cert.InProjGla.nD Cert.InProjGla.τ).loc Cert.InProjGla.main_arg2))
      ∧ r.2.sem = fun _ => 0)

def quiescent_InProjGlaIdeal [hInProjGlaIdeal : Cert.InProjGlaIdeal.Facts] : Prop :=
  ∀ (m : (ℓ : Loc Cert.InProjGlaIdeal.nD Cert.InProjGlaIdeal.τ Cert.InProjGlaIdeal.sig) → Buf (Elt Ideal) ℓ) (g : Dev Cert.InProjGlaIdeal.nD → PrngReg), Pre_InProjGlaIdeal m →
    θ_run (Cert.InProjGlaIdeal.defs (F := Ideal)) (onTc (τ := Cert.InProjGlaIdeal.τ) (Cert.InProjGlaIdeal.main (F := Ideal))) ⟨m, fun _ => 0, g⟩ (fun r => (∀ c : Dev Cert.InProjGlaIdeal.nD,
      r.2.mem ((c.tc : Thread Cert.InProjGlaIdeal.nD Cert.InProjGlaIdeal.τ).loc Cert.InProjGlaIdeal.main_arg0) = m ((c.tc : Thread Cert.InProjGlaIdeal.nD Cert.InProjGlaIdeal.τ).loc Cert.InProjGlaIdeal.main_arg0)
      ∧ r.2.mem ((c.tc : Thread Cert.InProjGlaIdeal.nD Cert.InProjGlaIdeal.τ).loc Cert.InProjGlaIdeal.main_arg1) = m ((c.tc : Thread Cert.InProjGlaIdeal.nD Cert.InProjGlaIdeal.τ).loc Cert.InProjGlaIdeal.main_arg1)
      ∧ r.2.mem ((c.tc : Thread Cert.InProjGlaIdeal.nD Cert.InProjGlaIdeal.τ).loc Cert.InProjGlaIdeal.main_arg2) = m ((c.tc : Thread Cert.InProjGlaIdeal.nD Cert.InProjGlaIdeal.τ).loc Cert.InProjGlaIdeal.main_arg2))
      ∧ r.2.sem = fun _ => 0)

def quiescent_InProjGlaRefIdeal [hInProjGlaRefIdeal : Cert.InProjGlaRefIdeal.Facts] : Prop :=
  ∀ (m : (ℓ : Loc Cert.InProjGlaRefIdeal.nD Cert.InProjGlaRefIdeal.τ Cert.InProjGlaRefIdeal.sig) → Buf (Elt Ideal) ℓ) (g : Dev Cert.InProjGlaRefIdeal.nD → PrngReg), Pre_InProjGlaRefIdeal m →
    θ_run (Cert.InProjGlaRefIdeal.defs (F := Ideal)) (onTc (τ := Cert.InProjGlaRefIdeal.τ) (Cert.InProjGlaRefIdeal.main (F := Ideal))) ⟨m, fun _ => 0, g⟩ (fun r => (∀ c : Dev Cert.InProjGlaRefIdeal.nD,
      r.2.mem ((c.tc : Thread Cert.InProjGlaRefIdeal.nD Cert.InProjGlaRefIdeal.τ).loc Cert.InProjGlaRefIdeal.main_arg0) = m ((c.tc : Thread Cert.InProjGlaRefIdeal.nD Cert.InProjGlaRefIdeal.τ).loc Cert.InProjGlaRefIdeal.main_arg0)
      ∧ r.2.mem ((c.tc : Thread Cert.InProjGlaRefIdeal.nD Cert.InProjGlaRefIdeal.τ).loc Cert.InProjGlaRefIdeal.main_arg1) = m ((c.tc : Thread Cert.InProjGlaRefIdeal.nD Cert.InProjGlaRefIdeal.τ).loc Cert.InProjGlaRefIdeal.main_arg1)
      ∧ r.2.mem ((c.tc : Thread Cert.InProjGlaRefIdeal.nD Cert.InProjGlaRefIdeal.τ).loc Cert.InProjGlaRefIdeal.main_arg2) = m ((c.tc : Thread Cert.InProjGlaRefIdeal.nD Cert.InProjGlaRefIdeal.τ).loc Cert.InProjGlaRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_NormStats [hNormStats : Cert.NormStats.Facts] : Prop :=
  ∀ (m : (ℓ : Loc Cert.NormStats.nD Cert.NormStats.τ Cert.NormStats.sig) → Buf (Elt Bits) ℓ) (g : Dev Cert.NormStats.nD → PrngReg), Pre_NormStats m →
    θ_run (Cert.NormStats.defs (F := Bits)) (onTc (τ := Cert.NormStats.τ) (Cert.NormStats.main (F := Bits))) ⟨m, fun _ => 0, g⟩ (fun r => (∀ c : Dev Cert.NormStats.nD,
      r.2.mem ((c.tc : Thread Cert.NormStats.nD Cert.NormStats.τ).loc Cert.NormStats.main_arg0) = m ((c.tc : Thread Cert.NormStats.nD Cert.NormStats.τ).loc Cert.NormStats.main_arg0)
      ∧ r.2.mem ((c.tc : Thread Cert.NormStats.nD Cert.NormStats.τ).loc Cert.NormStats.main_arg1) = m ((c.tc : Thread Cert.NormStats.nD Cert.NormStats.τ).loc Cert.NormStats.main_arg1)
      ∧ r.2.mem ((c.tc : Thread Cert.NormStats.nD Cert.NormStats.τ).loc Cert.NormStats.main_arg2) = m ((c.tc : Thread Cert.NormStats.nD Cert.NormStats.τ).loc Cert.NormStats.main_arg2))
      ∧ r.2.sem = fun _ => 0)

def quiescent_NormStatsIdeal [hNormStatsIdeal : Cert.NormStatsIdeal.Facts] : Prop :=
  ∀ (m : (ℓ : Loc Cert.NormStatsIdeal.nD Cert.NormStatsIdeal.τ Cert.NormStatsIdeal.sig) → Buf (Elt Ideal) ℓ) (g : Dev Cert.NormStatsIdeal.nD → PrngReg), Pre_NormStatsIdeal m →
    θ_run (Cert.NormStatsIdeal.defs (F := Ideal)) (onTc (τ := Cert.NormStatsIdeal.τ) (Cert.NormStatsIdeal.main (F := Ideal))) ⟨m, fun _ => 0, g⟩ (fun r => (∀ c : Dev Cert.NormStatsIdeal.nD,
      r.2.mem ((c.tc : Thread Cert.NormStatsIdeal.nD Cert.NormStatsIdeal.τ).loc Cert.NormStatsIdeal.main_arg0) = m ((c.tc : Thread Cert.NormStatsIdeal.nD Cert.NormStatsIdeal.τ).loc Cert.NormStatsIdeal.main_arg0)
      ∧ r.2.mem ((c.tc : Thread Cert.NormStatsIdeal.nD Cert.NormStatsIdeal.τ).loc Cert.NormStatsIdeal.main_arg1) = m ((c.tc : Thread Cert.NormStatsIdeal.nD Cert.NormStatsIdeal.τ).loc Cert.NormStatsIdeal.main_arg1)
      ∧ r.2.mem ((c.tc : Thread Cert.NormStatsIdeal.nD Cert.NormStatsIdeal.τ).loc Cert.NormStatsIdeal.main_arg2) = m ((c.tc : Thread Cert.NormStatsIdeal.nD Cert.NormStatsIdeal.τ).loc Cert.NormStatsIdeal.main_arg2))
      ∧ r.2.sem = fun _ => 0)

def quiescent_NormStatsRefIdeal [hNormStatsRefIdeal : Cert.NormStatsRefIdeal.Facts] : Prop :=
  ∀ (m : (ℓ : Loc Cert.NormStatsRefIdeal.nD Cert.NormStatsRefIdeal.τ Cert.NormStatsRefIdeal.sig) → Buf (Elt Ideal) ℓ) (g : Dev Cert.NormStatsRefIdeal.nD → PrngReg), Pre_NormStatsRefIdeal m →
    θ_run (Cert.NormStatsRefIdeal.defs (F := Ideal)) (onTc (τ := Cert.NormStatsRefIdeal.τ) (Cert.NormStatsRefIdeal.main (F := Ideal))) ⟨m, fun _ => 0, g⟩ (fun r => (∀ c : Dev Cert.NormStatsRefIdeal.nD,
      r.2.mem ((c.tc : Thread Cert.NormStatsRefIdeal.nD Cert.NormStatsRefIdeal.τ).loc Cert.NormStatsRefIdeal.main_arg0) = m ((c.tc : Thread Cert.NormStatsRefIdeal.nD Cert.NormStatsRefIdeal.τ).loc Cert.NormStatsRefIdeal.main_arg0)
      ∧ r.2.mem ((c.tc : Thread Cert.NormStatsRefIdeal.nD Cert.NormStatsRefIdeal.τ).loc Cert.NormStatsRefIdeal.main_arg1) = m ((c.tc : Thread Cert.NormStatsRefIdeal.nD Cert.NormStatsRefIdeal.τ).loc Cert.NormStatsRefIdeal.main_arg1)
      ∧ r.2.mem ((c.tc : Thread Cert.NormStatsRefIdeal.nD Cert.NormStatsRefIdeal.τ).loc Cert.NormStatsRefIdeal.main_arg2) = m ((c.tc : Thread Cert.NormStatsRefIdeal.nD Cert.NormStatsRefIdeal.τ).loc Cert.NormStatsRefIdeal.main_arg2))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1)
      ∧ r.2.mem ((c.tc : Thread Cert.NormSample.nD Cert.NormSample.τ).loc Cert.NormSample.main_arg2) = m ((c.tc : Thread Cert.NormSample.nD Cert.NormSample.τ).loc Cert.NormSample.main_arg2))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
      ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1)
      ∧ r.2.mem ((c.tc : Thread Cert.NormSampleRefIdeal.nD Cert.NormSampleRefIdeal.τ).loc Cert.NormSampleRefIdeal.main_arg2) = m ((c.tc : Thread Cert.NormSampleRefIdeal.nD Cert.NormSampleRefIdeal.τ).loc Cert.NormSampleRefIdeal.main_arg2))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1)
      ∧ r.2.mem ((c.tc : Thread Cert.NormPrompt.nD Cert.NormPrompt.τ).loc Cert.NormPrompt.main_arg2) = m ((c.tc : Thread Cert.NormPrompt.nD Cert.NormPrompt.τ).loc Cert.NormPrompt.main_arg2))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1)
      ∧ r.2.mem ((c.tc : Thread Cert.NormPromptIdeal.nD Cert.NormPromptIdeal.τ).loc Cert.NormPromptIdeal.main_arg2) = m ((c.tc : Thread Cert.NormPromptIdeal.nD Cert.NormPromptIdeal.τ).loc Cert.NormPromptIdeal.main_arg2))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1)
      ∧ r.2.mem ((c.tc : Thread Cert.NormPromptRefIdeal.nD Cert.NormPromptRefIdeal.τ).loc Cert.NormPromptRefIdeal.main_arg2) = m ((c.tc : Thread Cert.NormPromptRefIdeal.nD Cert.NormPromptRefIdeal.τ).loc Cert.NormPromptRefIdeal.main_arg2))
      ∧ r.2.sem = fun _ => 0)

def quiescent_InProjSsdPrompt [hInProjSsdPrompt : Cert.InProjSsdPrompt.Facts] : Prop :=
  ∀ (m : (ℓ : Loc Cert.InProjSsdPrompt.nD Cert.InProjSsdPrompt.τ Cert.InProjSsdPrompt.sig) → Buf (Elt Bits) ℓ) (g : Dev Cert.InProjSsdPrompt.nD → PrngReg), Pre_InProjSsdPrompt m →
    θ_run (Cert.InProjSsdPrompt.defs (F := Bits)) (onTc (τ := Cert.InProjSsdPrompt.τ) (Cert.InProjSsdPrompt.main (F := Bits))) ⟨m, fun _ => 0, g⟩ (fun r => (∀ c : Dev Cert.InProjSsdPrompt.nD,
      r.2.mem ((c.tc : Thread Cert.InProjSsdPrompt.nD Cert.InProjSsdPrompt.τ).loc Cert.InProjSsdPrompt.main_arg0) = m ((c.tc : Thread Cert.InProjSsdPrompt.nD Cert.InProjSsdPrompt.τ).loc Cert.InProjSsdPrompt.main_arg0)
      ∧ r.2.mem ((c.tc : Thread Cert.InProjSsdPrompt.nD Cert.InProjSsdPrompt.τ).loc Cert.InProjSsdPrompt.main_arg1) = m ((c.tc : Thread Cert.InProjSsdPrompt.nD Cert.InProjSsdPrompt.τ).loc Cert.InProjSsdPrompt.main_arg1))
      ∧ r.2.sem = fun _ => 0)

def quiescent_InProjSsdPromptIdeal [hInProjSsdPromptIdeal : Cert.InProjSsdPromptIdeal.Facts] : Prop :=
  ∀ (m : (ℓ : Loc Cert.InProjSsdPromptIdeal.nD Cert.InProjSsdPromptIdeal.τ Cert.InProjSsdPromptIdeal.sig) → Buf (Elt Ideal) ℓ) (g : Dev Cert.InProjSsdPromptIdeal.nD → PrngReg), Pre_InProjSsdPromptIdeal m →
    θ_run (Cert.InProjSsdPromptIdeal.defs (F := Ideal)) (onTc (τ := Cert.InProjSsdPromptIdeal.τ) (Cert.InProjSsdPromptIdeal.main (F := Ideal))) ⟨m, fun _ => 0, g⟩ (fun r => (∀ c : Dev Cert.InProjSsdPromptIdeal.nD,
      r.2.mem ((c.tc : Thread Cert.InProjSsdPromptIdeal.nD Cert.InProjSsdPromptIdeal.τ).loc Cert.InProjSsdPromptIdeal.main_arg0) = m ((c.tc : Thread Cert.InProjSsdPromptIdeal.nD Cert.InProjSsdPromptIdeal.τ).loc Cert.InProjSsdPromptIdeal.main_arg0)
      ∧ r.2.mem ((c.tc : Thread Cert.InProjSsdPromptIdeal.nD Cert.InProjSsdPromptIdeal.τ).loc Cert.InProjSsdPromptIdeal.main_arg1) = m ((c.tc : Thread Cert.InProjSsdPromptIdeal.nD Cert.InProjSsdPromptIdeal.τ).loc Cert.InProjSsdPromptIdeal.main_arg1))
      ∧ r.2.sem = fun _ => 0)

def quiescent_InProjSsdPromptRefIdeal [hInProjSsdPromptRefIdeal : Cert.InProjSsdPromptRefIdeal.Facts] : Prop :=
  ∀ (m : (ℓ : Loc Cert.InProjSsdPromptRefIdeal.nD Cert.InProjSsdPromptRefIdeal.τ Cert.InProjSsdPromptRefIdeal.sig) → Buf (Elt Ideal) ℓ) (g : Dev Cert.InProjSsdPromptRefIdeal.nD → PrngReg), Pre_InProjSsdPromptRefIdeal m →
    θ_run (Cert.InProjSsdPromptRefIdeal.defs (F := Ideal)) (onTc (τ := Cert.InProjSsdPromptRefIdeal.τ) (Cert.InProjSsdPromptRefIdeal.main (F := Ideal))) ⟨m, fun _ => 0, g⟩ (fun r => (∀ c : Dev Cert.InProjSsdPromptRefIdeal.nD,
      r.2.mem ((c.tc : Thread Cert.InProjSsdPromptRefIdeal.nD Cert.InProjSsdPromptRefIdeal.τ).loc Cert.InProjSsdPromptRefIdeal.main_arg0) = m ((c.tc : Thread Cert.InProjSsdPromptRefIdeal.nD Cert.InProjSsdPromptRefIdeal.τ).loc Cert.InProjSsdPromptRefIdeal.main_arg0)
      ∧ r.2.mem ((c.tc : Thread Cert.InProjSsdPromptRefIdeal.nD Cert.InProjSsdPromptRefIdeal.τ).loc Cert.InProjSsdPromptRefIdeal.main_arg1) = m ((c.tc : Thread Cert.InProjSsdPromptRefIdeal.nD Cert.InProjSsdPromptRefIdeal.τ).loc Cert.InProjSsdPromptRefIdeal.main_arg1))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8)
      ∧ r.2.mem ((c.tc : Thread Cert.Mixers.nD Cert.Mixers.τ).loc Cert.Mixers.main_arg9) = m ((c.tc : Thread Cert.Mixers.nD Cert.Mixers.τ).loc Cert.Mixers.main_arg9)
      ∧ r.2.mem ((c.tc : Thread Cert.Mixers.nD Cert.Mixers.τ).loc Cert.Mixers.main_arg10) = m ((c.tc : Thread Cert.Mixers.nD Cert.Mixers.τ).loc Cert.Mixers.main_arg10)
      ∧ r.2.mem ((c.tc : Thread Cert.Mixers.nD Cert.Mixers.τ).loc Cert.Mixers.main_arg11) = m ((c.tc : Thread Cert.Mixers.nD Cert.Mixers.τ).loc Cert.Mixers.main_arg11)
      ∧ r.2.mem ((c.tc : Thread Cert.Mixers.nD Cert.Mixers.τ).loc Cert.Mixers.main_arg12) = m ((c.tc : Thread Cert.Mixers.nD Cert.Mixers.τ).loc Cert.Mixers.main_arg12)
      ∧ r.2.mem ((c.tc : Thread Cert.Mixers.nD Cert.Mixers.τ).loc Cert.Mixers.main_arg13) = m ((c.tc : Thread Cert.Mixers.nD Cert.Mixers.τ).loc Cert.Mixers.main_arg13)
      ∧ r.2.mem ((c.tc : Thread Cert.Mixers.nD Cert.Mixers.τ).loc Cert.Mixers.main_arg14) = m ((c.tc : Thread Cert.Mixers.nD Cert.Mixers.τ).loc Cert.Mixers.main_arg14))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
      ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
      ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
      ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
      ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12)
      ∧ r.2.mem ((c.tc : Thread Cert.MixersIdeal.nD Cert.MixersIdeal.τ).loc Cert.MixersIdeal.main_arg13) = m ((c.tc : Thread Cert.MixersIdeal.nD Cert.MixersIdeal.τ).loc Cert.MixersIdeal.main_arg13)
      ∧ r.2.mem ((c.tc : Thread Cert.MixersIdeal.nD Cert.MixersIdeal.τ).loc Cert.MixersIdeal.main_arg14) = m ((c.tc : Thread Cert.MixersIdeal.nD Cert.MixersIdeal.τ).loc Cert.MixersIdeal.main_arg14))
      ∧ r.2.sem = fun _ => 0)

def quiescent_MixersRefIdeal [hMixersRefIdeal : Cert.MixersRefIdeal.Facts] : Prop :=
  ∀ (m : (ℓ : Loc Cert.MixersRefIdeal.nD Cert.MixersRefIdeal.τ Cert.MixersRefIdeal.sig) → Buf (Elt Ideal) ℓ) (g : Dev Cert.MixersRefIdeal.nD → PrngReg), Pre_MixersRefIdeal m →
    θ_run (Cert.MixersRefIdeal.defs (F := Ideal)) (onTc (τ := Cert.MixersRefIdeal.τ) (Cert.MixersRefIdeal.main (F := Ideal))) ⟨m, fun _ => 0, g⟩ (fun r => (∀ c : Dev Cert.MixersRefIdeal.nD,
      r.2.mem ((c.tc : Thread Cert.MixersRefIdeal.nD Cert.MixersRefIdeal.τ).loc Cert.MixersRefIdeal.main_arg0) = m ((c.tc : Thread Cert.MixersRefIdeal.nD Cert.MixersRefIdeal.τ).loc Cert.MixersRefIdeal.main_arg0)
      ∧ r.2.mem ((c.tc : Thread Cert.MixersRefIdeal.nD Cert.MixersRefIdeal.τ).loc Cert.MixersRefIdeal.main_arg1) = m ((c.tc : Thread Cert.MixersRefIdeal.nD Cert.MixersRefIdeal.τ).loc Cert.MixersRefIdeal.main_arg1)
      ∧ r.2.mem ((c.tc : Thread Cert.MixersRefIdeal.nD Cert.MixersRefIdeal.τ).loc Cert.MixersRefIdeal.main_arg2) = m ((c.tc : Thread Cert.MixersRefIdeal.nD Cert.MixersRefIdeal.τ).loc Cert.MixersRefIdeal.main_arg2)
      ∧ r.2.mem ((c.tc : Thread Cert.MixersRefIdeal.nD Cert.MixersRefIdeal.τ).loc Cert.MixersRefIdeal.main_arg3) = m ((c.tc : Thread Cert.MixersRefIdeal.nD Cert.MixersRefIdeal.τ).loc Cert.MixersRefIdeal.main_arg3)
      ∧ r.2.mem ((c.tc : Thread Cert.MixersRefIdeal.nD Cert.MixersRefIdeal.τ).loc Cert.MixersRefIdeal.main_arg4) = m ((c.tc : Thread Cert.MixersRefIdeal.nD Cert.MixersRefIdeal.τ).loc Cert.MixersRefIdeal.main_arg4)
      ∧ r.2.mem ((c.tc : Thread Cert.MixersRefIdeal.nD Cert.MixersRefIdeal.τ).loc Cert.MixersRefIdeal.main_arg5) = m ((c.tc : Thread Cert.MixersRefIdeal.nD Cert.MixersRefIdeal.τ).loc Cert.MixersRefIdeal.main_arg5)
      ∧ r.2.mem ((c.tc : Thread Cert.MixersRefIdeal.nD Cert.MixersRefIdeal.τ).loc Cert.MixersRefIdeal.main_arg6) = m ((c.tc : Thread Cert.MixersRefIdeal.nD Cert.MixersRefIdeal.τ).loc Cert.MixersRefIdeal.main_arg6)
      ∧ r.2.mem ((c.tc : Thread Cert.MixersRefIdeal.nD Cert.MixersRefIdeal.τ).loc Cert.MixersRefIdeal.main_arg7) = m ((c.tc : Thread Cert.MixersRefIdeal.nD Cert.MixersRefIdeal.τ).loc Cert.MixersRefIdeal.main_arg7)
      ∧ r.2.mem ((c.tc : Thread Cert.MixersRefIdeal.nD Cert.MixersRefIdeal.τ).loc Cert.MixersRefIdeal.main_arg8) = m ((c.tc : Thread Cert.MixersRefIdeal.nD Cert.MixersRefIdeal.τ).loc Cert.MixersRefIdeal.main_arg8)
      ∧ r.2.mem ((c.tc : Thread Cert.MixersRefIdeal.nD Cert.MixersRefIdeal.τ).loc Cert.MixersRefIdeal.main_arg9) = m ((c.tc : Thread Cert.MixersRefIdeal.nD Cert.MixersRefIdeal.τ).loc Cert.MixersRefIdeal.main_arg9)
      ∧ r.2.mem ((c.tc : Thread Cert.MixersRefIdeal.nD Cert.MixersRefIdeal.τ).loc Cert.MixersRefIdeal.main_arg10) = m ((c.tc : Thread Cert.MixersRefIdeal.nD Cert.MixersRefIdeal.τ).loc Cert.MixersRefIdeal.main_arg10)
      ∧ r.2.mem ((c.tc : Thread Cert.MixersRefIdeal.nD Cert.MixersRefIdeal.τ).loc Cert.MixersRefIdeal.main_arg11) = m ((c.tc : Thread Cert.MixersRefIdeal.nD Cert.MixersRefIdeal.τ).loc Cert.MixersRefIdeal.main_arg11)
      ∧ r.2.mem ((c.tc : Thread Cert.MixersRefIdeal.nD Cert.MixersRefIdeal.τ).loc Cert.MixersRefIdeal.main_arg12) = m ((c.tc : Thread Cert.MixersRefIdeal.nD Cert.MixersRefIdeal.τ).loc Cert.MixersRefIdeal.main_arg12)
      ∧ r.2.mem ((c.tc : Thread Cert.MixersRefIdeal.nD Cert.MixersRefIdeal.τ).loc Cert.MixersRefIdeal.main_arg13) = m ((c.tc : Thread Cert.MixersRefIdeal.nD Cert.MixersRefIdeal.τ).loc Cert.MixersRefIdeal.main_arg13)
      ∧ r.2.mem ((c.tc : Thread Cert.MixersRefIdeal.nD Cert.MixersRefIdeal.τ).loc Cert.MixersRefIdeal.main_arg14) = m ((c.tc : Thread Cert.MixersRefIdeal.nD Cert.MixersRefIdeal.τ).loc Cert.MixersRefIdeal.main_arg14))
      ∧ r.2.sem = fun _ => 0)

def quiescent_MlpUpPrompt [hMlpUpPrompt : Cert.MlpUpPrompt.Facts] : Prop :=
  ∀ (m : (ℓ : Loc Cert.MlpUpPrompt.nD Cert.MlpUpPrompt.τ Cert.MlpUpPrompt.sig) → Buf (Elt Bits) ℓ) (g : Dev Cert.MlpUpPrompt.nD → PrngReg), Pre_MlpUpPrompt m →
    θ_run (Cert.MlpUpPrompt.defs (F := Bits)) (onTc (τ := Cert.MlpUpPrompt.τ) (Cert.MlpUpPrompt.main (F := Bits))) ⟨m, fun _ => 0, g⟩ (fun r => (∀ c : Dev Cert.MlpUpPrompt.nD,
      r.2.mem ((c.tc : Thread Cert.MlpUpPrompt.nD Cert.MlpUpPrompt.τ).loc Cert.MlpUpPrompt.main_arg0) = m ((c.tc : Thread Cert.MlpUpPrompt.nD Cert.MlpUpPrompt.τ).loc Cert.MlpUpPrompt.main_arg0)
      ∧ r.2.mem ((c.tc : Thread Cert.MlpUpPrompt.nD Cert.MlpUpPrompt.τ).loc Cert.MlpUpPrompt.main_arg1) = m ((c.tc : Thread Cert.MlpUpPrompt.nD Cert.MlpUpPrompt.τ).loc Cert.MlpUpPrompt.main_arg1))
      ∧ r.2.sem = fun _ => 0)

def quiescent_MlpUpPromptIdeal [hMlpUpPromptIdeal : Cert.MlpUpPromptIdeal.Facts] : Prop :=
  ∀ (m : (ℓ : Loc Cert.MlpUpPromptIdeal.nD Cert.MlpUpPromptIdeal.τ Cert.MlpUpPromptIdeal.sig) → Buf (Elt Ideal) ℓ) (g : Dev Cert.MlpUpPromptIdeal.nD → PrngReg), Pre_MlpUpPromptIdeal m →
    θ_run (Cert.MlpUpPromptIdeal.defs (F := Ideal)) (onTc (τ := Cert.MlpUpPromptIdeal.τ) (Cert.MlpUpPromptIdeal.main (F := Ideal))) ⟨m, fun _ => 0, g⟩ (fun r => (∀ c : Dev Cert.MlpUpPromptIdeal.nD,
      r.2.mem ((c.tc : Thread Cert.MlpUpPromptIdeal.nD Cert.MlpUpPromptIdeal.τ).loc Cert.MlpUpPromptIdeal.main_arg0) = m ((c.tc : Thread Cert.MlpUpPromptIdeal.nD Cert.MlpUpPromptIdeal.τ).loc Cert.MlpUpPromptIdeal.main_arg0)
      ∧ r.2.mem ((c.tc : Thread Cert.MlpUpPromptIdeal.nD Cert.MlpUpPromptIdeal.τ).loc Cert.MlpUpPromptIdeal.main_arg1) = m ((c.tc : Thread Cert.MlpUpPromptIdeal.nD Cert.MlpUpPromptIdeal.τ).loc Cert.MlpUpPromptIdeal.main_arg1))
      ∧ r.2.sem = fun _ => 0)

def quiescent_MlpUpPromptRefIdeal [hMlpUpPromptRefIdeal : Cert.MlpUpPromptRefIdeal.Facts] : Prop :=
  ∀ (m : (ℓ : Loc Cert.MlpUpPromptRefIdeal.nD Cert.MlpUpPromptRefIdeal.τ Cert.MlpUpPromptRefIdeal.sig) → Buf (Elt Ideal) ℓ) (g : Dev Cert.MlpUpPromptRefIdeal.nD → PrngReg), Pre_MlpUpPromptRefIdeal m →
    θ_run (Cert.MlpUpPromptRefIdeal.defs (F := Ideal)) (onTc (τ := Cert.MlpUpPromptRefIdeal.τ) (Cert.MlpUpPromptRefIdeal.main (F := Ideal))) ⟨m, fun _ => 0, g⟩ (fun r => (∀ c : Dev Cert.MlpUpPromptRefIdeal.nD,
      r.2.mem ((c.tc : Thread Cert.MlpUpPromptRefIdeal.nD Cert.MlpUpPromptRefIdeal.τ).loc Cert.MlpUpPromptRefIdeal.main_arg0) = m ((c.tc : Thread Cert.MlpUpPromptRefIdeal.nD Cert.MlpUpPromptRefIdeal.τ).loc Cert.MlpUpPromptRefIdeal.main_arg0)
      ∧ r.2.mem ((c.tc : Thread Cert.MlpUpPromptRefIdeal.nD Cert.MlpUpPromptRefIdeal.τ).loc Cert.MlpUpPromptRefIdeal.main_arg1) = m ((c.tc : Thread Cert.MlpUpPromptRefIdeal.nD Cert.MlpUpPromptRefIdeal.τ).loc Cert.MlpUpPromptRefIdeal.main_arg1))
      ∧ r.2.sem = fun _ => 0)

def quiescent_DownProjPrompt [hDownProjPrompt : Cert.DownProjPrompt.Facts] : Prop :=
  ∀ (m : (ℓ : Loc Cert.DownProjPrompt.nD Cert.DownProjPrompt.τ Cert.DownProjPrompt.sig) → Buf (Elt Bits) ℓ) (g : Dev Cert.DownProjPrompt.nD → PrngReg), Pre_DownProjPrompt m →
    θ_run (Cert.DownProjPrompt.defs (F := Bits)) (onTc (τ := Cert.DownProjPrompt.τ) (Cert.DownProjPrompt.main (F := Bits))) ⟨m, fun _ => 0, g⟩ (fun r => (∀ c : Dev Cert.DownProjPrompt.nD,
      r.2.mem ((c.tc : Thread Cert.DownProjPrompt.nD Cert.DownProjPrompt.τ).loc Cert.DownProjPrompt.main_arg0) = m ((c.tc : Thread Cert.DownProjPrompt.nD Cert.DownProjPrompt.τ).loc Cert.DownProjPrompt.main_arg0)
      ∧ r.2.mem ((c.tc : Thread Cert.DownProjPrompt.nD Cert.DownProjPrompt.τ).loc Cert.DownProjPrompt.main_arg1) = m ((c.tc : Thread Cert.DownProjPrompt.nD Cert.DownProjPrompt.τ).loc Cert.DownProjPrompt.main_arg1)
      ∧ r.2.mem ((c.tc : Thread Cert.DownProjPrompt.nD Cert.DownProjPrompt.τ).loc Cert.DownProjPrompt.main_arg2) = m ((c.tc : Thread Cert.DownProjPrompt.nD Cert.DownProjPrompt.τ).loc Cert.DownProjPrompt.main_arg2)
      ∧ r.2.mem ((c.tc : Thread Cert.DownProjPrompt.nD Cert.DownProjPrompt.τ).loc Cert.DownProjPrompt.main_arg3) = m ((c.tc : Thread Cert.DownProjPrompt.nD Cert.DownProjPrompt.τ).loc Cert.DownProjPrompt.main_arg3)
      ∧ r.2.mem ((c.tc : Thread Cert.DownProjPrompt.nD Cert.DownProjPrompt.τ).loc Cert.DownProjPrompt.main_arg4) = m ((c.tc : Thread Cert.DownProjPrompt.nD Cert.DownProjPrompt.τ).loc Cert.DownProjPrompt.main_arg4)
      ∧ r.2.mem ((c.tc : Thread Cert.DownProjPrompt.nD Cert.DownProjPrompt.τ).loc Cert.DownProjPrompt.main_arg5) = m ((c.tc : Thread Cert.DownProjPrompt.nD Cert.DownProjPrompt.τ).loc Cert.DownProjPrompt.main_arg5))
      ∧ r.2.sem = fun _ => 0)

def quiescent_DownProjPromptIdeal [hDownProjPromptIdeal : Cert.DownProjPromptIdeal.Facts] : Prop :=
  ∀ (m : (ℓ : Loc Cert.DownProjPromptIdeal.nD Cert.DownProjPromptIdeal.τ Cert.DownProjPromptIdeal.sig) → Buf (Elt Ideal) ℓ) (g : Dev Cert.DownProjPromptIdeal.nD → PrngReg), Pre_DownProjPromptIdeal m →
    θ_run (Cert.DownProjPromptIdeal.defs (F := Ideal)) (onTc (τ := Cert.DownProjPromptIdeal.τ) (Cert.DownProjPromptIdeal.main (F := Ideal))) ⟨m, fun _ => 0, g⟩ (fun r => (∀ c : Dev Cert.DownProjPromptIdeal.nD,
      r.2.mem ((c.tc : Thread Cert.DownProjPromptIdeal.nD Cert.DownProjPromptIdeal.τ).loc Cert.DownProjPromptIdeal.main_arg0) = m ((c.tc : Thread Cert.DownProjPromptIdeal.nD Cert.DownProjPromptIdeal.τ).loc Cert.DownProjPromptIdeal.main_arg0)
      ∧ r.2.mem ((c.tc : Thread Cert.DownProjPromptIdeal.nD Cert.DownProjPromptIdeal.τ).loc Cert.DownProjPromptIdeal.main_arg1) = m ((c.tc : Thread Cert.DownProjPromptIdeal.nD Cert.DownProjPromptIdeal.τ).loc Cert.DownProjPromptIdeal.main_arg1)
      ∧ r.2.mem ((c.tc : Thread Cert.DownProjPromptIdeal.nD Cert.DownProjPromptIdeal.τ).loc Cert.DownProjPromptIdeal.main_arg2) = m ((c.tc : Thread Cert.DownProjPromptIdeal.nD Cert.DownProjPromptIdeal.τ).loc Cert.DownProjPromptIdeal.main_arg2)
      ∧ r.2.mem ((c.tc : Thread Cert.DownProjPromptIdeal.nD Cert.DownProjPromptIdeal.τ).loc Cert.DownProjPromptIdeal.main_arg3) = m ((c.tc : Thread Cert.DownProjPromptIdeal.nD Cert.DownProjPromptIdeal.τ).loc Cert.DownProjPromptIdeal.main_arg3)
      ∧ r.2.mem ((c.tc : Thread Cert.DownProjPromptIdeal.nD Cert.DownProjPromptIdeal.τ).loc Cert.DownProjPromptIdeal.main_arg4) = m ((c.tc : Thread Cert.DownProjPromptIdeal.nD Cert.DownProjPromptIdeal.τ).loc Cert.DownProjPromptIdeal.main_arg4)
      ∧ r.2.mem ((c.tc : Thread Cert.DownProjPromptIdeal.nD Cert.DownProjPromptIdeal.τ).loc Cert.DownProjPromptIdeal.main_arg5) = m ((c.tc : Thread Cert.DownProjPromptIdeal.nD Cert.DownProjPromptIdeal.τ).loc Cert.DownProjPromptIdeal.main_arg5))
      ∧ r.2.sem = fun _ => 0)

def quiescent_DownProjPromptRefIdeal [hDownProjPromptRefIdeal : Cert.DownProjPromptRefIdeal.Facts] : Prop :=
  ∀ (m : (ℓ : Loc Cert.DownProjPromptRefIdeal.nD Cert.DownProjPromptRefIdeal.τ Cert.DownProjPromptRefIdeal.sig) → Buf (Elt Ideal) ℓ) (g : Dev Cert.DownProjPromptRefIdeal.nD → PrngReg), Pre_DownProjPromptRefIdeal m →
    θ_run (Cert.DownProjPromptRefIdeal.defs (F := Ideal)) (onTc (τ := Cert.DownProjPromptRefIdeal.τ) (Cert.DownProjPromptRefIdeal.main (F := Ideal))) ⟨m, fun _ => 0, g⟩ (fun r => (∀ c : Dev Cert.DownProjPromptRefIdeal.nD,
      r.2.mem ((c.tc : Thread Cert.DownProjPromptRefIdeal.nD Cert.DownProjPromptRefIdeal.τ).loc Cert.DownProjPromptRefIdeal.main_arg0) = m ((c.tc : Thread Cert.DownProjPromptRefIdeal.nD Cert.DownProjPromptRefIdeal.τ).loc Cert.DownProjPromptRefIdeal.main_arg0)
      ∧ r.2.mem ((c.tc : Thread Cert.DownProjPromptRefIdeal.nD Cert.DownProjPromptRefIdeal.τ).loc Cert.DownProjPromptRefIdeal.main_arg1) = m ((c.tc : Thread Cert.DownProjPromptRefIdeal.nD Cert.DownProjPromptRefIdeal.τ).loc Cert.DownProjPromptRefIdeal.main_arg1)
      ∧ r.2.mem ((c.tc : Thread Cert.DownProjPromptRefIdeal.nD Cert.DownProjPromptRefIdeal.τ).loc Cert.DownProjPromptRefIdeal.main_arg2) = m ((c.tc : Thread Cert.DownProjPromptRefIdeal.nD Cert.DownProjPromptRefIdeal.τ).loc Cert.DownProjPromptRefIdeal.main_arg2)
      ∧ r.2.mem ((c.tc : Thread Cert.DownProjPromptRefIdeal.nD Cert.DownProjPromptRefIdeal.τ).loc Cert.DownProjPromptRefIdeal.main_arg3) = m ((c.tc : Thread Cert.DownProjPromptRefIdeal.nD Cert.DownProjPromptRefIdeal.τ).loc Cert.DownProjPromptRefIdeal.main_arg3)
      ∧ r.2.mem ((c.tc : Thread Cert.DownProjPromptRefIdeal.nD Cert.DownProjPromptRefIdeal.τ).loc Cert.DownProjPromptRefIdeal.main_arg4) = m ((c.tc : Thread Cert.DownProjPromptRefIdeal.nD Cert.DownProjPromptRefIdeal.τ).loc Cert.DownProjPromptRefIdeal.main_arg4)
      ∧ r.2.mem ((c.tc : Thread Cert.DownProjPromptRefIdeal.nD Cert.DownProjPromptRefIdeal.τ).loc Cert.DownProjPromptRefIdeal.main_arg5) = m ((c.tc : Thread Cert.DownProjPromptRefIdeal.nD Cert.DownProjPromptRefIdeal.τ).loc Cert.DownProjPromptRefIdeal.main_arg5))
      ∧ r.2.sem = fun _ => 0)

def quiescent_InProjGlaPrompt [hInProjGlaPrompt : Cert.InProjGlaPrompt.Facts] : Prop :=
  ∀ (m : (ℓ : Loc Cert.InProjGlaPrompt.nD Cert.InProjGlaPrompt.τ Cert.InProjGlaPrompt.sig) → Buf (Elt Bits) ℓ) (g : Dev Cert.InProjGlaPrompt.nD → PrngReg), Pre_InProjGlaPrompt m →
    θ_run (Cert.InProjGlaPrompt.defs (F := Bits)) (onTc (τ := Cert.InProjGlaPrompt.τ) (Cert.InProjGlaPrompt.main (F := Bits))) ⟨m, fun _ => 0, g⟩ (fun r => (∀ c : Dev Cert.InProjGlaPrompt.nD,
      r.2.mem ((c.tc : Thread Cert.InProjGlaPrompt.nD Cert.InProjGlaPrompt.τ).loc Cert.InProjGlaPrompt.main_arg0) = m ((c.tc : Thread Cert.InProjGlaPrompt.nD Cert.InProjGlaPrompt.τ).loc Cert.InProjGlaPrompt.main_arg0)
      ∧ r.2.mem ((c.tc : Thread Cert.InProjGlaPrompt.nD Cert.InProjGlaPrompt.τ).loc Cert.InProjGlaPrompt.main_arg1) = m ((c.tc : Thread Cert.InProjGlaPrompt.nD Cert.InProjGlaPrompt.τ).loc Cert.InProjGlaPrompt.main_arg1))
      ∧ r.2.sem = fun _ => 0)

def quiescent_InProjGlaPromptIdeal [hInProjGlaPromptIdeal : Cert.InProjGlaPromptIdeal.Facts] : Prop :=
  ∀ (m : (ℓ : Loc Cert.InProjGlaPromptIdeal.nD Cert.InProjGlaPromptIdeal.τ Cert.InProjGlaPromptIdeal.sig) → Buf (Elt Ideal) ℓ) (g : Dev Cert.InProjGlaPromptIdeal.nD → PrngReg), Pre_InProjGlaPromptIdeal m →
    θ_run (Cert.InProjGlaPromptIdeal.defs (F := Ideal)) (onTc (τ := Cert.InProjGlaPromptIdeal.τ) (Cert.InProjGlaPromptIdeal.main (F := Ideal))) ⟨m, fun _ => 0, g⟩ (fun r => (∀ c : Dev Cert.InProjGlaPromptIdeal.nD,
      r.2.mem ((c.tc : Thread Cert.InProjGlaPromptIdeal.nD Cert.InProjGlaPromptIdeal.τ).loc Cert.InProjGlaPromptIdeal.main_arg0) = m ((c.tc : Thread Cert.InProjGlaPromptIdeal.nD Cert.InProjGlaPromptIdeal.τ).loc Cert.InProjGlaPromptIdeal.main_arg0)
      ∧ r.2.mem ((c.tc : Thread Cert.InProjGlaPromptIdeal.nD Cert.InProjGlaPromptIdeal.τ).loc Cert.InProjGlaPromptIdeal.main_arg1) = m ((c.tc : Thread Cert.InProjGlaPromptIdeal.nD Cert.InProjGlaPromptIdeal.τ).loc Cert.InProjGlaPromptIdeal.main_arg1))
      ∧ r.2.sem = fun _ => 0)

def quiescent_InProjGlaPromptRefIdeal [hInProjGlaPromptRefIdeal : Cert.InProjGlaPromptRefIdeal.Facts] : Prop :=
  ∀ (m : (ℓ : Loc Cert.InProjGlaPromptRefIdeal.nD Cert.InProjGlaPromptRefIdeal.τ Cert.InProjGlaPromptRefIdeal.sig) → Buf (Elt Ideal) ℓ) (g : Dev Cert.InProjGlaPromptRefIdeal.nD → PrngReg), Pre_InProjGlaPromptRefIdeal m →
    θ_run (Cert.InProjGlaPromptRefIdeal.defs (F := Ideal)) (onTc (τ := Cert.InProjGlaPromptRefIdeal.τ) (Cert.InProjGlaPromptRefIdeal.main (F := Ideal))) ⟨m, fun _ => 0, g⟩ (fun r => (∀ c : Dev Cert.InProjGlaPromptRefIdeal.nD,
      r.2.mem ((c.tc : Thread Cert.InProjGlaPromptRefIdeal.nD Cert.InProjGlaPromptRefIdeal.τ).loc Cert.InProjGlaPromptRefIdeal.main_arg0) = m ((c.tc : Thread Cert.InProjGlaPromptRefIdeal.nD Cert.InProjGlaPromptRefIdeal.τ).loc Cert.InProjGlaPromptRefIdeal.main_arg0)
      ∧ r.2.mem ((c.tc : Thread Cert.InProjGlaPromptRefIdeal.nD Cert.InProjGlaPromptRefIdeal.τ).loc Cert.InProjGlaPromptRefIdeal.main_arg1) = m ((c.tc : Thread Cert.InProjGlaPromptRefIdeal.nD Cert.InProjGlaPromptRefIdeal.τ).loc Cert.InProjGlaPromptRefIdeal.main_arg1))
      ∧ r.2.sem = fun _ => 0)

def quiescent_OutProjPrompt [hOutProjPrompt : Cert.OutProjPrompt.Facts] : Prop :=
  ∀ (m : (ℓ : Loc Cert.OutProjPrompt.nD Cert.OutProjPrompt.τ Cert.OutProjPrompt.sig) → Buf (Elt Bits) ℓ) (g : Dev Cert.OutProjPrompt.nD → PrngReg), Pre_OutProjPrompt m →
    θ_run (Cert.OutProjPrompt.defs (F := Bits)) (onTc (τ := Cert.OutProjPrompt.τ) (Cert.OutProjPrompt.main (F := Bits))) ⟨m, fun _ => 0, g⟩ (fun r => (∀ c : Dev Cert.OutProjPrompt.nD,
      r.2.mem ((c.tc : Thread Cert.OutProjPrompt.nD Cert.OutProjPrompt.τ).loc Cert.OutProjPrompt.main_arg0) = m ((c.tc : Thread Cert.OutProjPrompt.nD Cert.OutProjPrompt.τ).loc Cert.OutProjPrompt.main_arg0)
      ∧ r.2.mem ((c.tc : Thread Cert.OutProjPrompt.nD Cert.OutProjPrompt.τ).loc Cert.OutProjPrompt.main_arg1) = m ((c.tc : Thread Cert.OutProjPrompt.nD Cert.OutProjPrompt.τ).loc Cert.OutProjPrompt.main_arg1)
      ∧ r.2.mem ((c.tc : Thread Cert.OutProjPrompt.nD Cert.OutProjPrompt.τ).loc Cert.OutProjPrompt.main_arg2) = m ((c.tc : Thread Cert.OutProjPrompt.nD Cert.OutProjPrompt.τ).loc Cert.OutProjPrompt.main_arg2)
      ∧ r.2.mem ((c.tc : Thread Cert.OutProjPrompt.nD Cert.OutProjPrompt.τ).loc Cert.OutProjPrompt.main_arg3) = m ((c.tc : Thread Cert.OutProjPrompt.nD Cert.OutProjPrompt.τ).loc Cert.OutProjPrompt.main_arg3)
      ∧ r.2.mem ((c.tc : Thread Cert.OutProjPrompt.nD Cert.OutProjPrompt.τ).loc Cert.OutProjPrompt.main_arg4) = m ((c.tc : Thread Cert.OutProjPrompt.nD Cert.OutProjPrompt.τ).loc Cert.OutProjPrompt.main_arg4))
      ∧ r.2.sem = fun _ => 0)

def quiescent_OutProjPromptIdeal [hOutProjPromptIdeal : Cert.OutProjPromptIdeal.Facts] : Prop :=
  ∀ (m : (ℓ : Loc Cert.OutProjPromptIdeal.nD Cert.OutProjPromptIdeal.τ Cert.OutProjPromptIdeal.sig) → Buf (Elt Ideal) ℓ) (g : Dev Cert.OutProjPromptIdeal.nD → PrngReg), Pre_OutProjPromptIdeal m →
    θ_run (Cert.OutProjPromptIdeal.defs (F := Ideal)) (onTc (τ := Cert.OutProjPromptIdeal.τ) (Cert.OutProjPromptIdeal.main (F := Ideal))) ⟨m, fun _ => 0, g⟩ (fun r => (∀ c : Dev Cert.OutProjPromptIdeal.nD,
      r.2.mem ((c.tc : Thread Cert.OutProjPromptIdeal.nD Cert.OutProjPromptIdeal.τ).loc Cert.OutProjPromptIdeal.main_arg0) = m ((c.tc : Thread Cert.OutProjPromptIdeal.nD Cert.OutProjPromptIdeal.τ).loc Cert.OutProjPromptIdeal.main_arg0)
      ∧ r.2.mem ((c.tc : Thread Cert.OutProjPromptIdeal.nD Cert.OutProjPromptIdeal.τ).loc Cert.OutProjPromptIdeal.main_arg1) = m ((c.tc : Thread Cert.OutProjPromptIdeal.nD Cert.OutProjPromptIdeal.τ).loc Cert.OutProjPromptIdeal.main_arg1)
      ∧ r.2.mem ((c.tc : Thread Cert.OutProjPromptIdeal.nD Cert.OutProjPromptIdeal.τ).loc Cert.OutProjPromptIdeal.main_arg2) = m ((c.tc : Thread Cert.OutProjPromptIdeal.nD Cert.OutProjPromptIdeal.τ).loc Cert.OutProjPromptIdeal.main_arg2)
      ∧ r.2.mem ((c.tc : Thread Cert.OutProjPromptIdeal.nD Cert.OutProjPromptIdeal.τ).loc Cert.OutProjPromptIdeal.main_arg3) = m ((c.tc : Thread Cert.OutProjPromptIdeal.nD Cert.OutProjPromptIdeal.τ).loc Cert.OutProjPromptIdeal.main_arg3)
      ∧ r.2.mem ((c.tc : Thread Cert.OutProjPromptIdeal.nD Cert.OutProjPromptIdeal.τ).loc Cert.OutProjPromptIdeal.main_arg4) = m ((c.tc : Thread Cert.OutProjPromptIdeal.nD Cert.OutProjPromptIdeal.τ).loc Cert.OutProjPromptIdeal.main_arg4))
      ∧ r.2.sem = fun _ => 0)

def quiescent_OutProjPromptRefIdeal [hOutProjPromptRefIdeal : Cert.OutProjPromptRefIdeal.Facts] : Prop :=
  ∀ (m : (ℓ : Loc Cert.OutProjPromptRefIdeal.nD Cert.OutProjPromptRefIdeal.τ Cert.OutProjPromptRefIdeal.sig) → Buf (Elt Ideal) ℓ) (g : Dev Cert.OutProjPromptRefIdeal.nD → PrngReg), Pre_OutProjPromptRefIdeal m →
    θ_run (Cert.OutProjPromptRefIdeal.defs (F := Ideal)) (onTc (τ := Cert.OutProjPromptRefIdeal.τ) (Cert.OutProjPromptRefIdeal.main (F := Ideal))) ⟨m, fun _ => 0, g⟩ (fun r => (∀ c : Dev Cert.OutProjPromptRefIdeal.nD,
      r.2.mem ((c.tc : Thread Cert.OutProjPromptRefIdeal.nD Cert.OutProjPromptRefIdeal.τ).loc Cert.OutProjPromptRefIdeal.main_arg0) = m ((c.tc : Thread Cert.OutProjPromptRefIdeal.nD Cert.OutProjPromptRefIdeal.τ).loc Cert.OutProjPromptRefIdeal.main_arg0)
      ∧ r.2.mem ((c.tc : Thread Cert.OutProjPromptRefIdeal.nD Cert.OutProjPromptRefIdeal.τ).loc Cert.OutProjPromptRefIdeal.main_arg1) = m ((c.tc : Thread Cert.OutProjPromptRefIdeal.nD Cert.OutProjPromptRefIdeal.τ).loc Cert.OutProjPromptRefIdeal.main_arg1)
      ∧ r.2.mem ((c.tc : Thread Cert.OutProjPromptRefIdeal.nD Cert.OutProjPromptRefIdeal.τ).loc Cert.OutProjPromptRefIdeal.main_arg2) = m ((c.tc : Thread Cert.OutProjPromptRefIdeal.nD Cert.OutProjPromptRefIdeal.τ).loc Cert.OutProjPromptRefIdeal.main_arg2)
      ∧ r.2.mem ((c.tc : Thread Cert.OutProjPromptRefIdeal.nD Cert.OutProjPromptRefIdeal.τ).loc Cert.OutProjPromptRefIdeal.main_arg3) = m ((c.tc : Thread Cert.OutProjPromptRefIdeal.nD Cert.OutProjPromptRefIdeal.τ).loc Cert.OutProjPromptRefIdeal.main_arg3)
      ∧ r.2.mem ((c.tc : Thread Cert.OutProjPromptRefIdeal.nD Cert.OutProjPromptRefIdeal.τ).loc Cert.OutProjPromptRefIdeal.main_arg4) = m ((c.tc : Thread Cert.OutProjPromptRefIdeal.nD Cert.OutProjPromptRefIdeal.τ).loc Cert.OutProjPromptRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v1_0)) (v1 : (c : Dev Cert.MlpUpIdeal.nD) → Buf (Elt Ideal) ((c.tc : Thread Cert.MlpUpIdeal.nD Cert.MlpUpIdeal.τ).loc Cert.MlpUpIdeal.main_v1_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v1_0) = v0 c
          ∧ r.2.mem ((c.tc : Thread Cert.MlpUpIdeal.nD Cert.MlpUpIdeal.τ).loc Cert.MlpUpIdeal.main_v1_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_v7) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)
      ∧ m' ((c.tc : Thread Cert.DownProjRefIdeal.nD Cert.DownProjRefIdeal.τ).loc Cert.DownProjRefIdeal.main_arg4) = m ((c.tc : Thread Cert.DownProjIdeal.nD Cert.DownProjIdeal.τ).loc Cert.DownProjIdeal.main_arg4)
      ∧ m' ((c.tc : Thread Cert.DownProjRefIdeal.nD Cert.DownProjRefIdeal.τ).loc Cert.DownProjRefIdeal.main_arg5) = m ((c.tc : Thread Cert.DownProjIdeal.nD Cert.DownProjIdeal.τ).loc Cert.DownProjIdeal.main_arg5)) →
    ∃ (v0 : (c : Dev Cert.DownProjIdeal.nD) → Buf (Elt Ideal) ((c.tc : Thread Cert.DownProjIdeal.nD Cert.DownProjIdeal.τ).loc Cert.DownProjIdeal.main_v5_0)) (v1 : (c : Dev Cert.DownProjIdeal.nD) → Buf (Elt Ideal) ((c.tc : Thread Cert.DownProjIdeal.nD Cert.DownProjIdeal.τ).loc Cert.DownProjIdeal.main_v5_1)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v5_0) = v0 c
          ∧ r.2.mem ((c.tc : Thread Cert.DownProjIdeal.nD Cert.DownProjIdeal.τ).loc Cert.DownProjIdeal.main_v5_1) = v1 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4)
          ∧ r.2.mem ((c.tc : Thread Cert.DownProjIdeal.nD Cert.DownProjIdeal.τ).loc Cert.DownProjIdeal.main_arg5) = m ((c.tc : Thread Cert.DownProjIdeal.nD Cert.DownProjIdeal.τ).loc Cert.DownProjIdeal.main_arg5))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v19) = v0 c
          ∧ r.2.mem ((c.tc : Thread Cert.DownProjRefIdeal.nD Cert.DownProjRefIdeal.τ).loc Cert.DownProjRefIdeal.main_v21) = v1 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3)
          ∧ r.2.mem ((c.tc : Thread Cert.DownProjRefIdeal.nD Cert.DownProjRefIdeal.τ).loc Cert.DownProjRefIdeal.main_arg4) = m' ((c.tc : Thread Cert.DownProjRefIdeal.nD Cert.DownProjRefIdeal.τ).loc Cert.DownProjRefIdeal.main_arg4)
          ∧ r.2.mem ((c.tc : Thread Cert.DownProjRefIdeal.nD Cert.DownProjRefIdeal.τ).loc Cert.DownProjRefIdeal.main_arg5) = m' ((c.tc : Thread Cert.DownProjRefIdeal.nD Cert.DownProjRefIdeal.τ).loc Cert.DownProjRefIdeal.main_arg5))

def preserves_InProjGla_InProjGlaIdeal : Prop :=
  True

def algebraic_InProjGlaIdeal_InProjGlaRefIdeal [hInProjGlaIdeal : Cert.InProjGlaIdeal.Facts] [hInProjGlaRefIdeal : Cert.InProjGlaRefIdeal.Facts] : Prop :=
  ∀ (m : (ℓ : Loc Cert.InProjGlaIdeal.nD Cert.InProjGlaIdeal.τ Cert.InProjGlaIdeal.sig) → Buf (Elt Ideal) ℓ) (g : Dev Cert.InProjGlaIdeal.nD → PrngReg)
    (m' : (ℓ : Loc Cert.InProjGlaRefIdeal.nD Cert.InProjGlaRefIdeal.τ Cert.InProjGlaRefIdeal.sig) → Buf (Elt Ideal) ℓ) (g' : Dev Cert.InProjGlaRefIdeal.nD → PrngReg), Pre_InProjGlaIdeal m →
    (∀ c : Dev Cert.InProjGlaIdeal.nD,
      m' ((c.tc : Thread Cert.InProjGlaRefIdeal.nD Cert.InProjGlaRefIdeal.τ).loc Cert.InProjGlaRefIdeal.main_arg0) = m ((c.tc : Thread Cert.InProjGlaIdeal.nD Cert.InProjGlaIdeal.τ).loc Cert.InProjGlaIdeal.main_arg0)
      ∧ m' ((c.tc : Thread Cert.InProjGlaRefIdeal.nD Cert.InProjGlaRefIdeal.τ).loc Cert.InProjGlaRefIdeal.main_arg1) = m ((c.tc : Thread Cert.InProjGlaIdeal.nD Cert.InProjGlaIdeal.τ).loc Cert.InProjGlaIdeal.main_arg1)
      ∧ m' ((c.tc : Thread Cert.InProjGlaRefIdeal.nD Cert.InProjGlaRefIdeal.τ).loc Cert.InProjGlaRefIdeal.main_arg2) = m ((c.tc : Thread Cert.InProjGlaIdeal.nD Cert.InProjGlaIdeal.τ).loc Cert.InProjGlaIdeal.main_arg2)) →
    ∃ (v0 : (c : Dev Cert.InProjGlaIdeal.nD) → Buf (Elt Ideal) ((c.tc : Thread Cert.InProjGlaIdeal.nD Cert.InProjGlaIdeal.τ).loc Cert.InProjGlaIdeal.main_v6_0)) (v1 : (c : Dev Cert.InProjGlaIdeal.nD) → Buf (Elt Ideal) ((c.tc : Thread Cert.InProjGlaIdeal.nD Cert.InProjGlaIdeal.τ).loc Cert.InProjGlaIdeal.main_v6_1)),
      θ_run (Cert.InProjGlaIdeal.defs (F := Ideal)) (onTc (τ := Cert.InProjGlaIdeal.τ) (Cert.InProjGlaIdeal.main (F := Ideal))) ⟨m, fun _ => 0, g⟩ (fun r => ∀ c : Dev Cert.InProjGlaIdeal.nD,
          r.2.mem ((c.tc : Thread Cert.InProjGlaIdeal.nD Cert.InProjGlaIdeal.τ).loc Cert.InProjGlaIdeal.main_v6_0) = v0 c
          ∧ r.2.mem ((c.tc : Thread Cert.InProjGlaIdeal.nD Cert.InProjGlaIdeal.τ).loc Cert.InProjGlaIdeal.main_v6_1) = v1 c
          ∧ r.2.mem ((c.tc : Thread Cert.InProjGlaIdeal.nD Cert.InProjGlaIdeal.τ).loc Cert.InProjGlaIdeal.main_arg0) = m ((c.tc : Thread Cert.InProjGlaIdeal.nD Cert.InProjGlaIdeal.τ).loc Cert.InProjGlaIdeal.main_arg0)
          ∧ r.2.mem ((c.tc : Thread Cert.InProjGlaIdeal.nD Cert.InProjGlaIdeal.τ).loc Cert.InProjGlaIdeal.main_arg1) = m ((c.tc : Thread Cert.InProjGlaIdeal.nD Cert.InProjGlaIdeal.τ).loc Cert.InProjGlaIdeal.main_arg1)
          ∧ r.2.mem ((c.tc : Thread Cert.InProjGlaIdeal.nD Cert.InProjGlaIdeal.τ).loc Cert.InProjGlaIdeal.main_arg2) = m ((c.tc : Thread Cert.InProjGlaIdeal.nD Cert.InProjGlaIdeal.τ).loc Cert.InProjGlaIdeal.main_arg2))
      ∧ θ_run (Cert.InProjGlaRefIdeal.defs (F := Ideal)) (onTc (τ := Cert.InProjGlaRefIdeal.τ) (Cert.InProjGlaRefIdeal.main (F := Ideal))) ⟨m', fun _ => 0, g'⟩ (fun r => ∀ c : Dev Cert.InProjGlaRefIdeal.nD,
          r.2.mem ((c.tc : Thread Cert.InProjGlaRefIdeal.nD Cert.InProjGlaRefIdeal.τ).loc Cert.InProjGlaRefIdeal.main_v5) = v0 c
          ∧ r.2.mem ((c.tc : Thread Cert.InProjGlaRefIdeal.nD Cert.InProjGlaRefIdeal.τ).loc Cert.InProjGlaRefIdeal.main_v7) = v1 c
          ∧ r.2.mem ((c.tc : Thread Cert.InProjGlaRefIdeal.nD Cert.InProjGlaRefIdeal.τ).loc Cert.InProjGlaRefIdeal.main_arg0) = m' ((c.tc : Thread Cert.InProjGlaRefIdeal.nD Cert.InProjGlaRefIdeal.τ).loc Cert.InProjGlaRefIdeal.main_arg0)
          ∧ r.2.mem ((c.tc : Thread Cert.InProjGlaRefIdeal.nD Cert.InProjGlaRefIdeal.τ).loc Cert.InProjGlaRefIdeal.main_arg1) = m' ((c.tc : Thread Cert.InProjGlaRefIdeal.nD Cert.InProjGlaRefIdeal.τ).loc Cert.InProjGlaRefIdeal.main_arg1)
          ∧ r.2.mem ((c.tc : Thread Cert.InProjGlaRefIdeal.nD Cert.InProjGlaRefIdeal.τ).loc Cert.InProjGlaRefIdeal.main_arg2) = m' ((c.tc : Thread Cert.InProjGlaRefIdeal.nD Cert.InProjGlaRefIdeal.τ).loc Cert.InProjGlaRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_v10) = v1 c
          ∧ r.2.mem ((c.tc : Thread Cert.OutProjRefIdeal.nD Cert.OutProjRefIdeal.τ).loc Cert.OutProjRefIdeal.main_v13) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_NormStats_NormStatsIdeal : Prop :=
  True

def algebraic_NormStatsIdeal_NormStatsRefIdeal [hNormStatsIdeal : Cert.NormStatsIdeal.Facts] [hNormStatsRefIdeal : Cert.NormStatsRefIdeal.Facts] : Prop :=
  ∀ (m : (ℓ : Loc Cert.NormStatsIdeal.nD Cert.NormStatsIdeal.τ Cert.NormStatsIdeal.sig) → Buf (Elt Ideal) ℓ) (g : Dev Cert.NormStatsIdeal.nD → PrngReg)
    (m' : (ℓ : Loc Cert.NormStatsRefIdeal.nD Cert.NormStatsRefIdeal.τ Cert.NormStatsRefIdeal.sig) → Buf (Elt Ideal) ℓ) (g' : Dev Cert.NormStatsRefIdeal.nD → PrngReg), Pre_NormStatsIdeal m →
    (∀ c : Dev Cert.NormStatsIdeal.nD,
      m' ((c.tc : Thread Cert.NormStatsRefIdeal.nD Cert.NormStatsRefIdeal.τ).loc Cert.NormStatsRefIdeal.main_arg0) = m ((c.tc : Thread Cert.NormStatsIdeal.nD Cert.NormStatsIdeal.τ).loc Cert.NormStatsIdeal.main_arg0)
      ∧ m' ((c.tc : Thread Cert.NormStatsRefIdeal.nD Cert.NormStatsRefIdeal.τ).loc Cert.NormStatsRefIdeal.main_arg1) = m ((c.tc : Thread Cert.NormStatsIdeal.nD Cert.NormStatsIdeal.τ).loc Cert.NormStatsIdeal.main_arg1)
      ∧ m' ((c.tc : Thread Cert.NormStatsRefIdeal.nD Cert.NormStatsRefIdeal.τ).loc Cert.NormStatsRefIdeal.main_arg2) = m ((c.tc : Thread Cert.NormStatsIdeal.nD Cert.NormStatsIdeal.τ).loc Cert.NormStatsIdeal.main_arg2)) →
    ∃ (v0 : (c : Dev Cert.NormStatsIdeal.nD) → Buf (Elt Ideal) ((c.tc : Thread Cert.NormStatsIdeal.nD Cert.NormStatsIdeal.τ).loc Cert.NormStatsIdeal.main_v4_0)) (v1 : (c : Dev Cert.NormStatsIdeal.nD) → Buf (Elt Ideal) ((c.tc : Thread Cert.NormStatsIdeal.nD Cert.NormStatsIdeal.τ).loc Cert.NormStatsIdeal.main_v4_1)),
      θ_run (Cert.NormStatsIdeal.defs (F := Ideal)) (onTc (τ := Cert.NormStatsIdeal.τ) (Cert.NormStatsIdeal.main (F := Ideal))) ⟨m, fun _ => 0, g⟩ (fun r => ∀ c : Dev Cert.NormStatsIdeal.nD,
          r.2.mem ((c.tc : Thread Cert.NormStatsIdeal.nD Cert.NormStatsIdeal.τ).loc Cert.NormStatsIdeal.main_v4_0) = v0 c
          ∧ r.2.mem ((c.tc : Thread Cert.NormStatsIdeal.nD Cert.NormStatsIdeal.τ).loc Cert.NormStatsIdeal.main_v4_1) = v1 c
          ∧ r.2.mem ((c.tc : Thread Cert.NormStatsIdeal.nD Cert.NormStatsIdeal.τ).loc Cert.NormStatsIdeal.main_arg0) = m ((c.tc : Thread Cert.NormStatsIdeal.nD Cert.NormStatsIdeal.τ).loc Cert.NormStatsIdeal.main_arg0)
          ∧ r.2.mem ((c.tc : Thread Cert.NormStatsIdeal.nD Cert.NormStatsIdeal.τ).loc Cert.NormStatsIdeal.main_arg1) = m ((c.tc : Thread Cert.NormStatsIdeal.nD Cert.NormStatsIdeal.τ).loc Cert.NormStatsIdeal.main_arg1)
          ∧ r.2.mem ((c.tc : Thread Cert.NormStatsIdeal.nD Cert.NormStatsIdeal.τ).loc Cert.NormStatsIdeal.main_arg2) = m ((c.tc : Thread Cert.NormStatsIdeal.nD Cert.NormStatsIdeal.τ).loc Cert.NormStatsIdeal.main_arg2))
      ∧ θ_run (Cert.NormStatsRefIdeal.defs (F := Ideal)) (onTc (τ := Cert.NormStatsRefIdeal.τ) (Cert.NormStatsRefIdeal.main (F := Ideal))) ⟨m', fun _ => 0, g'⟩ (fun r => ∀ c : Dev Cert.NormStatsRefIdeal.nD,
          r.2.mem ((c.tc : Thread Cert.NormStatsRefIdeal.nD Cert.NormStatsRefIdeal.τ).loc Cert.NormStatsRefIdeal.main_v26) = v0 c
          ∧ r.2.mem ((c.tc : Thread Cert.NormStatsRefIdeal.nD Cert.NormStatsRefIdeal.τ).loc Cert.NormStatsRefIdeal.main_v28) = v1 c
          ∧ r.2.mem ((c.tc : Thread Cert.NormStatsRefIdeal.nD Cert.NormStatsRefIdeal.τ).loc Cert.NormStatsRefIdeal.main_arg0) = m' ((c.tc : Thread Cert.NormStatsRefIdeal.nD Cert.NormStatsRefIdeal.τ).loc Cert.NormStatsRefIdeal.main_arg0)
          ∧ r.2.mem ((c.tc : Thread Cert.NormStatsRefIdeal.nD Cert.NormStatsRefIdeal.τ).loc Cert.NormStatsRefIdeal.main_arg1) = m' ((c.tc : Thread Cert.NormStatsRefIdeal.nD Cert.NormStatsRefIdeal.τ).loc Cert.NormStatsRefIdeal.main_arg1)
          ∧ r.2.mem ((c.tc : Thread Cert.NormStatsRefIdeal.nD Cert.NormStatsRefIdeal.τ).loc Cert.NormStatsRefIdeal.main_arg2) = m' ((c.tc : Thread Cert.NormStatsRefIdeal.nD Cert.NormStatsRefIdeal.τ).loc Cert.NormStatsRefIdeal.main_arg2))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)
      ∧ m' ((c.tc : Thread Cert.NormSampleRefIdeal.nD Cert.NormSampleRefIdeal.τ).loc Cert.NormSampleRefIdeal.main_arg2) = m ((c.tc : Thread Cert.NormSampleIdeal.nD Cert.NormSampleIdeal.τ).loc Cert.NormSampleIdeal.main_arg2)) →
    ∃ (v0 : (c : Dev Cert.NormSampleIdeal.nD) → Buf (Elt Ideal) ((c.tc : Thread Cert.NormSampleIdeal.nD Cert.NormSampleIdeal.τ).loc Cert.NormSampleIdeal.main_v4)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v4) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
          ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v25) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1)
          ∧ r.2.mem ((c.tc : Thread Cert.NormSampleRefIdeal.nD Cert.NormSampleRefIdeal.τ).loc Cert.NormSampleRefIdeal.main_arg2) = m' ((c.tc : Thread Cert.NormSampleRefIdeal.nD Cert.NormSampleRefIdeal.τ).loc Cert.NormSampleRefIdeal.main_arg2))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)
      ∧ m' ((c.tc : Thread Cert.NormPromptRefIdeal.nD Cert.NormPromptRefIdeal.τ).loc Cert.NormPromptRefIdeal.main_arg2) = m ((c.tc : Thread Cert.NormPromptIdeal.nD Cert.NormPromptIdeal.τ).loc Cert.NormPromptIdeal.main_arg2)) →
    ∃ (v0 : (c : Dev Cert.NormPromptIdeal.nD) → Buf (Elt Ideal) ((c.tc : Thread Cert.NormPromptIdeal.nD Cert.NormPromptIdeal.τ).loc Cert.NormPromptIdeal.main_v4)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v4) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1)
          ∧ r.2.mem ((c.tc : Thread Cert.NormPromptIdeal.nD Cert.NormPromptIdeal.τ).loc Cert.NormPromptIdeal.main_arg2) = m ((c.tc : Thread Cert.NormPromptIdeal.nD Cert.NormPromptIdeal.τ).loc Cert.NormPromptIdeal.main_arg2))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v25) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1)
          ∧ r.2.mem ((c.tc : Thread Cert.NormPromptRefIdeal.nD Cert.NormPromptRefIdeal.τ).loc Cert.NormPromptRefIdeal.main_arg2) = m' ((c.tc : Thread Cert.NormPromptRefIdeal.nD Cert.NormPromptRefIdeal.τ).loc Cert.NormPromptRefIdeal.main_arg2))

def preserves_InProjSsdPrompt_InProjSsdPromptIdeal : Prop :=
  True

def algebraic_InProjSsdPromptIdeal_InProjSsdPromptRefIdeal [hInProjSsdPromptIdeal : Cert.InProjSsdPromptIdeal.Facts] [hInProjSsdPromptRefIdeal : Cert.InProjSsdPromptRefIdeal.Facts] : Prop :=
  ∀ (m : (ℓ : Loc Cert.InProjSsdPromptIdeal.nD Cert.InProjSsdPromptIdeal.τ Cert.InProjSsdPromptIdeal.sig) → Buf (Elt Ideal) ℓ) (g : Dev Cert.InProjSsdPromptIdeal.nD → PrngReg)
    (m' : (ℓ : Loc Cert.InProjSsdPromptRefIdeal.nD Cert.InProjSsdPromptRefIdeal.τ Cert.InProjSsdPromptRefIdeal.sig) → Buf (Elt Ideal) ℓ) (g' : Dev Cert.InProjSsdPromptRefIdeal.nD → PrngReg), Pre_InProjSsdPromptIdeal m →
    (∀ c : Dev Cert.InProjSsdPromptIdeal.nD,
      m' ((c.tc : Thread Cert.InProjSsdPromptRefIdeal.nD Cert.InProjSsdPromptRefIdeal.τ).loc Cert.InProjSsdPromptRefIdeal.main_arg0) = m ((c.tc : Thread Cert.InProjSsdPromptIdeal.nD Cert.InProjSsdPromptIdeal.τ).loc Cert.InProjSsdPromptIdeal.main_arg0)
      ∧ m' ((c.tc : Thread Cert.InProjSsdPromptRefIdeal.nD Cert.InProjSsdPromptRefIdeal.τ).loc Cert.InProjSsdPromptRefIdeal.main_arg1) = m ((c.tc : Thread Cert.InProjSsdPromptIdeal.nD Cert.InProjSsdPromptIdeal.τ).loc Cert.InProjSsdPromptIdeal.main_arg1)) →
    ∃ (v0 : (c : Dev Cert.InProjSsdPromptIdeal.nD) → Buf (Elt Ideal) ((c.tc : Thread Cert.InProjSsdPromptIdeal.nD Cert.InProjSsdPromptIdeal.τ).loc Cert.InProjSsdPromptIdeal.main_v2)),
      θ_run (Cert.InProjSsdPromptIdeal.defs (F := Ideal)) (onTc (τ := Cert.InProjSsdPromptIdeal.τ) (Cert.InProjSsdPromptIdeal.main (F := Ideal))) ⟨m, fun _ => 0, g⟩ (fun r => ∀ c : Dev Cert.InProjSsdPromptIdeal.nD,
          r.2.mem ((c.tc : Thread Cert.InProjSsdPromptIdeal.nD Cert.InProjSsdPromptIdeal.τ).loc Cert.InProjSsdPromptIdeal.main_v2) = v0 c
          ∧ r.2.mem ((c.tc : Thread Cert.InProjSsdPromptIdeal.nD Cert.InProjSsdPromptIdeal.τ).loc Cert.InProjSsdPromptIdeal.main_arg0) = m ((c.tc : Thread Cert.InProjSsdPromptIdeal.nD Cert.InProjSsdPromptIdeal.τ).loc Cert.InProjSsdPromptIdeal.main_arg0)
          ∧ r.2.mem ((c.tc : Thread Cert.InProjSsdPromptIdeal.nD Cert.InProjSsdPromptIdeal.τ).loc Cert.InProjSsdPromptIdeal.main_arg1) = m ((c.tc : Thread Cert.InProjSsdPromptIdeal.nD Cert.InProjSsdPromptIdeal.τ).loc Cert.InProjSsdPromptIdeal.main_arg1))
      ∧ θ_run (Cert.InProjSsdPromptRefIdeal.defs (F := Ideal)) (onTc (τ := Cert.InProjSsdPromptRefIdeal.τ) (Cert.InProjSsdPromptRefIdeal.main (F := Ideal))) ⟨m', fun _ => 0, g'⟩ (fun r => ∀ c : Dev Cert.InProjSsdPromptRefIdeal.nD,
          r.2.mem ((c.tc : Thread Cert.InProjSsdPromptRefIdeal.nD Cert.InProjSsdPromptRefIdeal.τ).loc Cert.InProjSsdPromptRefIdeal.main_v3) = v0 c
          ∧ r.2.mem ((c.tc : Thread Cert.InProjSsdPromptRefIdeal.nD Cert.InProjSsdPromptRefIdeal.τ).loc Cert.InProjSsdPromptRefIdeal.main_arg0) = m' ((c.tc : Thread Cert.InProjSsdPromptRefIdeal.nD Cert.InProjSsdPromptRefIdeal.τ).loc Cert.InProjSsdPromptRefIdeal.main_arg0)
          ∧ r.2.mem ((c.tc : Thread Cert.InProjSsdPromptRefIdeal.nD Cert.InProjSsdPromptRefIdeal.τ).loc Cert.InProjSsdPromptRefIdeal.main_arg1) = m' ((c.tc : Thread Cert.InProjSsdPromptRefIdeal.nD Cert.InProjSsdPromptRefIdeal.τ).loc Cert.InProjSsdPromptRefIdeal.main_arg1))

def preserves_Mixers_MixersIdeal : Prop :=
  True

def algebraic_MixersIdeal_MixersRefIdeal [hMixersIdeal : Cert.MixersIdeal.Facts] [hMixersRefIdeal : Cert.MixersRefIdeal.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.MixersRefIdeal.nD Cert.MixersRefIdeal.τ Cert.MixersRefIdeal.sig) → Buf (Elt Ideal) ℓ) (g' : Dev Cert.MixersRefIdeal.nD → PrngReg), Pre_MixersIdeal m →
    (∀ c : Dev Cert.MixersIdeal.nD,
      m' ((c.tc : Thread Cert.MixersRefIdeal.nD Cert.MixersRefIdeal.τ).loc Cert.MixersRefIdeal.main_arg0) = m ((c.tc : Thread Cert.MixersIdeal.nD Cert.MixersIdeal.τ).loc Cert.MixersIdeal.main_arg0)
      ∧ m' ((c.tc : Thread Cert.MixersRefIdeal.nD Cert.MixersRefIdeal.τ).loc Cert.MixersRefIdeal.main_arg1) = m ((c.tc : Thread Cert.MixersIdeal.nD Cert.MixersIdeal.τ).loc Cert.MixersIdeal.main_arg1)
      ∧ m' ((c.tc : Thread Cert.MixersRefIdeal.nD Cert.MixersRefIdeal.τ).loc Cert.MixersRefIdeal.main_arg2) = m ((c.tc : Thread Cert.MixersIdeal.nD Cert.MixersIdeal.τ).loc Cert.MixersIdeal.main_arg2)
      ∧ m' ((c.tc : Thread Cert.MixersRefIdeal.nD Cert.MixersRefIdeal.τ).loc Cert.MixersRefIdeal.main_arg3) = m ((c.tc : Thread Cert.MixersIdeal.nD Cert.MixersIdeal.τ).loc Cert.MixersIdeal.main_arg3)
      ∧ m' ((c.tc : Thread Cert.MixersRefIdeal.nD Cert.MixersRefIdeal.τ).loc Cert.MixersRefIdeal.main_arg4) = m ((c.tc : Thread Cert.MixersIdeal.nD Cert.MixersIdeal.τ).loc Cert.MixersIdeal.main_arg4)
      ∧ m' ((c.tc : Thread Cert.MixersRefIdeal.nD Cert.MixersRefIdeal.τ).loc Cert.MixersRefIdeal.main_arg5) = m ((c.tc : Thread Cert.MixersIdeal.nD Cert.MixersIdeal.τ).loc Cert.MixersIdeal.main_arg5)
      ∧ m' ((c.tc : Thread Cert.MixersRefIdeal.nD Cert.MixersRefIdeal.τ).loc Cert.MixersRefIdeal.main_arg6) = m ((c.tc : Thread Cert.MixersIdeal.nD Cert.MixersIdeal.τ).loc Cert.MixersIdeal.main_arg6)
      ∧ m' ((c.tc : Thread Cert.MixersRefIdeal.nD Cert.MixersRefIdeal.τ).loc Cert.MixersRefIdeal.main_arg7) = m ((c.tc : Thread Cert.MixersIdeal.nD Cert.MixersIdeal.τ).loc Cert.MixersIdeal.main_arg7)
      ∧ m' ((c.tc : Thread Cert.MixersRefIdeal.nD Cert.MixersRefIdeal.τ).loc Cert.MixersRefIdeal.main_arg8) = m ((c.tc : Thread Cert.MixersIdeal.nD Cert.MixersIdeal.τ).loc Cert.MixersIdeal.main_arg8)
      ∧ m' ((c.tc : Thread Cert.MixersRefIdeal.nD Cert.MixersRefIdeal.τ).loc Cert.MixersRefIdeal.main_arg9) = m ((c.tc : Thread Cert.MixersIdeal.nD Cert.MixersIdeal.τ).loc Cert.MixersIdeal.main_arg9)
      ∧ m' ((c.tc : Thread Cert.MixersRefIdeal.nD Cert.MixersRefIdeal.τ).loc Cert.MixersRefIdeal.main_arg10) = m ((c.tc : Thread Cert.MixersIdeal.nD Cert.MixersIdeal.τ).loc Cert.MixersIdeal.main_arg10)
      ∧ m' ((c.tc : Thread Cert.MixersRefIdeal.nD Cert.MixersRefIdeal.τ).loc Cert.MixersRefIdeal.main_arg11) = m ((c.tc : Thread Cert.MixersIdeal.nD Cert.MixersIdeal.τ).loc Cert.MixersIdeal.main_arg11)
      ∧ m' ((c.tc : Thread Cert.MixersRefIdeal.nD Cert.MixersRefIdeal.τ).loc Cert.MixersRefIdeal.main_arg12) = m ((c.tc : Thread Cert.MixersIdeal.nD Cert.MixersIdeal.τ).loc Cert.MixersIdeal.main_arg12)
      ∧ m' ((c.tc : Thread Cert.MixersRefIdeal.nD Cert.MixersRefIdeal.τ).loc Cert.MixersRefIdeal.main_arg13) = m ((c.tc : Thread Cert.MixersIdeal.nD Cert.MixersIdeal.τ).loc Cert.MixersIdeal.main_arg13)
      ∧ m' ((c.tc : Thread Cert.MixersRefIdeal.nD Cert.MixersRefIdeal.τ).loc Cert.MixersRefIdeal.main_arg14) = m ((c.tc : Thread Cert.MixersIdeal.nD Cert.MixersIdeal.τ).loc Cert.MixersIdeal.main_arg14)) →
    ∃ (v0 : (c : Dev Cert.MixersIdeal.nD) → Buf (Elt Ideal) ((c.tc : Thread Cert.MixersIdeal.nD Cert.MixersIdeal.τ).loc Cert.MixersIdeal.main_v44_1)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v44_1) = v0 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
          ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
          ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
          ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
          ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
          ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
          ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
          ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12)
          ∧ r.2.mem ((c.tc : Thread Cert.MixersIdeal.nD Cert.MixersIdeal.τ).loc Cert.MixersIdeal.main_arg13) = m ((c.tc : Thread Cert.MixersIdeal.nD Cert.MixersIdeal.τ).loc Cert.MixersIdeal.main_arg13)
          ∧ r.2.mem ((c.tc : Thread Cert.MixersIdeal.nD Cert.MixersIdeal.τ).loc Cert.MixersIdeal.main_arg14) = m ((c.tc : Thread Cert.MixersIdeal.nD Cert.MixersIdeal.τ).loc Cert.MixersIdeal.main_arg14))
      ∧ θ_run (Cert.MixersRefIdeal.defs (F := Ideal)) (onTc (τ := Cert.MixersRefIdeal.τ) (Cert.MixersRefIdeal.main (F := Ideal))) ⟨m', fun _ => 0, g'⟩ (fun r => ∀ c : Dev Cert.MixersRefIdeal.nD,
          r.2.mem ((c.tc : Thread Cert.MixersRefIdeal.nD Cert.MixersRefIdeal.τ).loc Cert.MixersRefIdeal.main_v29) = v0 c
          ∧ r.2.mem ((c.tc : Thread Cert.MixersRefIdeal.nD Cert.MixersRefIdeal.τ).loc Cert.MixersRefIdeal.main_arg0) = m' ((c.tc : Thread Cert.MixersRefIdeal.nD Cert.MixersRefIdeal.τ).loc Cert.MixersRefIdeal.main_arg0)
          ∧ r.2.mem ((c.tc : Thread Cert.MixersRefIdeal.nD Cert.MixersRefIdeal.τ).loc Cert.MixersRefIdeal.main_arg1) = m' ((c.tc : Thread Cert.MixersRefIdeal.nD Cert.MixersRefIdeal.τ).loc Cert.MixersRefIdeal.main_arg1)
          ∧ r.2.mem ((c.tc : Thread Cert.MixersRefIdeal.nD Cert.MixersRefIdeal.τ).loc Cert.MixersRefIdeal.main_arg2) = m' ((c.tc : Thread Cert.MixersRefIdeal.nD Cert.MixersRefIdeal.τ).loc Cert.MixersRefIdeal.main_arg2)
          ∧ r.2.mem ((c.tc : Thread Cert.MixersRefIdeal.nD Cert.MixersRefIdeal.τ).loc Cert.MixersRefIdeal.main_arg3) = m' ((c.tc : Thread Cert.MixersRefIdeal.nD Cert.MixersRefIdeal.τ).loc Cert.MixersRefIdeal.main_arg3)
          ∧ r.2.mem ((c.tc : Thread Cert.MixersRefIdeal.nD Cert.MixersRefIdeal.τ).loc Cert.MixersRefIdeal.main_arg4) = m' ((c.tc : Thread Cert.MixersRefIdeal.nD Cert.MixersRefIdeal.τ).loc Cert.MixersRefIdeal.main_arg4)
          ∧ r.2.mem ((c.tc : Thread Cert.MixersRefIdeal.nD Cert.MixersRefIdeal.τ).loc Cert.MixersRefIdeal.main_arg5) = m' ((c.tc : Thread Cert.MixersRefIdeal.nD Cert.MixersRefIdeal.τ).loc Cert.MixersRefIdeal.main_arg5)
          ∧ r.2.mem ((c.tc : Thread Cert.MixersRefIdeal.nD Cert.MixersRefIdeal.τ).loc Cert.MixersRefIdeal.main_arg6) = m' ((c.tc : Thread Cert.MixersRefIdeal.nD Cert.MixersRefIdeal.τ).loc Cert.MixersRefIdeal.main_arg6)
          ∧ r.2.mem ((c.tc : Thread Cert.MixersRefIdeal.nD Cert.MixersRefIdeal.τ).loc Cert.MixersRefIdeal.main_arg7) = m' ((c.tc : Thread Cert.MixersRefIdeal.nD Cert.MixersRefIdeal.τ).loc Cert.MixersRefIdeal.main_arg7)
          ∧ r.2.mem ((c.tc : Thread Cert.MixersRefIdeal.nD Cert.MixersRefIdeal.τ).loc Cert.MixersRefIdeal.main_arg8) = m' ((c.tc : Thread Cert.MixersRefIdeal.nD Cert.MixersRefIdeal.τ).loc Cert.MixersRefIdeal.main_arg8)
          ∧ r.2.mem ((c.tc : Thread Cert.MixersRefIdeal.nD Cert.MixersRefIdeal.τ).loc Cert.MixersRefIdeal.main_arg9) = m' ((c.tc : Thread Cert.MixersRefIdeal.nD Cert.MixersRefIdeal.τ).loc Cert.MixersRefIdeal.main_arg9)
          ∧ r.2.mem ((c.tc : Thread Cert.MixersRefIdeal.nD Cert.MixersRefIdeal.τ).loc Cert.MixersRefIdeal.main_arg10) = m' ((c.tc : Thread Cert.MixersRefIdeal.nD Cert.MixersRefIdeal.τ).loc Cert.MixersRefIdeal.main_arg10)
          ∧ r.2.mem ((c.tc : Thread Cert.MixersRefIdeal.nD Cert.MixersRefIdeal.τ).loc Cert.MixersRefIdeal.main_arg11) = m' ((c.tc : Thread Cert.MixersRefIdeal.nD Cert.MixersRefIdeal.τ).loc Cert.MixersRefIdeal.main_arg11)
          ∧ r.2.mem ((c.tc : Thread Cert.MixersRefIdeal.nD Cert.MixersRefIdeal.τ).loc Cert.MixersRefIdeal.main_arg12) = m' ((c.tc : Thread Cert.MixersRefIdeal.nD Cert.MixersRefIdeal.τ).loc Cert.MixersRefIdeal.main_arg12)
          ∧ r.2.mem ((c.tc : Thread Cert.MixersRefIdeal.nD Cert.MixersRefIdeal.τ).loc Cert.MixersRefIdeal.main_arg13) = m' ((c.tc : Thread Cert.MixersRefIdeal.nD Cert.MixersRefIdeal.τ).loc Cert.MixersRefIdeal.main_arg13)
          ∧ r.2.mem ((c.tc : Thread Cert.MixersRefIdeal.nD Cert.MixersRefIdeal.τ).loc Cert.MixersRefIdeal.main_arg14) = m' ((c.tc : Thread Cert.MixersRefIdeal.nD Cert.MixersRefIdeal.τ).loc Cert.MixersRefIdeal.main_arg14))

def preserves_MlpUpPrompt_MlpUpPromptIdeal : Prop :=
  True

def algebraic_MlpUpPromptIdeal_MlpUpPromptRefIdeal [hMlpUpPromptIdeal : Cert.MlpUpPromptIdeal.Facts] [hMlpUpPromptRefIdeal : Cert.MlpUpPromptRefIdeal.Facts] : Prop :=
  ∀ (m : (ℓ : Loc Cert.MlpUpPromptIdeal.nD Cert.MlpUpPromptIdeal.τ Cert.MlpUpPromptIdeal.sig) → Buf (Elt Ideal) ℓ) (g : Dev Cert.MlpUpPromptIdeal.nD → PrngReg)
    (m' : (ℓ : Loc Cert.MlpUpPromptRefIdeal.nD Cert.MlpUpPromptRefIdeal.τ Cert.MlpUpPromptRefIdeal.sig) → Buf (Elt Ideal) ℓ) (g' : Dev Cert.MlpUpPromptRefIdeal.nD → PrngReg), Pre_MlpUpPromptIdeal m →
    (∀ c : Dev Cert.MlpUpPromptIdeal.nD,
      m' ((c.tc : Thread Cert.MlpUpPromptRefIdeal.nD Cert.MlpUpPromptRefIdeal.τ).loc Cert.MlpUpPromptRefIdeal.main_arg0) = m ((c.tc : Thread Cert.MlpUpPromptIdeal.nD Cert.MlpUpPromptIdeal.τ).loc Cert.MlpUpPromptIdeal.main_arg0)
      ∧ m' ((c.tc : Thread Cert.MlpUpPromptRefIdeal.nD Cert.MlpUpPromptRefIdeal.τ).loc Cert.MlpUpPromptRefIdeal.main_arg1) = m ((c.tc : Thread Cert.MlpUpPromptIdeal.nD Cert.MlpUpPromptIdeal.τ).loc Cert.MlpUpPromptIdeal.main_arg1)) →
    ∃ (v0 : (c : Dev Cert.MlpUpPromptIdeal.nD) → Buf (Elt Ideal) ((c.tc : Thread Cert.MlpUpPromptIdeal.nD Cert.MlpUpPromptIdeal.τ).loc Cert.MlpUpPromptIdeal.main_v0)),
      θ_run (Cert.MlpUpPromptIdeal.defs (F := Ideal)) (onTc (τ := Cert.MlpUpPromptIdeal.τ) (Cert.MlpUpPromptIdeal.main (F := Ideal))) ⟨m, fun _ => 0, g⟩ (fun r => ∀ c : Dev Cert.MlpUpPromptIdeal.nD,
          r.2.mem ((c.tc : Thread Cert.MlpUpPromptIdeal.nD Cert.MlpUpPromptIdeal.τ).loc Cert.MlpUpPromptIdeal.main_v0) = v0 c
          ∧ r.2.mem ((c.tc : Thread Cert.MlpUpPromptIdeal.nD Cert.MlpUpPromptIdeal.τ).loc Cert.MlpUpPromptIdeal.main_arg0) = m ((c.tc : Thread Cert.MlpUpPromptIdeal.nD Cert.MlpUpPromptIdeal.τ).loc Cert.MlpUpPromptIdeal.main_arg0)
          ∧ r.2.mem ((c.tc : Thread Cert.MlpUpPromptIdeal.nD Cert.MlpUpPromptIdeal.τ).loc Cert.MlpUpPromptIdeal.main_arg1) = m ((c.tc : Thread Cert.MlpUpPromptIdeal.nD Cert.MlpUpPromptIdeal.τ).loc Cert.MlpUpPromptIdeal.main_arg1))
      ∧ θ_run (Cert.MlpUpPromptRefIdeal.defs (F := Ideal)) (onTc (τ := Cert.MlpUpPromptRefIdeal.τ) (Cert.MlpUpPromptRefIdeal.main (F := Ideal))) ⟨m', fun _ => 0, g'⟩ (fun r => ∀ c : Dev Cert.MlpUpPromptRefIdeal.nD,
          r.2.mem ((c.tc : Thread Cert.MlpUpPromptRefIdeal.nD Cert.MlpUpPromptRefIdeal.τ).loc Cert.MlpUpPromptRefIdeal.main_v5) = v0 c
          ∧ r.2.mem ((c.tc : Thread Cert.MlpUpPromptRefIdeal.nD Cert.MlpUpPromptRefIdeal.τ).loc Cert.MlpUpPromptRefIdeal.main_arg0) = m' ((c.tc : Thread Cert.MlpUpPromptRefIdeal.nD Cert.MlpUpPromptRefIdeal.τ).loc Cert.MlpUpPromptRefIdeal.main_arg0)
          ∧ r.2.mem ((c.tc : Thread Cert.MlpUpPromptRefIdeal.nD Cert.MlpUpPromptRefIdeal.τ).loc Cert.MlpUpPromptRefIdeal.main_arg1) = m' ((c.tc : Thread Cert.MlpUpPromptRefIdeal.nD Cert.MlpUpPromptRefIdeal.τ).loc Cert.MlpUpPromptRefIdeal.main_arg1))

def preserves_DownProjPrompt_DownProjPromptIdeal : Prop :=
  True

def algebraic_DownProjPromptIdeal_DownProjPromptRefIdeal [hDownProjPromptIdeal : Cert.DownProjPromptIdeal.Facts] [hDownProjPromptRefIdeal : Cert.DownProjPromptRefIdeal.Facts] : Prop :=
  ∀ (m : (ℓ : Loc Cert.DownProjPromptIdeal.nD Cert.DownProjPromptIdeal.τ Cert.DownProjPromptIdeal.sig) → Buf (Elt Ideal) ℓ) (g : Dev Cert.DownProjPromptIdeal.nD → PrngReg)
    (m' : (ℓ : Loc Cert.DownProjPromptRefIdeal.nD Cert.DownProjPromptRefIdeal.τ Cert.DownProjPromptRefIdeal.sig) → Buf (Elt Ideal) ℓ) (g' : Dev Cert.DownProjPromptRefIdeal.nD → PrngReg), Pre_DownProjPromptIdeal m →
    (∀ c : Dev Cert.DownProjPromptIdeal.nD,
      m' ((c.tc : Thread Cert.DownProjPromptRefIdeal.nD Cert.DownProjPromptRefIdeal.τ).loc Cert.DownProjPromptRefIdeal.main_arg0) = m ((c.tc : Thread Cert.DownProjPromptIdeal.nD Cert.DownProjPromptIdeal.τ).loc Cert.DownProjPromptIdeal.main_arg0)
      ∧ m' ((c.tc : Thread Cert.DownProjPromptRefIdeal.nD Cert.DownProjPromptRefIdeal.τ).loc Cert.DownProjPromptRefIdeal.main_arg1) = m ((c.tc : Thread Cert.DownProjPromptIdeal.nD Cert.DownProjPromptIdeal.τ).loc Cert.DownProjPromptIdeal.main_arg1)
      ∧ m' ((c.tc : Thread Cert.DownProjPromptRefIdeal.nD Cert.DownProjPromptRefIdeal.τ).loc Cert.DownProjPromptRefIdeal.main_arg2) = m ((c.tc : Thread Cert.DownProjPromptIdeal.nD Cert.DownProjPromptIdeal.τ).loc Cert.DownProjPromptIdeal.main_arg2)
      ∧ m' ((c.tc : Thread Cert.DownProjPromptRefIdeal.nD Cert.DownProjPromptRefIdeal.τ).loc Cert.DownProjPromptRefIdeal.main_arg3) = m ((c.tc : Thread Cert.DownProjPromptIdeal.nD Cert.DownProjPromptIdeal.τ).loc Cert.DownProjPromptIdeal.main_arg3)
      ∧ m' ((c.tc : Thread Cert.DownProjPromptRefIdeal.nD Cert.DownProjPromptRefIdeal.τ).loc Cert.DownProjPromptRefIdeal.main_arg4) = m ((c.tc : Thread Cert.DownProjPromptIdeal.nD Cert.DownProjPromptIdeal.τ).loc Cert.DownProjPromptIdeal.main_arg4)
      ∧ m' ((c.tc : Thread Cert.DownProjPromptRefIdeal.nD Cert.DownProjPromptRefIdeal.τ).loc Cert.DownProjPromptRefIdeal.main_arg5) = m ((c.tc : Thread Cert.DownProjPromptIdeal.nD Cert.DownProjPromptIdeal.τ).loc Cert.DownProjPromptIdeal.main_arg5)) →
    ∃ (v0 : (c : Dev Cert.DownProjPromptIdeal.nD) → Buf (Elt Ideal) ((c.tc : Thread Cert.DownProjPromptIdeal.nD Cert.DownProjPromptIdeal.τ).loc Cert.DownProjPromptIdeal.main_v4)),
      θ_run (Cert.DownProjPromptIdeal.defs (F := Ideal)) (onTc (τ := Cert.DownProjPromptIdeal.τ) (Cert.DownProjPromptIdeal.main (F := Ideal))) ⟨m, fun _ => 0, g⟩ (fun r => ∀ c : Dev Cert.DownProjPromptIdeal.nD,
          r.2.mem ((c.tc : Thread Cert.DownProjPromptIdeal.nD Cert.DownProjPromptIdeal.τ).loc Cert.DownProjPromptIdeal.main_v4) = v0 c
          ∧ r.2.mem ((c.tc : Thread Cert.DownProjPromptIdeal.nD Cert.DownProjPromptIdeal.τ).loc Cert.DownProjPromptIdeal.main_arg0) = m ((c.tc : Thread Cert.DownProjPromptIdeal.nD Cert.DownProjPromptIdeal.τ).loc Cert.DownProjPromptIdeal.main_arg0)
          ∧ r.2.mem ((c.tc : Thread Cert.DownProjPromptIdeal.nD Cert.DownProjPromptIdeal.τ).loc Cert.DownProjPromptIdeal.main_arg1) = m ((c.tc : Thread Cert.DownProjPromptIdeal.nD Cert.DownProjPromptIdeal.τ).loc Cert.DownProjPromptIdeal.main_arg1)
          ∧ r.2.mem ((c.tc : Thread Cert.DownProjPromptIdeal.nD Cert.DownProjPromptIdeal.τ).loc Cert.DownProjPromptIdeal.main_arg2) = m ((c.tc : Thread Cert.DownProjPromptIdeal.nD Cert.DownProjPromptIdeal.τ).loc Cert.DownProjPromptIdeal.main_arg2)
          ∧ r.2.mem ((c.tc : Thread Cert.DownProjPromptIdeal.nD Cert.DownProjPromptIdeal.τ).loc Cert.DownProjPromptIdeal.main_arg3) = m ((c.tc : Thread Cert.DownProjPromptIdeal.nD Cert.DownProjPromptIdeal.τ).loc Cert.DownProjPromptIdeal.main_arg3)
          ∧ r.2.mem ((c.tc : Thread Cert.DownProjPromptIdeal.nD Cert.DownProjPromptIdeal.τ).loc Cert.DownProjPromptIdeal.main_arg4) = m ((c.tc : Thread Cert.DownProjPromptIdeal.nD Cert.DownProjPromptIdeal.τ).loc Cert.DownProjPromptIdeal.main_arg4)
          ∧ r.2.mem ((c.tc : Thread Cert.DownProjPromptIdeal.nD Cert.DownProjPromptIdeal.τ).loc Cert.DownProjPromptIdeal.main_arg5) = m ((c.tc : Thread Cert.DownProjPromptIdeal.nD Cert.DownProjPromptIdeal.τ).loc Cert.DownProjPromptIdeal.main_arg5))
      ∧ θ_run (Cert.DownProjPromptRefIdeal.defs (F := Ideal)) (onTc (τ := Cert.DownProjPromptRefIdeal.τ) (Cert.DownProjPromptRefIdeal.main (F := Ideal))) ⟨m', fun _ => 0, g'⟩ (fun r => ∀ c : Dev Cert.DownProjPromptRefIdeal.nD,
          r.2.mem ((c.tc : Thread Cert.DownProjPromptRefIdeal.nD Cert.DownProjPromptRefIdeal.τ).loc Cert.DownProjPromptRefIdeal.main_v19) = v0 c
          ∧ r.2.mem ((c.tc : Thread Cert.DownProjPromptRefIdeal.nD Cert.DownProjPromptRefIdeal.τ).loc Cert.DownProjPromptRefIdeal.main_arg0) = m' ((c.tc : Thread Cert.DownProjPromptRefIdeal.nD Cert.DownProjPromptRefIdeal.τ).loc Cert.DownProjPromptRefIdeal.main_arg0)
          ∧ r.2.mem ((c.tc : Thread Cert.DownProjPromptRefIdeal.nD Cert.DownProjPromptRefIdeal.τ).loc Cert.DownProjPromptRefIdeal.main_arg1) = m' ((c.tc : Thread Cert.DownProjPromptRefIdeal.nD Cert.DownProjPromptRefIdeal.τ).loc Cert.DownProjPromptRefIdeal.main_arg1)
          ∧ r.2.mem ((c.tc : Thread Cert.DownProjPromptRefIdeal.nD Cert.DownProjPromptRefIdeal.τ).loc Cert.DownProjPromptRefIdeal.main_arg2) = m' ((c.tc : Thread Cert.DownProjPromptRefIdeal.nD Cert.DownProjPromptRefIdeal.τ).loc Cert.DownProjPromptRefIdeal.main_arg2)
          ∧ r.2.mem ((c.tc : Thread Cert.DownProjPromptRefIdeal.nD Cert.DownProjPromptRefIdeal.τ).loc Cert.DownProjPromptRefIdeal.main_arg3) = m' ((c.tc : Thread Cert.DownProjPromptRefIdeal.nD Cert.DownProjPromptRefIdeal.τ).loc Cert.DownProjPromptRefIdeal.main_arg3)
          ∧ r.2.mem ((c.tc : Thread Cert.DownProjPromptRefIdeal.nD Cert.DownProjPromptRefIdeal.τ).loc Cert.DownProjPromptRefIdeal.main_arg4) = m' ((c.tc : Thread Cert.DownProjPromptRefIdeal.nD Cert.DownProjPromptRefIdeal.τ).loc Cert.DownProjPromptRefIdeal.main_arg4)
          ∧ r.2.mem ((c.tc : Thread Cert.DownProjPromptRefIdeal.nD Cert.DownProjPromptRefIdeal.τ).loc Cert.DownProjPromptRefIdeal.main_arg5) = m' ((c.tc : Thread Cert.DownProjPromptRefIdeal.nD Cert.DownProjPromptRefIdeal.τ).loc Cert.DownProjPromptRefIdeal.main_arg5))

def preserves_InProjGlaPrompt_InProjGlaPromptIdeal : Prop :=
  True

def algebraic_InProjGlaPromptIdeal_InProjGlaPromptRefIdeal [hInProjGlaPromptIdeal : Cert.InProjGlaPromptIdeal.Facts] [hInProjGlaPromptRefIdeal : Cert.InProjGlaPromptRefIdeal.Facts] : Prop :=
  ∀ (m : (ℓ : Loc Cert.InProjGlaPromptIdeal.nD Cert.InProjGlaPromptIdeal.τ Cert.InProjGlaPromptIdeal.sig) → Buf (Elt Ideal) ℓ) (g : Dev Cert.InProjGlaPromptIdeal.nD → PrngReg)
    (m' : (ℓ : Loc Cert.InProjGlaPromptRefIdeal.nD Cert.InProjGlaPromptRefIdeal.τ Cert.InProjGlaPromptRefIdeal.sig) → Buf (Elt Ideal) ℓ) (g' : Dev Cert.InProjGlaPromptRefIdeal.nD → PrngReg), Pre_InProjGlaPromptIdeal m →
    (∀ c : Dev Cert.InProjGlaPromptIdeal.nD,
      m' ((c.tc : Thread Cert.InProjGlaPromptRefIdeal.nD Cert.InProjGlaPromptRefIdeal.τ).loc Cert.InProjGlaPromptRefIdeal.main_arg0) = m ((c.tc : Thread Cert.InProjGlaPromptIdeal.nD Cert.InProjGlaPromptIdeal.τ).loc Cert.InProjGlaPromptIdeal.main_arg0)
      ∧ m' ((c.tc : Thread Cert.InProjGlaPromptRefIdeal.nD Cert.InProjGlaPromptRefIdeal.τ).loc Cert.InProjGlaPromptRefIdeal.main_arg1) = m ((c.tc : Thread Cert.InProjGlaPromptIdeal.nD Cert.InProjGlaPromptIdeal.τ).loc Cert.InProjGlaPromptIdeal.main_arg1)) →
    ∃ (v0 : (c : Dev Cert.InProjGlaPromptIdeal.nD) → Buf (Elt Ideal) ((c.tc : Thread Cert.InProjGlaPromptIdeal.nD Cert.InProjGlaPromptIdeal.τ).loc Cert.InProjGlaPromptIdeal.main_v2)),
      θ_run (Cert.InProjGlaPromptIdeal.defs (F := Ideal)) (onTc (τ := Cert.InProjGlaPromptIdeal.τ) (Cert.InProjGlaPromptIdeal.main (F := Ideal))) ⟨m, fun _ => 0, g⟩ (fun r => ∀ c : Dev Cert.InProjGlaPromptIdeal.nD,
          r.2.mem ((c.tc : Thread Cert.InProjGlaPromptIdeal.nD Cert.InProjGlaPromptIdeal.τ).loc Cert.InProjGlaPromptIdeal.main_v2) = v0 c
          ∧ r.2.mem ((c.tc : Thread Cert.InProjGlaPromptIdeal.nD Cert.InProjGlaPromptIdeal.τ).loc Cert.InProjGlaPromptIdeal.main_arg0) = m ((c.tc : Thread Cert.InProjGlaPromptIdeal.nD Cert.InProjGlaPromptIdeal.τ).loc Cert.InProjGlaPromptIdeal.main_arg0)
          ∧ r.2.mem ((c.tc : Thread Cert.InProjGlaPromptIdeal.nD Cert.InProjGlaPromptIdeal.τ).loc Cert.InProjGlaPromptIdeal.main_arg1) = m ((c.tc : Thread Cert.InProjGlaPromptIdeal.nD Cert.InProjGlaPromptIdeal.τ).loc Cert.InProjGlaPromptIdeal.main_arg1))
      ∧ θ_run (Cert.InProjGlaPromptRefIdeal.defs (F := Ideal)) (onTc (τ := Cert.InProjGlaPromptRefIdeal.τ) (Cert.InProjGlaPromptRefIdeal.main (F := Ideal))) ⟨m', fun _ => 0, g'⟩ (fun r => ∀ c : Dev Cert.InProjGlaPromptRefIdeal.nD,
          r.2.mem ((c.tc : Thread Cert.InProjGlaPromptRefIdeal.nD Cert.InProjGlaPromptRefIdeal.τ).loc Cert.InProjGlaPromptRefIdeal.main_v3) = v0 c
          ∧ r.2.mem ((c.tc : Thread Cert.InProjGlaPromptRefIdeal.nD Cert.InProjGlaPromptRefIdeal.τ).loc Cert.InProjGlaPromptRefIdeal.main_arg0) = m' ((c.tc : Thread Cert.InProjGlaPromptRefIdeal.nD Cert.InProjGlaPromptRefIdeal.τ).loc Cert.InProjGlaPromptRefIdeal.main_arg0)
          ∧ r.2.mem ((c.tc : Thread Cert.InProjGlaPromptRefIdeal.nD Cert.InProjGlaPromptRefIdeal.τ).loc Cert.InProjGlaPromptRefIdeal.main_arg1) = m' ((c.tc : Thread Cert.InProjGlaPromptRefIdeal.nD Cert.InProjGlaPromptRefIdeal.τ).loc Cert.InProjGlaPromptRefIdeal.main_arg1))

def preserves_OutProjPrompt_OutProjPromptIdeal : Prop :=
  True

def algebraic_OutProjPromptIdeal_OutProjPromptRefIdeal [hOutProjPromptIdeal : Cert.OutProjPromptIdeal.Facts] [hOutProjPromptRefIdeal : Cert.OutProjPromptRefIdeal.Facts] : Prop :=
  ∀ (m : (ℓ : Loc Cert.OutProjPromptIdeal.nD Cert.OutProjPromptIdeal.τ Cert.OutProjPromptIdeal.sig) → Buf (Elt Ideal) ℓ) (g : Dev Cert.OutProjPromptIdeal.nD → PrngReg)
    (m' : (ℓ : Loc Cert.OutProjPromptRefIdeal.nD Cert.OutProjPromptRefIdeal.τ Cert.OutProjPromptRefIdeal.sig) → Buf (Elt Ideal) ℓ) (g' : Dev Cert.OutProjPromptRefIdeal.nD → PrngReg), Pre_OutProjPromptIdeal m →
    (∀ c : Dev Cert.OutProjPromptIdeal.nD,
      m' ((c.tc : Thread Cert.OutProjPromptRefIdeal.nD Cert.OutProjPromptRefIdeal.τ).loc Cert.OutProjPromptRefIdeal.main_arg0) = m ((c.tc : Thread Cert.OutProjPromptIdeal.nD Cert.OutProjPromptIdeal.τ).loc Cert.OutProjPromptIdeal.main_arg0)
      ∧ m' ((c.tc : Thread Cert.OutProjPromptRefIdeal.nD Cert.OutProjPromptRefIdeal.τ).loc Cert.OutProjPromptRefIdeal.main_arg1) = m ((c.tc : Thread Cert.OutProjPromptIdeal.nD Cert.OutProjPromptIdeal.τ).loc Cert.OutProjPromptIdeal.main_arg1)
      ∧ m' ((c.tc : Thread Cert.OutProjPromptRefIdeal.nD Cert.OutProjPromptRefIdeal.τ).loc Cert.OutProjPromptRefIdeal.main_arg2) = m ((c.tc : Thread Cert.OutProjPromptIdeal.nD Cert.OutProjPromptIdeal.τ).loc Cert.OutProjPromptIdeal.main_arg2)
      ∧ m' ((c.tc : Thread Cert.OutProjPromptRefIdeal.nD Cert.OutProjPromptRefIdeal.τ).loc Cert.OutProjPromptRefIdeal.main_arg3) = m ((c.tc : Thread Cert.OutProjPromptIdeal.nD Cert.OutProjPromptIdeal.τ).loc Cert.OutProjPromptIdeal.main_arg3)
      ∧ m' ((c.tc : Thread Cert.OutProjPromptRefIdeal.nD Cert.OutProjPromptRefIdeal.τ).loc Cert.OutProjPromptRefIdeal.main_arg4) = m ((c.tc : Thread Cert.OutProjPromptIdeal.nD Cert.OutProjPromptIdeal.τ).loc Cert.OutProjPromptIdeal.main_arg4)) →
    ∃ (v0 : (c : Dev Cert.OutProjPromptIdeal.nD) → Buf (Elt Ideal) ((c.tc : Thread Cert.OutProjPromptIdeal.nD Cert.OutProjPromptIdeal.τ).loc Cert.OutProjPromptIdeal.main_v1)),
      θ_run (Cert.OutProjPromptIdeal.defs (F := Ideal)) (onTc (τ := Cert.OutProjPromptIdeal.τ) (Cert.OutProjPromptIdeal.main (F := Ideal))) ⟨m, fun _ => 0, g⟩ (fun r => ∀ c : Dev Cert.OutProjPromptIdeal.nD,
          r.2.mem ((c.tc : Thread Cert.OutProjPromptIdeal.nD Cert.OutProjPromptIdeal.τ).loc Cert.OutProjPromptIdeal.main_v1) = v0 c
          ∧ r.2.mem ((c.tc : Thread Cert.OutProjPromptIdeal.nD Cert.OutProjPromptIdeal.τ).loc Cert.OutProjPromptIdeal.main_arg0) = m ((c.tc : Thread Cert.OutProjPromptIdeal.nD Cert.OutProjPromptIdeal.τ).loc Cert.OutProjPromptIdeal.main_arg0)
          ∧ r.2.mem ((c.tc : Thread Cert.OutProjPromptIdeal.nD Cert.OutProjPromptIdeal.τ).loc Cert.OutProjPromptIdeal.main_arg1) = m ((c.tc : Thread Cert.OutProjPromptIdeal.nD Cert.OutProjPromptIdeal.τ).loc Cert.OutProjPromptIdeal.main_arg1)
          ∧ r.2.mem ((c.tc : Thread Cert.OutProjPromptIdeal.nD Cert.OutProjPromptIdeal.τ).loc Cert.OutProjPromptIdeal.main_arg2) = m ((c.tc : Thread Cert.OutProjPromptIdeal.nD Cert.OutProjPromptIdeal.τ).loc Cert.OutProjPromptIdeal.main_arg2)
          ∧ r.2.mem ((c.tc : Thread Cert.OutProjPromptIdeal.nD Cert.OutProjPromptIdeal.τ).loc Cert.OutProjPromptIdeal.main_arg3) = m ((c.tc : Thread Cert.OutProjPromptIdeal.nD Cert.OutProjPromptIdeal.τ).loc Cert.OutProjPromptIdeal.main_arg3)
          ∧ r.2.mem ((c.tc : Thread Cert.OutProjPromptIdeal.nD Cert.OutProjPromptIdeal.τ).loc Cert.OutProjPromptIdeal.main_arg4) = m ((c.tc : Thread Cert.OutProjPromptIdeal.nD Cert.OutProjPromptIdeal.τ).loc Cert.OutProjPromptIdeal.main_arg4))
      ∧ θ_run (Cert.OutProjPromptRefIdeal.defs (F := Ideal)) (onTc (τ := Cert.OutProjPromptRefIdeal.τ) (Cert.OutProjPromptRefIdeal.main (F := Ideal))) ⟨m', fun _ => 0, g'⟩ (fun r => ∀ c : Dev Cert.OutProjPromptRefIdeal.nD,
          r.2.mem ((c.tc : Thread Cert.OutProjPromptRefIdeal.nD Cert.OutProjPromptRefIdeal.τ).loc Cert.OutProjPromptRefIdeal.main_v8) = v0 c
          ∧ r.2.mem ((c.tc : Thread Cert.OutProjPromptRefIdeal.nD Cert.OutProjPromptRefIdeal.τ).loc Cert.OutProjPromptRefIdeal.main_arg0) = m' ((c.tc : Thread Cert.OutProjPromptRefIdeal.nD Cert.OutProjPromptRefIdeal.τ).loc Cert.OutProjPromptRefIdeal.main_arg0)
          ∧ r.2.mem ((c.tc : Thread Cert.OutProjPromptRefIdeal.nD Cert.OutProjPromptRefIdeal.τ).loc Cert.OutProjPromptRefIdeal.main_arg1) = m' ((c.tc : Thread Cert.OutProjPromptRefIdeal.nD Cert.OutProjPromptRefIdeal.τ).loc Cert.OutProjPromptRefIdeal.main_arg1)
          ∧ r.2.mem ((c.tc : Thread Cert.OutProjPromptRefIdeal.nD Cert.OutProjPromptRefIdeal.τ).loc Cert.OutProjPromptRefIdeal.main_arg2) = m' ((c.tc : Thread Cert.OutProjPromptRefIdeal.nD Cert.OutProjPromptRefIdeal.τ).loc Cert.OutProjPromptRefIdeal.main_arg2)
          ∧ r.2.mem ((c.tc : Thread Cert.OutProjPromptRefIdeal.nD Cert.OutProjPromptRefIdeal.τ).loc Cert.OutProjPromptRefIdeal.main_arg3) = m' ((c.tc : Thread Cert.OutProjPromptRefIdeal.nD Cert.OutProjPromptRefIdeal.τ).loc Cert.OutProjPromptRefIdeal.main_arg3)
          ∧ r.2.mem ((c.tc : Thread Cert.OutProjPromptRefIdeal.nD Cert.OutProjPromptRefIdeal.τ).loc Cert.OutProjPromptRefIdeal.main_arg4) = m' ((c.tc : Thread Cert.OutProjPromptRefIdeal.nD Cert.OutProjPromptRefIdeal.τ).loc Cert.OutProjPromptRefIdeal.main_arg4))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hDownProj : Cert.DownProj.Facts) (hDownProjIdeal : Cert.DownProjIdeal.Facts) (hDownProjRefIdeal : Cert.DownProjRefIdeal.Facts) (hInProjGla : Cert.InProjGla.Facts) (hInProjGlaIdeal : Cert.InProjGlaIdeal.Facts) (hInProjGlaRefIdeal : Cert.InProjGlaRefIdeal.Facts) (hOutProj : Cert.OutProj.Facts) (hOutProjIdeal : Cert.OutProjIdeal.Facts) (hOutProjRefIdeal : Cert.OutProjRefIdeal.Facts) (hNormStats : Cert.NormStats.Facts) (hNormStatsIdeal : Cert.NormStatsIdeal.Facts) (hNormStatsRefIdeal : Cert.NormStatsRefIdeal.Facts) (hNormSample : Cert.NormSample.Facts) (hNormSampleIdeal : Cert.NormSampleIdeal.Facts) (hNormSampleRefIdeal : Cert.NormSampleRefIdeal.Facts) (hNormPrompt : Cert.NormPrompt.Facts) (hNormPromptIdeal : Cert.NormPromptIdeal.Facts) (hNormPromptRefIdeal : Cert.NormPromptRefIdeal.Facts) (hInProjSsdPrompt : Cert.InProjSsdPrompt.Facts) (hInProjSsdPromptIdeal : Cert.InProjSsdPromptIdeal.Facts) (hInProjSsdPromptRefIdeal : Cert.InProjSsdPromptRefIdeal.Facts) (hMixers : Cert.Mixers.Facts) (hMixersIdeal : Cert.MixersIdeal.Facts) (hMixersRefIdeal : Cert.MixersRefIdeal.Facts) (hMlpUpPrompt : Cert.MlpUpPrompt.Facts) (hMlpUpPromptIdeal : Cert.MlpUpPromptIdeal.Facts) (hMlpUpPromptRefIdeal : Cert.MlpUpPromptRefIdeal.Facts) (hDownProjPrompt : Cert.DownProjPrompt.Facts) (hDownProjPromptIdeal : Cert.DownProjPromptIdeal.Facts) (hDownProjPromptRefIdeal : Cert.DownProjPromptRefIdeal.Facts) (hInProjGlaPrompt : Cert.InProjGlaPrompt.Facts) (hInProjGlaPromptIdeal : Cert.InProjGlaPromptIdeal.Facts) (hInProjGlaPromptRefIdeal : Cert.InProjGlaPromptRefIdeal.Facts) (hOutProjPrompt : Cert.OutProjPrompt.Facts) (hOutProjPromptIdeal : Cert.OutProjPromptIdeal.Facts) (hOutProjPromptRefIdeal : Cert.OutProjPromptRefIdeal.Facts),
    quiescent_Kernel (hKernel := hKernel)
    ∧ quiescent_KernelIdeal (hKernelIdeal := hKernelIdeal)
    ∧ quiescent_ReferenceIdeal (hReferenceIdeal := hReferenceIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_InProjGla (hInProjGla := hInProjGla)
    ∧ quiescent_InProjGlaIdeal (hInProjGlaIdeal := hInProjGlaIdeal)
    ∧ quiescent_InProjGlaRefIdeal (hInProjGlaRefIdeal := hInProjGlaRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormStats (hNormStats := hNormStats)
    ∧ quiescent_NormStatsIdeal (hNormStatsIdeal := hNormStatsIdeal)
    ∧ quiescent_NormStatsRefIdeal (hNormStatsRefIdeal := hNormStatsRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_InProjSsdPrompt (hInProjSsdPrompt := hInProjSsdPrompt)
    ∧ quiescent_InProjSsdPromptIdeal (hInProjSsdPromptIdeal := hInProjSsdPromptIdeal)
    ∧ quiescent_InProjSsdPromptRefIdeal (hInProjSsdPromptRefIdeal := hInProjSsdPromptRefIdeal)
    ∧ quiescent_Mixers (hMixers := hMixers)
    ∧ quiescent_MixersIdeal (hMixersIdeal := hMixersIdeal)
    ∧ quiescent_MixersRefIdeal (hMixersRefIdeal := hMixersRefIdeal)
    ∧ quiescent_MlpUpPrompt (hMlpUpPrompt := hMlpUpPrompt)
    ∧ quiescent_MlpUpPromptIdeal (hMlpUpPromptIdeal := hMlpUpPromptIdeal)
    ∧ quiescent_MlpUpPromptRefIdeal (hMlpUpPromptRefIdeal := hMlpUpPromptRefIdeal)
    ∧ quiescent_DownProjPrompt (hDownProjPrompt := hDownProjPrompt)
    ∧ quiescent_DownProjPromptIdeal (hDownProjPromptIdeal := hDownProjPromptIdeal)
    ∧ quiescent_DownProjPromptRefIdeal (hDownProjPromptRefIdeal := hDownProjPromptRefIdeal)
    ∧ quiescent_InProjGlaPrompt (hInProjGlaPrompt := hInProjGlaPrompt)
    ∧ quiescent_InProjGlaPromptIdeal (hInProjGlaPromptIdeal := hInProjGlaPromptIdeal)
    ∧ quiescent_InProjGlaPromptRefIdeal (hInProjGlaPromptRefIdeal := hInProjGlaPromptRefIdeal)
    ∧ quiescent_OutProjPrompt (hOutProjPrompt := hOutProjPrompt)
    ∧ quiescent_OutProjPromptIdeal (hOutProjPromptIdeal := hOutProjPromptIdeal)
    ∧ quiescent_OutProjPromptRefIdeal (hOutProjPromptRefIdeal := hOutProjPromptRefIdeal)
    ∧ preserves_Kernel_KernelIdeal
    ∧ algebraic_KernelIdeal_ReferenceIdeal (hKernelIdeal := hKernelIdeal) (hReferenceIdeal := hReferenceIdeal)
    ∧ preserves_MlpUp_MlpUpIdeal
    ∧ algebraic_MlpUpIdeal_MlpUpRefIdeal (hMlpUpIdeal := hMlpUpIdeal) (hMlpUpRefIdeal := hMlpUpRefIdeal)
    ∧ preserves_DownProj_DownProjIdeal
    ∧ algebraic_DownProjIdeal_DownProjRefIdeal (hDownProjIdeal := hDownProjIdeal) (hDownProjRefIdeal := hDownProjRefIdeal)
    ∧ preserves_InProjGla_InProjGlaIdeal
    ∧ algebraic_InProjGlaIdeal_InProjGlaRefIdeal (hInProjGlaIdeal := hInProjGlaIdeal) (hInProjGlaRefIdeal := hInProjGlaRefIdeal)
    ∧ preserves_OutProj_OutProjIdeal
    ∧ algebraic_OutProjIdeal_OutProjRefIdeal (hOutProjIdeal := hOutProjIdeal) (hOutProjRefIdeal := hOutProjRefIdeal)
    ∧ preserves_NormStats_NormStatsIdeal
    ∧ algebraic_NormStatsIdeal_NormStatsRefIdeal (hNormStatsIdeal := hNormStatsIdeal) (hNormStatsRefIdeal := hNormStatsRefIdeal)
    ∧ preserves_NormSample_NormSampleIdeal
    ∧ algebraic_NormSampleIdeal_NormSampleRefIdeal (hNormSampleIdeal := hNormSampleIdeal) (hNormSampleRefIdeal := hNormSampleRefIdeal)
    ∧ preserves_NormPrompt_NormPromptIdeal
    ∧ algebraic_NormPromptIdeal_NormPromptRefIdeal (hNormPromptIdeal := hNormPromptIdeal) (hNormPromptRefIdeal := hNormPromptRefIdeal)
    ∧ preserves_InProjSsdPrompt_InProjSsdPromptIdeal
    ∧ algebraic_InProjSsdPromptIdeal_InProjSsdPromptRefIdeal (hInProjSsdPromptIdeal := hInProjSsdPromptIdeal) (hInProjSsdPromptRefIdeal := hInProjSsdPromptRefIdeal)
    ∧ preserves_Mixers_MixersIdeal
    ∧ algebraic_MixersIdeal_MixersRefIdeal (hMixersIdeal := hMixersIdeal) (hMixersRefIdeal := hMixersRefIdeal)
    ∧ preserves_MlpUpPrompt_MlpUpPromptIdeal
    ∧ algebraic_MlpUpPromptIdeal_MlpUpPromptRefIdeal (hMlpUpPromptIdeal := hMlpUpPromptIdeal) (hMlpUpPromptRefIdeal := hMlpUpPromptRefIdeal)
    ∧ preserves_DownProjPrompt_DownProjPromptIdeal
    ∧ algebraic_DownProjPromptIdeal_DownProjPromptRefIdeal (hDownProjPromptIdeal := hDownProjPromptIdeal) (hDownProjPromptRefIdeal := hDownProjPromptRefIdeal)
    ∧ preserves_InProjGlaPrompt_InProjGlaPromptIdeal
    ∧ algebraic_InProjGlaPromptIdeal_InProjGlaPromptRefIdeal (hInProjGlaPromptIdeal := hInProjGlaPromptIdeal) (hInProjGlaPromptRefIdeal := hInProjGlaPromptRefIdeal)
    ∧ preserves_OutProjPrompt_OutProjPromptIdeal
    ∧ algebraic_OutProjPromptIdeal_OutProjPromptRefIdeal (hOutProjPromptIdeal := hOutProjPromptIdeal) (hOutProjPromptRefIdeal := hOutProjPromptRefIdeal)
-- ==== Kernel.lean ====
abbrev S128x4x4096 : Shape := ⟨3, ![128, 4, 4096]⟩
abbrev S16x4096 : Shape := ⟨2, ![16, 4096]⟩
abbrev S1x4096x12336 : Shape := ⟨3, ![1, 4096, 12336]⟩
abbrev S4096x12336 : Shape := ⟨2, ![4096, 12336]⟩
abbrev S12336x4096 : Shape := ⟨2, ![12336, 4096]⟩
abbrev S512x4096 : Shape := ⟨2, ![512, 4096]⟩
abbrev S_ : Shape := ⟨0, ![]⟩
abbrev S48x4096 : Shape := ⟨2, ![48, 4096]⟩
abbrev S576x4096 : Shape := ⟨2, ![576, 4096]⟩
abbrev S576x6144 : Shape := ⟨2, ![576, 6144]⟩
abbrev S6144x4096 : Shape := ⟨2, ![6144, 4096]⟩
abbrev S576x512 : Shape := ⟨2, ![576, 512]⟩

abbrev nBuf : Space → Nat
  | .hbm => 12
  | .vmem => 7
  | .smem => 0
  | _ => 0

abbrev bufTy : (tb : Table) → Fin (tcTables nBuf tb) → BufTy
  | .hbm, ⟨0, _⟩ => ⟨S128x4x4096, .f32⟩
  | .hbm, ⟨1, _⟩ => ⟨S16x4096, .f32⟩
  | .hbm, ⟨2, _⟩ => ⟨S1x4096x12336, .f32⟩
  | .hbm, ⟨3, _⟩ => ⟨S4096x12336, .f32⟩
  | .hbm, ⟨4, _⟩ => ⟨S12336x4096, .f32⟩
  | .hbm, ⟨5, _⟩ => ⟨S512x4096, .f32⟩
  | .hbm, ⟨6, _⟩ => ⟨S_, .f32⟩
  | .hbm, ⟨7, _⟩ => ⟨S48x4096, .f32⟩
  | .hbm, ⟨8, _⟩ => ⟨S576x4096, .f32⟩
  | .hbm, ⟨9, _⟩ => ⟨S576x4096, .bf16⟩
  | .hbm, ⟨10, _⟩ => ⟨S576x6144, .f32⟩
  | .hbm, ⟨11, _⟩ => ⟨S6144x4096, .bf16⟩
  | .local _ .vmem, ⟨0, _⟩ => ⟨S576x4096, .bf16⟩
  | .local _ .vmem, ⟨1, _⟩ => ⟨S512x4096, .f32⟩
  | .local _ .vmem, ⟨2, _⟩ => ⟨S512x4096, .f32⟩
  | .local _ .vmem, ⟨3, _⟩ => ⟨S576x512, .f32⟩
  | .local _ .vmem, ⟨4, _⟩ => ⟨S576x512, .f32⟩
  | .local _ .vmem, ⟨5, _⟩ => ⟨S512x4096, .bf16⟩
  | .local _ .vmem, ⟨6, _⟩ => ⟨S512x4096, .bf16⟩
  | _, _ => ⟨S128x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 12], ![false, false]⟩

def k0_mult1 (i : grid0.Coords) : BitVec 32 :=
  let c6160_i32 : BitVec 32 := 6160#32
  let arg1 : BitVec 32 := BitVec.ofNat 32 (i 1).val
  let c512_i32 : BitVec 32 := 512#32
  let v0 : BitVec 32 := Scalar.muli arg1 c512_i32
  let v1 : BitVec 32 := Scalar.addi c6160_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6160_i32 : BitVec 32 := 6160#32
  let v1 : BitVec 32 := Scalar.addi c6160_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S576x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== ReferenceIdeal.lean ====
abbrev S128x4x4096 : Shape := ⟨3, ![128, 4, 4096]⟩
abbrev S16x4096 : Shape := ⟨2, ![16, 4096]⟩
abbrev S1x4096x12336 : Shape := ⟨3, ![1, 4096, 12336]⟩
abbrev S4096x12336 : Shape := ⟨2, ![4096, 12336]⟩
abbrev S4096x6144 : Shape := ⟨2, ![4096, 6144]⟩
abbrev S512x4096 : Shape := ⟨2, ![512, 4096]⟩
abbrev S_ : Shape := ⟨0, ![]⟩
abbrev S48x4096 : Shape := ⟨2, ![48, 4096]⟩
abbrev S576x4096 : Shape := ⟨2, ![576, 4096]⟩
abbrev S576x6144 : Shape := ⟨2, ![576, 6144]⟩
abbrev S6144x4096 : Shape := ⟨2, ![6144, 4096]⟩

abbrev nBuf : Space → Nat
  | .hbm => 12
  | .vmem => 0
  | .smem => 0
  | _ => 0

abbrev bufTy : (tb : Table) → Fin (tcTables nBuf tb) → BufTy
  | .hbm, ⟨0, _⟩ => ⟨S128x4x4096, .f32⟩
  | .hbm, ⟨1, _⟩ => ⟨S16x4096, .f32⟩
  | .hbm, ⟨2, _⟩ => ⟨S1x4096x12336, .f32⟩
  | .hbm, ⟨3, _⟩ => ⟨S4096x12336, .f32⟩
  | .hbm, ⟨4, _⟩ => ⟨S4096x6144, .f32⟩
  | .hbm, ⟨5, _⟩ => ⟨S512x4096, .f32⟩
  | .hbm, ⟨6, _⟩ => ⟨S_, .f32⟩
  | .hbm, ⟨7, _⟩ => ⟨S48x4096, .f32⟩
  | .hbm, ⟨8, _⟩ => ⟨S576x4096, .f32⟩
  | .hbm, ⟨9, _⟩ => ⟨S576x6144, .f32⟩
  | .hbm, ⟨10, _⟩ => ⟨S6144x4096, .f32⟩
  | .hbm, ⟨11, _⟩ => ⟨S6144x4096, .bf16⟩
  | _, _ => ⟨S128x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlpUp.lean ====
abbrev S512x4096 : Shape := ⟨2, ![512, 4096]⟩
abbrev S1x4096x16384 : Shape := ⟨3, ![1, 4096, 16384]⟩
abbrev S4096x16384 : Shape := ⟨2, ![4096, 16384]⟩
abbrev S512x16384 : Shape := ⟨2, ![512, 16384]⟩
abbrev S4096x512 : Shape := ⟨2, ![4096, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S1x4096x16384, .f32⟩
  | .hbm, ⟨2, _⟩ => ⟨S4096x16384, .f32⟩
  | .hbm, ⟨3, _⟩ => ⟨S512x16384, .bf16⟩
  | .hbm, ⟨4, _⟩ => ⟨S4096x16384, .bf16⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | .local _ .vmem, ⟨5, _⟩ => ⟨S4096x512, .bf16⟩
  | .local _ .vmem, ⟨6, _⟩ => ⟨S4096x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== MlpUpRefIdeal.lean ====
abbrev S512x4096 : Shape := ⟨2, ![512, 4096]⟩
abbrev S1x4096x16384 : Shape := ⟨3, ![1, 4096, 16384]⟩
abbrev S4096x16384 : Shape := ⟨2, ![4096, 16384]⟩
abbrev S512x16384 : Shape := ⟨2, ![512, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S1x4096x16384, .f32⟩
  | .hbm, ⟨2, _⟩ => ⟨S512x4096, .f32⟩
  | .hbm, ⟨3, _⟩ => ⟨S4096x16384, .f32⟩
  | .hbm, ⟨4, _⟩ => ⟨S512x16384, .f32⟩
  | .hbm, ⟨5, _⟩ => ⟨S_, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S512x16384, .bf16⟩
  | .hbm, ⟨10, _⟩ => ⟨S4096x16384, .f32⟩
  | .hbm, ⟨11, _⟩ => ⟨S4096x16384, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownProj.lean ====
abbrev S512x16384 : Shape := ⟨2, ![512, 16384]⟩
abbrev S1x16384x4096 : Shape := ⟨3, ![1, 16384, 4096]⟩
abbrev S512x4096 : Shape := ⟨2, ![512, 4096]⟩
abbrev S512x128 : Shape := ⟨2, ![512, 128]⟩
abbrev S1x4096 : Shape := ⟨2, ![1, 4096]⟩
abbrev S16384x4096 : Shape := ⟨2, ![16384, 4096]⟩
abbrev S4096 : Shape := ⟨1, ![4096]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S512x16384, .bf16⟩
  | .hbm, ⟨1, _⟩ => ⟨S1x16384x4096, .f32⟩
  | .hbm, ⟨2, _⟩ => ⟨S512x4096, .f32⟩
  | .hbm, ⟨3, _⟩ => ⟨S512x128, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S512x4096, .f32⟩
  | .hbm, ⟨12, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S2048x1024, .bf16⟩
  | .local _ .vmem, ⟨14, _⟩ => ⟨S2048x1024, .bf16⟩
  | .local _ .vmem, ⟨15, _⟩ => ⟨S512x1024, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]
-- ==== DownProjRefIdeal.lean ====
abbrev S512x16384 : Shape := ⟨2, ![512, 16384]⟩
abbrev S1x16384x4096 : Shape := ⟨3, ![1, 16384, 4096]⟩
abbrev S512x4096 : Shape := ⟨2, ![512, 4096]⟩
abbrev S512x128 : Shape := ⟨2, ![512, 128]⟩
abbrev S1x4096 : Shape := ⟨2, ![1, 4096]⟩
abbrev S512x1 : Shape := ⟨2, ![512, 1]⟩
abbrev S4096 : Shape := ⟨1, ![4096]⟩
abbrev S_ : Shape := ⟨0, ![]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S1x16384x4096, .f32⟩
  | .hbm, ⟨2, _⟩ => ⟨S512x4096, .f32⟩
  | .hbm, ⟨3, _⟩ => ⟨S512x128, .f32⟩
  | .hbm, ⟨4, _⟩ => ⟨S1x4096, .f32⟩
  | .hbm, ⟨5, _⟩ => ⟨S1x4096, .f32⟩
  | .hbm, ⟨6, _⟩ => ⟨S512x1, .f32⟩
  | .hbm, ⟨7, _⟩ => ⟨S512x1, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S512x4096, .f32⟩
  | .hbm, ⟨12, _⟩ => ⟨S4096, .f32⟩
  | .hbm, ⟨13, _⟩ => ⟨S1x4096, .f32⟩
  | .hbm, ⟨14, _⟩ => ⟨S512x4096, .f32⟩
  | .hbm, ⟨15, _⟩ => ⟨S512x4096, .f32⟩
  | .hbm, ⟨16, _⟩ => ⟨S4096, .f32⟩
  | .hbm, ⟨17, _⟩ => ⟨S1x4096, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S512x16384, .f32⟩
  | .hbm, ⟨24, _⟩ => ⟨S16384x4096, .f32⟩
  | .hbm, ⟨25, _⟩ => ⟨S512x4096, .f32⟩
  | .hbm, ⟨26, _⟩ => ⟨S512x4096, .f32⟩
  | .hbm, ⟨27, _⟩ => ⟨S16384x4096, .f32⟩
  | .hbm, ⟨28, _⟩ => ⟨S16384x4096, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== InProjGla.lean ====
abbrev S128x4x4096 : Shape := ⟨3, ![128, 4, 4096]⟩
abbrev S16x4096 : Shape := ⟨2, ![16, 4096]⟩
abbrev S1x4096x12336 : Shape := ⟨3, ![1, 4096, 12336]⟩
abbrev S512x4096 : Shape := ⟨2, ![512, 4096]⟩
abbrev S_ : Shape := ⟨0, ![]⟩
abbrev S48x4096 : Shape := ⟨2, ![48, 4096]⟩
abbrev S576x4096 : Shape := ⟨2, ![576, 4096]⟩
abbrev S4096x12336 : Shape := ⟨2, ![4096, 12336]⟩
abbrev S12336x4096 : Shape := ⟨2, ![12336, 4096]⟩
abbrev S576x6144 : Shape := ⟨2, ![576, 6144]⟩
abbrev S6144x4096 : Shape := ⟨2, ![6144, 4096]⟩
abbrev S576x512 : Shape := ⟨2, ![576, 512]⟩

abbrev nBuf : Space → Nat
  | .hbm => 12
  | .vmem => 7
  | .smem => 0
  | _ => 0

abbrev bufTy : (tb : Table) → Fin (tcTables nBuf tb) → BufTy
  | .hbm, ⟨0, _⟩ => ⟨S128x4x4096, .f32⟩
  | .hbm, ⟨1, _⟩ => ⟨S16x4096, .f32⟩
  | .hbm, ⟨2, _⟩ => ⟨S1x4096x12336, .f32⟩
  | .hbm, ⟨3, _⟩ => ⟨S512x4096, .f32⟩
  | .hbm, ⟨4, _⟩ => ⟨S_, .f32⟩
  | .hbm, ⟨5, _⟩ => ⟨S48x4096, .f32⟩
  | .hbm, ⟨6, _⟩ => ⟨S576x4096, .f32⟩
  | .hbm, ⟨7, _⟩ => ⟨S576x4096, .bf16⟩
  | .hbm, ⟨8, _⟩ => ⟨S4096x12336, .f32⟩
  | .hbm, ⟨9, _⟩ => ⟨S12336x4096, .f32⟩
  | .hbm, ⟨10, _⟩ => ⟨S576x6144, .f32⟩
  | .hbm, ⟨11, _⟩ => ⟨S6144x4096, .bf16⟩
  | .local _ .vmem, ⟨0, _⟩ => ⟨S576x4096, .bf16⟩
  | .local _ .vmem, ⟨1, _⟩ => ⟨S512x4096, .f32⟩
  | .local _ .vmem, ⟨2, _⟩ => ⟨S512x4096, .f32⟩
  | .local _ .vmem, ⟨3, _⟩ => ⟨S576x512, .f32⟩
  | .local _ .vmem, ⟨4, _⟩ => ⟨S576x512, .f32⟩
  | .local _ .vmem, ⟨5, _⟩ => ⟨S512x4096, .bf16⟩
  | .local _ .vmem, ⟨6, _⟩ => ⟨S512x4096, .bf16⟩
  | _, _ => ⟨S128x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S576x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== InProjGlaRefIdeal.lean ====
abbrev S128x4x4096 : Shape := ⟨3, ![128, 4, 4096]⟩
abbrev S16x4096 : Shape := ⟨2, ![16, 4096]⟩
abbrev S1x4096x12336 : Shape := ⟨3, ![1, 4096, 12336]⟩
abbrev S4096x12336 : Shape := ⟨2, ![4096, 12336]⟩
abbrev S4096x6144 : Shape := ⟨2, ![4096, 6144]⟩
abbrev S512x4096 : Shape := ⟨2, ![512, 4096]⟩
abbrev S_ : Shape := ⟨0, ![]⟩
abbrev S48x4096 : Shape := ⟨2, ![48, 4096]⟩
abbrev S576x4096 : Shape := ⟨2, ![576, 4096]⟩
abbrev S576x6144 : Shape := ⟨2, ![576, 6144]⟩
abbrev S6144x4096 : Shape := ⟨2, ![6144, 4096]⟩

abbrev nBuf : Space → Nat
  | .hbm => 12
  | .vmem => 0
  | .smem => 0
  | _ => 0

abbrev bufTy : (tb : Table) → Fin (tcTables nBuf tb) → BufTy
  | .hbm, ⟨0, _⟩ => ⟨S128x4x4096, .f32⟩
  | .hbm, ⟨1, _⟩ => ⟨S16x4096, .f32⟩
  | .hbm, ⟨2, _⟩ => ⟨S1x4096x12336, .f32⟩
  | .hbm, ⟨3, _⟩ => ⟨S4096x12336, .f32⟩
  | .hbm, ⟨4, _⟩ => ⟨S4096x6144, .f32⟩
  | .hbm, ⟨5, _⟩ => ⟨S512x4096, .f32⟩
  | .hbm, ⟨6, _⟩ => ⟨S_, .f32⟩
  | .hbm, ⟨7, _⟩ => ⟨S48x4096, .f32⟩
  | .hbm, ⟨8, _⟩ => ⟨S576x4096, .f32⟩
  | .hbm, ⟨9, _⟩ => ⟨S576x6144, .f32⟩
  | .hbm, ⟨10, _⟩ => ⟨S6144x4096, .f32⟩
  | .hbm, ⟨11, _⟩ => ⟨S6144x4096, .bf16⟩
  | _, _ => ⟨S128x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutProj.lean ====
abbrev S512x2048 : Shape := ⟨2, ![512, 2048]⟩
abbrev S1x4096x4096 : Shape := ⟨3, ![1, 4096, 4096]⟩
abbrev S128x4x4096 : Shape := ⟨3, ![128, 4, 4096]⟩
abbrev S4096x4096 : Shape := ⟨2, ![4096, 4096]⟩
abbrev S512x4096 : Shape := ⟨2, ![512, 4096]⟩
abbrev S2048x4096 : Shape := ⟨2, ![2048, 4096]⟩
abbrev S2048x512 : Shape := ⟨2, ![2048, 512]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S1x4096x4096, .f32⟩
  | .hbm, ⟨3, _⟩ => ⟨S128x4x4096, .f32⟩
  | .hbm, ⟨4, _⟩ => ⟨S4096x4096, .f32⟩
  | .hbm, ⟨5, _⟩ => ⟨S4096x4096, .f32⟩
  | .hbm, ⟨6, _⟩ => ⟨S512x4096, .f32⟩
  | .hbm, ⟨7, _⟩ => ⟨S512x4096, .f32⟩
  | .hbm, ⟨8, _⟩ => ⟨S2048x4096, .bf16⟩
  | .hbm, ⟨9, _⟩ => ⟨S2048x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== OutProjRefIdeal.lean ====
abbrev S512x2048 : Shape := ⟨2, ![512, 2048]⟩
abbrev S1x4096x4096 : Shape := ⟨3, ![1, 4096, 4096]⟩
abbrev S128x4x4096 : Shape := ⟨3, ![128, 4, 4096]⟩
abbrev S512x4096 : Shape := ⟨2, ![512, 4096]⟩
abbrev S4096x4096 : Shape := ⟨2, ![4096, 4096]⟩
abbrev S_ : Shape := ⟨0, ![]⟩
abbrev S2048x4096 : Shape := ⟨2, ![2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S1x4096x4096, .f32⟩
  | .hbm, ⟨3, _⟩ => ⟨S128x4x4096, .f32⟩
  | .hbm, ⟨4, _⟩ => ⟨S512x4096, .f32⟩
  | .hbm, ⟨5, _⟩ => ⟨S512x4096, .bf16⟩
  | .hbm, ⟨6, _⟩ => ⟨S512x4096, .f32⟩
  | .hbm, ⟨7, _⟩ => ⟨S4096x4096, .f32⟩
  | .hbm, ⟨8, _⟩ => ⟨S512x4096, .f32⟩
  | .hbm, ⟨9, _⟩ => ⟨S_, .f32⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S4096x4096, .f32⟩
  | .hbm, ⟨14, _⟩ => ⟨S2048x4096, .f32⟩
  | .hbm, ⟨15, _⟩ => ⟨S2048x4096, .bf16⟩
  | .hbm, ⟨16, _⟩ => ⟨S4096x4096, .f32⟩
  | .hbm, ⟨17, _⟩ => ⟨S2048x4096, .f32⟩
  | .hbm, ⟨18, _⟩ => ⟨S2048x4096, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormStats.lean ====
abbrev S512x4096 : Shape := ⟨2, ![512, 4096]⟩
abbrev S1x4096 : Shape := ⟨2, ![1, 4096]⟩
abbrev S4096 : Shape := ⟨1, ![4096]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S512x4096, .bf16⟩
  | .hbm, ⟨8, _⟩ => ⟨S512x128, .f32⟩
  | .local _ .vmem, ⟨0, _⟩ => ⟨S512x4096, .f32⟩
  | .local _ .vmem, ⟨1, _⟩ => ⟨S1x4096, .f32⟩
  | .local _ .vmem, ⟨2, _⟩ => ⟨S1x4096, .f32⟩
  | .local _ .vmem, ⟨3, _⟩ => ⟨S512x4096, .bf16⟩
  | .local _ .vmem, ⟨4, _⟩ => ⟨S512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== NormStatsRefIdeal.lean ====
abbrev S512x4096 : Shape := ⟨2, ![512, 4096]⟩
abbrev S1x4096 : Shape := ⟨2, ![1, 4096]⟩
abbrev S_ : Shape := ⟨0, ![]⟩
abbrev S512 : Shape := ⟨1, ![512]⟩
abbrev S512x1 : Shape := ⟨2, ![512, 1]⟩
abbrev S4096 : Shape := ⟨1, ![4096]⟩
abbrev S512x126 : Shape := ⟨2, ![512, 126]⟩
abbrev S512x128 : Shape := ⟨2, ![512, 128]⟩

abbrev nBuf : Space → Nat
  | .hbm => 38
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x4096, .f32⟩
  | .hbm, ⟨10, _⟩ => ⟨S512x4096, .f32⟩
  | .hbm, ⟨11, _⟩ => ⟨S512x4096, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x4096, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S4096, .f32⟩
  | .hbm, ⟨27, _⟩ => ⟨S1x4096, .f32⟩
  | .hbm, ⟨28, _⟩ => ⟨S512x4096, .f32⟩
  | .hbm, ⟨29, _⟩ => ⟨S512x4096, .f32⟩
  | .hbm, ⟨30, _⟩ => ⟨S4096, .f32⟩
  | .hbm, ⟨31, _⟩ => ⟨S1x4096, .f32⟩
  | .hbm, ⟨32, _⟩ => ⟨S512x4096, .f32⟩
  | .hbm, ⟨33, _⟩ => ⟨S512x4096, .f32⟩
  | .hbm, ⟨34, _⟩ => ⟨S512x4096, .bf16⟩
  | .hbm, ⟨35, _⟩ => ⟨S_, .f32⟩
  | .hbm, ⟨36, _⟩ => ⟨S512x126, .f32⟩
  | .hbm, ⟨37, _⟩ => ⟨S512x128, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== NormSample.lean ====
abbrev S512x4096 : Shape := ⟨2, ![512, 4096]⟩
abbrev S1x4096 : Shape := ⟨2, ![1, 4096]⟩
abbrev S4096 : Shape := ⟨1, ![4096]⟩
abbrev S512 : Shape := ⟨1, ![512]⟩
abbrev S512x1 : Shape := ⟨2, ![512, 1]⟩

abbrev nBuf : Space → Nat
  | .hbm => 8
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S512x4096, .f32⟩
  | .local _ .vmem, ⟨0, _⟩ => ⟨S512x4096, .f32⟩
  | .local _ .vmem, ⟨1, _⟩ => ⟨S1x4096, .f32⟩
  | .local _ .vmem, ⟨2, _⟩ => ⟨S1x4096, .f32⟩
  | .local _ .vmem, ⟨3, _⟩ => ⟨S512x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== NormSampleIdeal.lean ====
abbrev S512x4096 : Shape := ⟨2, ![512, 4096]⟩
abbrev S1x4096 : Shape := ⟨2, ![1, 4096]⟩
abbrev S4096 : Shape := ⟨1, ![4096]⟩
abbrev S512 : Shape := ⟨1, ![512]⟩
abbrev S512x1 : Shape := ⟨2, ![512, 1]⟩

abbrev nBuf : Space → Nat
  | .hbm => 8
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S512x4096, .f32⟩
  | .local _ .vmem, ⟨0, _⟩ => ⟨S512x4096, .f32⟩
  | .local _ .vmem, ⟨1, _⟩ => ⟨S1x4096, .f32⟩
  | .local _ .vmem, ⟨2, _⟩ => ⟨S1x4096, .f32⟩
  | .local _ .vmem, ⟨3, _⟩ => ⟨S512x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== NormSampleRefIdeal.lean ====
abbrev S512x4096 : Shape := ⟨2, ![512, 4096]⟩
abbrev S1x4096 : Shape := ⟨2, ![1, 4096]⟩
abbrev S_ : Shape := ⟨0, ![]⟩
abbrev S512 : Shape := ⟨1, ![512]⟩
abbrev S512x1 : Shape := ⟨2, ![512, 1]⟩
abbrev S4096 : Shape := ⟨1, ![4096]⟩

abbrev nBuf : Space → Nat
  | .hbm => 34
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x4096, .f32⟩
  | .hbm, ⟨10, _⟩ => ⟨S512x4096, .f32⟩
  | .hbm, ⟨11, _⟩ => ⟨S512x4096, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x4096, .f32⟩
  | .hbm, ⟨25, _⟩ => ⟨S512x4096, .f32⟩
  | .hbm, ⟨26, _⟩ => ⟨S4096, .f32⟩
  | .hbm, ⟨27, _⟩ => ⟨S1x4096, .f32⟩
  | .hbm, ⟨28, _⟩ => ⟨S512x4096, .f32⟩
  | .hbm, ⟨29, _⟩ => ⟨S512x4096, .f32⟩
  | .hbm, ⟨30, _⟩ => ⟨S4096, .f32⟩
  | .hbm, ⟨31, _⟩ => ⟨S1x4096, .f32⟩
  | .hbm, ⟨32, _⟩ => ⟨S512x4096, .f32⟩
  | .hbm, ⟨33, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== NormPrompt.lean ====
abbrev S8192x4096 : Shape := ⟨2, ![8192, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormPromptRefIdeal.lean ====
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S4096 : Shape := ⟨1, ![4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== InProjSsdPrompt.lean ====
abbrev S4x2048x4096 : Shape := ⟨3, ![4, 2048, 4096]⟩
abbrev S6144x4096 : Shape := ⟨2, ![6144, 4096]⟩
abbrev S8192x4096 : Shape := ⟨2, ![8192, 4096]⟩
abbrev S8192x6144 : Shape := ⟨2, ![8192, 6144]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .bf16⟩
  | .hbm, ⟨2, _⟩ => ⟨S8192x4096, .f32⟩
  | .hbm, ⟨3, _⟩ => ⟨S8192x4096, .bf16⟩
  | .hbm, ⟨4, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjSsdPromptRefIdeal.lean ====
abbrev S4x2048x4096 : Shape := ⟨3, ![4, 2048, 4096]⟩
abbrev S6144x4096 : Shape := ⟨2, ![6144, 4096]⟩
abbrev S8192x4096 : Shape := ⟨2, ![8192, 4096]⟩
abbrev S4096x6144 : Shape := ⟨2, ![4096, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .bf16⟩
  | .hbm, ⟨2, _⟩ => ⟨S8192x4096, .f32⟩
  | .hbm, ⟨3, _⟩ => ⟨S6144x4096, .f32⟩
  | .hbm, ⟨4, _⟩ => ⟨S4096x6144, .f32⟩
  | .hbm, ⟨5, _⟩ => ⟨S8192x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mixers.lean ====
abbrev S576x6144 : Shape := ⟨2, ![576, 6144]⟩
abbrev S576x128 : Shape := ⟨2, ![576, 128]⟩
abbrev S1x16x1024 : Shape := ⟨3, ![1, 16, 1024]⟩
abbrev S1x1024 : Shape := ⟨2, ![1, 1024]⟩
abbrev S1x512 : Shape := ⟨2, ![1, 512]⟩
abbrev S1x4x4096 : Shape := ⟨3, ![1, 4, 4096]⟩
abbrev S1x4096 : Shape := ⟨2, ![1, 4096]⟩
abbrev S1x32 : Shape := ⟨2, ![1, 32]⟩
abbrev S1x2048 : Shape := ⟨2, ![1, 2048]⟩
abbrev S1x128x4x256x512 : Shape := ⟨5, ![1, 128, 4, 256, 512]⟩
abbrev S1x128x3x4096 : Shape := ⟨4, ![1, 128, 3, 4096]⟩
abbrev S1x128x32x64x128 : Shape := ⟨5, ![1, 128, 32, 64, 128]⟩
abbrev S16x1024 : Shape := ⟨2, ![16, 1024]⟩
abbrev S_ : Shape := ⟨0, ![]⟩
abbrev S112x1024 : Shape := ⟨2, ![112, 1024]⟩
abbrev S128x1024 : Shape := ⟨2, ![128, 1024]⟩
abbrev S1024 : Shape := ⟨1, ![1024]⟩
abbrev S512 : Shape := ⟨1, ![512]⟩
abbrev S4x4096 : Shape := ⟨2, ![4, 4096]⟩
abbrev S4096 : Shape := ⟨1, ![4096]⟩
abbrev S32 : Shape := ⟨1, ![32]⟩
abbrev S1x128 : Shape := ⟨2, ![1, 128]⟩
abbrev S1 : Shape := ⟨1, ![1]⟩
abbrev S2 : Shape := ⟨1, ![2]⟩
abbrev S8x128x256 : Shape := ⟨3, ![8, 128, 256]⟩
abbrev S32x64 : Shape := ⟨2, ![32, 64]⟩
abbrev S2048 : Shape := ⟨1, ![2048]⟩
abbrev S128x4x256x512 : Shape := ⟨4, ![128, 4, 256, 512]⟩
abbrev S128x3x4096 : Shape := ⟨3, ![128, 3, 4096]⟩
abbrev S128x32x64x128 : Shape := ⟨4, ![128, 32, 64, 128]⟩
abbrev S512x2048 : Shape := ⟨2, ![512, 2048]⟩
abbrev S16x512 : Shape := ⟨2, ![16, 512]⟩
abbrev S16x128 : Shape := ⟨2, ![16, 128]⟩
abbrev S128x512 : Shape := ⟨2, ![128, 512]⟩
abbrev S4x2x256x512 : Shape := ⟨4, ![4, 2, 256, 512]⟩
abbrev S4x1024 : Shape := ⟨2, ![4, 1024]⟩
abbrev S4x512 : Shape := ⟨2, ![4, 512]⟩
abbrev S4x128x256 : Shape := ⟨3, ![4, 128, 256]⟩
abbrev S4x3x1024 : Shape := ⟨3, ![4, 3, 1024]⟩
abbrev S4x3x512 : Shape := ⟨3, ![4, 3, 512]⟩
abbrev S4x16x64x128 : Shape := ⟨4, ![4, 16, 64, 128]⟩
abbrev S40x2048 : Shape := ⟨2, ![40, 2048]⟩
abbrev S32x2048 : Shape := ⟨2, ![32, 2048]⟩
abbrev S16x2048 : Shape := ⟨2, ![16, 2048]⟩
abbrev S256x256 : Shape := ⟨2, ![256, 256]⟩
abbrev S16x16 : Shape := ⟨2, ![16, 16]⟩
abbrev S128x256 : Shape := ⟨2, ![128, 256]⟩
abbrev S1x256 : Shape := ⟨2, ![1, 256]⟩
abbrev S16x256 : Shape := ⟨2, ![16, 256]⟩
abbrev S112x256 : Shape := ⟨2, ![112, 256]⟩
abbrev S112x512 : Shape := ⟨2, ![112, 512]⟩
abbrev S256x128 : Shape := ⟨2, ![256, 128]⟩
abbrev S16x1 : Shape := ⟨2, ![16, 1]⟩
abbrev S1x1x256x512 : Shape := ⟨4, ![1, 1, 256, 512]⟩
abbrev S256x512 : Shape := ⟨2, ![256, 512]⟩
abbrev S256 : Shape := ⟨1, ![256]⟩
abbrev S256x1 : Shape := ⟨2, ![256, 1]⟩
abbrev S16 : Shape := ⟨1, ![16]⟩
abbrev S1x3x1024 : Shape := ⟨3, ![1, 3, 1024]⟩
abbrev S3x1024 : Shape := ⟨2, ![3, 1024]⟩
abbrev S1x3x512 : Shape := ⟨3, ![1, 3, 512]⟩
abbrev S3x512 : Shape := ⟨2, ![3, 512]⟩
abbrev S4x2048 : Shape := ⟨2, ![4, 2048]⟩
abbrev S1x128x256 : Shape := ⟨3, ![1, 128, 256]⟩
abbrev S112x128 : Shape := ⟨2, ![112, 128]⟩
abbrev S128x128 : Shape := ⟨2, ![128, 128]⟩
abbrev S48x128 : Shape := ⟨2, ![48, 128]⟩
abbrev S64x128 : Shape := ⟨2, ![64, 128]⟩
abbrev S48x256 : Shape := ⟨2, ![48, 256]⟩
abbrev S64x256 : Shape := ⟨2, ![64, 256]⟩
abbrev S1x4x64x128 : Shape := ⟨4, ![1, 4, 64, 128]⟩
abbrev S4x64x128 : Shape := ⟨3, ![4, 64, 128]⟩

abbrev nBuf : Space → Nat
  | .hbm => 93
  | .vmem => 66
  | .smem => 0
  | _ => 0

abbrev bufTy : (tb : Table) → Fin (tcTables nBuf tb) → BufTy
  | .hbm, ⟨0, _⟩ => ⟨S576x6144, .f32⟩
  | .hbm, ⟨1, _⟩ => ⟨S576x6144, .f32⟩
  | .hbm, ⟨2, _⟩ => ⟨S576x128, .f32⟩
  | .hbm, ⟨3, _⟩ => ⟨S1x16x1024, .f32⟩
  | .hbm, ⟨4, _⟩ => ⟨S1x1024, .f32⟩
  | .hbm, ⟨5, _⟩ => ⟨S1x512, .f32⟩
  | .hbm, ⟨6, _⟩ => ⟨S1x4x4096, .f32⟩
  | .hbm, ⟨7, _⟩ => ⟨S1x4096, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x2048, .f32⟩
  | .hbm, ⟨12, _⟩ => ⟨S1x128x4x256x512, .f32⟩
  | .hbm, ⟨13, _⟩ => ⟨S1x128x3x4096, .f32⟩
  | .hbm, ⟨14, _⟩ => ⟨S1x128x32x64x128, .f32⟩
  | .hbm, ⟨15, _⟩ => ⟨S16x1024, .f32⟩
  | .hbm, ⟨16, _⟩ => ⟨S_, .f32⟩
  | .hbm, ⟨17, _⟩ => ⟨S112x1024, .f32⟩
  | .hbm, ⟨18, _⟩ => ⟨S128x1024, .f32⟩
  | .hbm, ⟨19, _⟩ => ⟨S128x1024, .bf16⟩
  | .hbm, ⟨20, _⟩ => ⟨S1024, .f32⟩
  | .hbm, ⟨21, _⟩ => ⟨S1x1024, .f32⟩
  | .hbm, ⟨22, _⟩ => ⟨S512, .f32⟩
  | .hbm, ⟨23, _⟩ => ⟨S1x512, .f32⟩
  | .hbm, ⟨24, _⟩ => ⟨S4x4096, .f32⟩
  | .hbm, ⟨25, _⟩ => ⟨S4096, .f32⟩
  | .hbm, ⟨26, _⟩ => ⟨S1x4096, .f32⟩
  | .hbm, ⟨27, _⟩ => ⟨S32, .f32⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S32, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S8x128x256, .i32⟩
  | .hbm, ⟨46, _⟩ => ⟨S8x128x256, .i32⟩
  | .hbm, ⟨47, _⟩ => ⟨S8x128x256, .i32⟩
  | .hbm, ⟨48, _⟩ => ⟨S_, .i32⟩
  | .hbm, ⟨49, _⟩ => ⟨S8x128x256, .i32⟩
  | .hbm, ⟨50, _⟩ => ⟨S8x128x256, .i32⟩
  | .hbm, ⟨51, _⟩ => ⟨S_, .i32⟩
  | .hbm, ⟨52, _⟩ => ⟨S8x128x256, .i32⟩
  | .hbm, ⟨53, _⟩ => ⟨S8x128x256, .i32⟩
  | .hbm, ⟨54, _⟩ => ⟨S_, .i32⟩
  | .hbm, ⟨55, _⟩ => ⟨S_, .i32⟩
  | .hbm, ⟨56, _⟩ => ⟨S8x128x256, .i32⟩
  | .hbm, ⟨57, _⟩ => ⟨S8x128x256, .i32⟩
  | .hbm, ⟨58, _⟩ => ⟨S8x128x256, .i32⟩
  | .hbm, ⟨59, _⟩ => ⟨S_, .i32⟩
  | .hbm, ⟨60, _⟩ => ⟨S8x128x256, .i32⟩
  | .hbm, ⟨61, _⟩ => ⟨S8x128x256, .i1⟩
  | .hbm, ⟨62, _⟩ => ⟨S8x128x256, .i32⟩
  | .hbm, ⟨63, _⟩ => ⟨S8x128x256, .i32⟩
  | .hbm, ⟨64, _⟩ => ⟨S_, .i32⟩
  | .hbm, ⟨65, _⟩ => ⟨S8x128x256, .i32⟩
  | .hbm, ⟨66, _⟩ => ⟨S8x128x256, .i1⟩
  | .hbm, ⟨67, _⟩ => ⟨S8x128x256, .i1⟩
  | .hbm, ⟨68, _⟩ => ⟨S_, .i32⟩
  | .hbm, ⟨69, _⟩ => ⟨S8x128x256, .i32⟩
  | .hbm, ⟨70, _⟩ => ⟨S8x128x256, .i32⟩
  | .hbm, ⟨71, _⟩ => ⟨S8x128x256, .i32⟩
  | .hbm, ⟨72, _⟩ => ⟨S8x128x256, .i32⟩
  | .hbm, ⟨73, _⟩ => ⟨S8x128x256, .i1⟩
  | .hbm, ⟨74, _⟩ => ⟨S_, .f32⟩
  | .hbm, ⟨75, _⟩ => ⟨S_, .f32⟩
  | .hbm, ⟨76, _⟩ => ⟨S8x128x256, .f32⟩
  | .hbm, ⟨77, _⟩ => ⟨S8x128x256, .f32⟩
  | .hbm, ⟨78, _⟩ => ⟨S8x128x256, .f32⟩
  | .hbm, ⟨79, _⟩ => ⟨S8x128x256, .bf16⟩
  | .hbm, ⟨80, _⟩ => ⟨S32, .f32⟩
  | .hbm, ⟨81, _⟩ => ⟨S32x64, .f32⟩
  | .hbm, ⟨82, _⟩ => ⟨S2048, .f32⟩
  | .hbm, ⟨83, _⟩ => ⟨S1x2048, .f32⟩
  | .hbm, ⟨84, _⟩ => ⟨S2048, .f32⟩
  | .hbm, ⟨85, _⟩ => ⟨S1x2048, .f32⟩
  | .hbm, ⟨86, _⟩ => ⟨S128x4x256x512, .f32⟩
  | .hbm, ⟨87, _⟩ => ⟨S128x3x4096, .f32⟩
  | .hbm, ⟨88, _⟩ => ⟨S128x32x64x128, .f32⟩
  | .hbm, ⟨89, _⟩ => ⟨S512x2048, .bf16⟩
  | .hbm, ⟨90, _⟩ => ⟨S128x4x256x512, .f32⟩
  | .hbm, ⟨91, _⟩ => ⟨S512x2048, .bf16⟩
  | .hbm, ⟨92, _⟩ => ⟨S128x32x64x128, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x128, .f32⟩
  | .local _ .vmem, ⟨9, _⟩ => ⟨S16x128, .f32⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S4x2x256x512, .f32⟩
  | .local _ .vmem, ⟨16, _⟩ => ⟨S4x2x256x512, .f32⟩
  | .local _ .vmem, ⟨17, _⟩ => ⟨S16x1024, .f32⟩
  | .local _ .vmem, ⟨18, _⟩ => ⟨S16x1024, .f32⟩
  | .local _ .vmem, ⟨19, _⟩ => ⟨S16x512, .f32⟩
  | .local _ .vmem, ⟨20, _⟩ => ⟨S16x512, .f32⟩
  | .local _ .vmem, ⟨21, _⟩ => ⟨S16x512, .f32⟩
  | .local _ .vmem, ⟨22, _⟩ => ⟨S16x512, .f32⟩
  | .local _ .vmem, ⟨23, _⟩ => ⟨S16x1024, .f32⟩
  | .local _ .vmem, ⟨24, _⟩ => ⟨S16x1024, .f32⟩
  | .local _ .vmem, ⟨25, _⟩ => ⟨S16x128, .f32⟩
  | .local _ .vmem, ⟨26, _⟩ => ⟨S16x128, .f32⟩
  | .local _ .vmem, ⟨27, _⟩ => ⟨S4x1024, .f32⟩
  | .local _ .vmem, ⟨28, _⟩ => ⟨S4x1024, .f32⟩
  | .local _ .vmem, ⟨29, _⟩ => ⟨S4x512, .f32⟩
  | .local _ .vmem, ⟨30, _⟩ => ⟨S4x512, .f32⟩
  | .local _ .vmem, ⟨31, _⟩ => ⟨S4x512, .f32⟩
  | .local _ .vmem, ⟨32, _⟩ => ⟨S4x512, .f32⟩
  | .local _ .vmem, ⟨33, _⟩ => ⟨S1x1024, .f32⟩
  | .local _ .vmem, ⟨34, _⟩ => ⟨S1x1024, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x128, .f32⟩
  | .local _ .vmem, ⟨40, _⟩ => ⟨S1x128, .f32⟩
  | .local _ .vmem, ⟨41, _⟩ => ⟨S4x128x256, .bf16⟩
  | .local _ .vmem, ⟨42, _⟩ => ⟨S4x128x256, .bf16⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S4x3x1024, .f32⟩
  | .local _ .vmem, ⟨48, _⟩ => ⟨S4x3x1024, .f32⟩
  | .local _ .vmem, ⟨49, _⟩ => ⟨S4x3x512, .f32⟩
  | .local _ .vmem, ⟨50, _⟩ => ⟨S4x3x512, .f32⟩
  | .local _ .vmem, ⟨51, _⟩ => ⟨S4x3x512, .f32⟩
  | .local _ .vmem, ⟨52, _⟩ => ⟨S4x3x512, .f32⟩
  | .local _ .vmem, ⟨53, _⟩ => ⟨S4x16x64x128, .f32⟩
  | .local _ .vmem, ⟨54, _⟩ => ⟨S4x16x64x128, .f32⟩
  | .local _ .vmem, ⟨55, _⟩ => ⟨S16x1024, .bf16⟩
  | .local _ .vmem, ⟨56, _⟩ => ⟨S16x1024, .bf16⟩
  | .local _ .vmem, ⟨57, _⟩ => ⟨S4x2x256x512, .f32⟩
  | .local _ .vmem, ⟨58, _⟩ => ⟨S4x2x256x512, .f32⟩
  | .local _ .vmem, ⟨59, _⟩ => ⟨S16x1024, .bf16⟩
  | .local _ .vmem, ⟨60, _⟩ => ⟨S16x1024, .bf16⟩
  | .local _ .vmem, ⟨61, _⟩ => ⟨S4x16x64x128, .f32⟩
  | .local _ .vmem, ⟨62, _⟩ => ⟨S4x16x64x128, .f32⟩
  | .local _ .vmem, ⟨63, _⟩ => ⟨S40x2048, .f32⟩
  | .local _ .vmem, ⟨64, _⟩ => ⟨S32x2048, .f32⟩
  | .local _ .vmem, ⟨65, _⟩ => ⟨S16x2048, .f32⟩
  | _, _ => ⟨S576x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_c : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_0 : Ref sig .tc := ⟨.hbm, 68, rfl⟩
abbrev main_call0_v12 : Ref sig .tc := ⟨.hbm, 69, rfl⟩
abbrev main_call0_v13 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_8 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44_0 : Ref sig .tc := ⟨.hbm, 89, rfl⟩
abbrev main_v44_1 : Ref sig .tc := ⟨.hbm, 90, rfl⟩
abbrev main_v44_2 : Ref sig .tc := ⟨.hbm, 91, rfl⟩
abbrev main_v44_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg21_0 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg26_1 : Ref sig .tc := ⟨.vmem, 50, rfl⟩
abbrev cc0_stg27_0 : Ref sig .tc := ⟨.vmem, 51, rfl⟩
abbrev cc0_stg27_1 : Ref sig .tc := ⟨.vmem, 52, rfl⟩
abbrev cc0_stg28_0 : Ref sig .tc := ⟨.vmem, 53, rfl⟩
abbrev cc0_stg28_1 : Ref sig .tc := ⟨.vmem, 54, rfl⟩
abbrev cc0_stg29_0 : Ref sig .tc := ⟨.vmem, 55, rfl⟩
abbrev cc0_stg29_1 : Ref sig .tc := ⟨.vmem, 56, rfl⟩
abbrev cc0_stg30_0 : Ref sig .tc := ⟨.vmem, 57, rfl⟩
abbrev cc0_stg30_1 : Ref sig .tc := ⟨.vmem, 58, rfl⟩
abbrev cc0_stg31_0 : Ref sig .tc := ⟨.vmem, 59, rfl⟩
abbrev cc0_stg31_1 : Ref sig .tc := ⟨.vmem, 60, rfl⟩
abbrev cc0_stg32_0 : Ref sig .tc := ⟨.vmem, 61, rfl⟩
abbrev cc0_stg32_1 : Ref sig .tc := ⟨.vmem, 62, rfl⟩
abbrev cc0_scratch0 : Ref sig .tc := ⟨.vmem, 63, rfl⟩
abbrev cc0_scratch1 : Ref sig .tc := ⟨.vmem, 64, rfl⟩
abbrev cc0_scratch2 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem21_0 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46
abbrev cc0_sem25_0 : DmaSem sig := 47
abbrev cc0_sem25_1 : DmaSem sig := 48
abbrev cc0_sem26_0 : DmaSem sig := 49
abbrev cc0_sem26_1 : DmaSem sig := 50
abbrev cc0_sem27_0 : DmaSem sig := 51
abbrev cc0_sem27_1 : DmaSem sig := 52
abbrev cc0_sem28_0 : DmaSem sig := 53
abbrev cc0_sem28_1 : DmaSem sig := 54
abbrev cc0_sem29_0 : DmaSem sig := 55
abbrev cc0_sem29_1 : DmaSem sig := 56
abbrev cc0_sem30_0 : DmaSem sig := 57
abbrev cc0_sem30_1 : DmaSem sig := 58
abbrev cc0_sem31_0 : DmaSem sig := 59
abbrev cc0_sem31_1 : DmaSem sig := 60
abbrev cc0_sem32_0 : DmaSem sig := 61
abbrev cc0_sem32_1 : DmaSem sig := 62

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_19 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_26 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_27 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_32 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x2x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S4x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S4x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S4x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S4x128x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S1x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S1x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![false, true]

abbrev stage0_25 : Fin 2 → Memref sig .tc .vmem S4x3x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S4x3x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S4x3x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S4x16x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S16x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S4x2x256x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S16x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S4x16x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]
-- ==== MixersRefIdeal.lean ====
abbrev S576x6144 : Shape := ⟨2, ![576, 6144]⟩
abbrev S576x128 : Shape := ⟨2, ![576, 128]⟩
abbrev S1x16x1024 : Shape := ⟨3, ![1, 16, 1024]⟩
abbrev S1x1024 : Shape := ⟨2, ![1, 1024]⟩
abbrev S1x512 : Shape := ⟨2, ![1, 512]⟩
abbrev S1x4x4096 : Shape := ⟨3, ![1, 4, 4096]⟩
abbrev S1x4096 : Shape := ⟨2, ![1, 4096]⟩
abbrev S1x32 : Shape := ⟨2, ![1, 32]⟩
abbrev S1x2048 : Shape := ⟨2, ![1, 2048]⟩
abbrev S1x128x4x256x512 : Shape := ⟨5, ![1, 128, 4, 256, 512]⟩
abbrev S1x128x3x4096 : Shape := ⟨4, ![1, 128, 3, 4096]⟩
abbrev S1x128x32x64x128 : Shape := ⟨5, ![1, 128, 32, 64, 128]⟩
abbrev S512x1024 : Shape := ⟨2, ![512, 1024]⟩
abbrev S128x4x4x256 : Shape := ⟨4, ![128, 4, 4, 256]⟩
abbrev S512x2048 : Shape := ⟨2, ![512, 2048]⟩
abbrev S128x4x4x512 : Shape := ⟨4, ![128, 4, 4, 512]⟩
abbrev S512x16 : Shape := ⟨2, ![512, 16]⟩
abbrev S16x1024 : Shape := ⟨2, ![16, 1024]⟩
abbrev S1024 : Shape := ⟨1, ![1024]⟩
abbrev S_ : Shape := ⟨0, ![]⟩
abbrev S128x1x4x256 : Shape := ⟨4, ![128, 1, 4, 256]⟩
abbrev S128x4x256 : Shape := ⟨3, ![128, 4, 256]⟩
abbrev S128x4x256x1 : Shape := ⟨4, ![128, 4, 256, 1]⟩
abbrev S128x4x256x512 : Shape := ⟨4, ![128, 4, 256, 512]⟩

abbrev nBuf : Space → Nat
  | .hbm => 63
  | .vmem => 0
  | .smem => 0
  | _ => 0

abbrev bufTy : (tb : Table) → Fin (tcTables nBuf tb) → BufTy
  | .hbm, ⟨0, _⟩ => ⟨S576x6144, .f32⟩
  | .hbm, ⟨1, _⟩ => ⟨S576x6144, .f32⟩
  | .hbm, ⟨2, _⟩ => ⟨S576x128, .f32⟩
  | .hbm, ⟨3, _⟩ => ⟨S1x16x1024, .f32⟩
  | .hbm, ⟨4, _⟩ => ⟨S1x1024, .f32⟩
  | .hbm, ⟨5, _⟩ => ⟨S1x512, .f32⟩
  | .hbm, ⟨6, _⟩ => ⟨S1x4x4096, .f32⟩
  | .hbm, ⟨7, _⟩ => ⟨S1x4096, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x2048, .f32⟩
  | .hbm, ⟨12, _⟩ => ⟨S1x128x4x256x512, .f32⟩
  | .hbm, ⟨13, _⟩ => ⟨S1x128x3x4096, .f32⟩
  | .hbm, ⟨14, _⟩ => ⟨S1x128x32x64x128, .f32⟩
  | .hbm, ⟨15, _⟩ => ⟨S512x1024, .f32⟩
  | .hbm, ⟨16, _⟩ => ⟨S128x4x4x256, .f32⟩
  | .hbm, ⟨17, _⟩ => ⟨S512x2048, .f32⟩
  | .hbm, ⟨18, _⟩ => ⟨S128x4x4x512, .f32⟩
  | .hbm, ⟨19, _⟩ => ⟨S512x16, .f32⟩
  | .hbm, ⟨20, _⟩ => ⟨S16x1024, .f32⟩
  | .hbm, ⟨21, _⟩ => ⟨S512x1024, .f32⟩
  | .hbm, ⟨22, _⟩ => ⟨S1024, .f32⟩
  | .hbm, ⟨23, _⟩ => ⟨S1x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S512x1024, .i1⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S128x4x4x256, .f32⟩
  | .hbm, ⟨46, _⟩ => ⟨S_, .f32⟩
  | .hbm, ⟨47, _⟩ => ⟨S_, .f32⟩
  | .hbm, ⟨48, _⟩ => ⟨S128x4x4x256, .f32⟩
  | .hbm, ⟨49, _⟩ => ⟨S128x1x4x256, .f32⟩
  | .hbm, ⟨50, _⟩ => ⟨S128x4x256, .f32⟩
  | .hbm, ⟨51, _⟩ => ⟨S128x4x256, .f32⟩
  | .hbm, ⟨52, _⟩ => ⟨S128x4x256x1, .f32⟩
  | .hbm, ⟨53, _⟩ => ⟨S128x4x256x512, .f32⟩
  | .hbm, ⟨54, _⟩ => ⟨S128x4x256x512, .f32⟩
  | .hbm, ⟨55, _⟩ => ⟨S128x4x256x512, .f32⟩
  | .hbm, ⟨56, _⟩ => ⟨S128x1x4x256, .f32⟩
  | .hbm, ⟨57, _⟩ => ⟨S128x4x4x256, .f32⟩
  | .hbm, ⟨58, _⟩ => ⟨S128x4x4x256, .f32⟩
  | .hbm, ⟨59, _⟩ => ⟨S128x4x4x256, .f32⟩
  | .hbm, ⟨60, _⟩ => ⟨S128x4x4x256, .f32⟩
  | .hbm, ⟨61, _⟩ => ⟨S128x4x256x512, .f32⟩
  | .hbm, ⟨62, _⟩ => ⟨S128x4x256x512, .f32⟩
  | _, _ => ⟨S576x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_call1_call0_cst : Ref sig .tc := ⟨.hbm, 46, rfl⟩
abbrev main_call1_call0_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]
-- ==== MlpUpPrompt.lean ====
abbrev S8192x4096 : Shape := ⟨2, ![8192, 4096]⟩
abbrev S4096x16384 : Shape := ⟨2, ![4096, 16384]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpUpPromptRefIdeal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x4096, .f32⟩
  | .hbm, ⟨3, _⟩ => ⟨S4096x16384, .f32⟩
  | .hbm, ⟨4, _⟩ => ⟨S8192x16384, .f32⟩
  | .hbm, ⟨5, _⟩ => ⟨S_, .f32⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownProjPrompt.lean ====
abbrev S8192x16384 : Shape := ⟨2, ![8192, 16384]⟩
abbrev S16384x4096 : Shape := ⟨2, ![16384, 4096]⟩
abbrev S8192x4096 : Shape := ⟨2, ![8192, 4096]⟩
abbrev S8192x128 : Shape := ⟨2, ![8192, 128]⟩
abbrev S1x4096 : Shape := ⟨2, ![1, 4096]⟩
abbrev S4096 : Shape := ⟨1, ![4096]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1x1024 : Shape := ⟨2, ![1, 1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S8192x128, .f32⟩
  | .hbm, ⟨4, _⟩ => ⟨S1x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DownProjPromptRefIdeal.lean ====
abbrev S8192x16384 : Shape := ⟨2, ![8192, 16384]⟩
abbrev S16384x4096 : Shape := ⟨2, ![16384, 4096]⟩
abbrev S8192x4096 : Shape := ⟨2, ![8192, 4096]⟩
abbrev S8192x128 : Shape := ⟨2, ![8192, 128]⟩
abbrev S1x4096 : Shape := ⟨2, ![1, 4096]⟩
abbrev S8192x1 : Shape := ⟨2, ![8192, 1]⟩
abbrev S4096 : Shape := ⟨1, ![4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S8192x128, .f32⟩
  | .hbm, ⟨4, _⟩ => ⟨S1x4096, .f32⟩
  | .hbm, ⟨5, _⟩ => ⟨S1x4096, .f32⟩
  | .hbm, ⟨6, _⟩ => ⟨S8192x1, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x16384, .f32⟩
  | .hbm, ⟨24, _⟩ => ⟨S16384x4096, .f32⟩
  | .hbm, ⟨25, _⟩ => ⟨S8192x4096, .f32⟩
  | .hbm, ⟨26, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InProjGlaPrompt.lean ====
abbrev S4x2048x4096 : Shape := ⟨3, ![4, 2048, 4096]⟩
abbrev S6144x4096 : Shape := ⟨2, ![6144, 4096]⟩
abbrev S8192x4096 : Shape := ⟨2, ![8192, 4096]⟩
abbrev S8192x6144 : Shape := ⟨2, ![8192, 6144]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .bf16⟩
  | .hbm, ⟨2, _⟩ => ⟨S8192x4096, .f32⟩
  | .hbm, ⟨3, _⟩ => ⟨S8192x4096, .bf16⟩
  | .hbm, ⟨4, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjGlaPromptRefIdeal.lean ====
abbrev S4x2048x4096 : Shape := ⟨3, ![4, 2048, 4096]⟩
abbrev S6144x4096 : Shape := ⟨2, ![6144, 4096]⟩
abbrev S8192x4096 : Shape := ⟨2, ![8192, 4096]⟩
abbrev S4096x6144 : Shape := ⟨2, ![4096, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .bf16⟩
  | .hbm, ⟨2, _⟩ => ⟨S8192x4096, .f32⟩
  | .hbm, ⟨3, _⟩ => ⟨S6144x4096, .f32⟩
  | .hbm, ⟨4, _⟩ => ⟨S4096x6144, .f32⟩
  | .hbm, ⟨5, _⟩ => ⟨S8192x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProjPrompt.lean ====
abbrev S8192x2048 : Shape := ⟨2, ![8192, 2048]⟩
abbrev S2048x4096 : Shape := ⟨2, ![2048, 4096]⟩
abbrev S4x2048x4096 : Shape := ⟨3, ![4, 2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S4x2048x4096, .f32⟩
  | .hbm, ⟨5, _⟩ => ⟨S8192x4096, .f32⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjPromptRefIdeal.lean ====
abbrev S8192x2048 : Shape := ⟨2, ![8192, 2048]⟩
abbrev S2048x4096 : Shape := ⟨2, ![2048, 4096]⟩
abbrev S4x2048x4096 : Shape := ⟨3, ![4, 2048, 4096]⟩
abbrev S8192x4096 : Shape := ⟨2, ![8192, 4096]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S4x2048x4096, .f32⟩
  | .hbm, ⟨5, _⟩ => ⟨S8192x4096, .f32⟩
  | .hbm, ⟨6, _⟩ => ⟨S4096x4096, .bf16⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.InProjValue.lean ====
module

public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Where each window's block lies at each step of the grid. -/
theorem idx : ∀ t : Fin cfg0.N, win0_0.index t = ![0, 0] ∧ win0_1.index t = ![6160 + 512 * t.val, 0]
    ∧ win0_2.index t = ![0, t.val] ∧ win0_3.index t = ![t.val, 0] :=
  (by decide +kernel : ∀ t : Fin grid0.N, _)

/-- The reference's product over the kernel's arguments. -/
abbrev REF (a0 : FVec Ideal S128x4x4096 .f32) (a1 : FVec Ideal S16x4096 .f32) (a2 : FVec Ideal S1x4096x12336 .f32) :
    FVec Ideal S576x6144 .f32 :=
  Host.dotGeneral (F := Ideal) (φ₁ := .f32) (φ₂ := .f32) Cert.ReferenceIdeal.dot_S576x4096_S4096x6144_S576x6144_1_0_0_1_n_n none
    (concatenate S576x4096 0 [⟨S512x4096, shapeCast S512x4096 a0 shapeCasts_S128x4x4096_S512x4096⟩,
      ⟨S48x4096, broadcastInDim S48x4096 ![] bcast_S_S48x4096 (constant (F := Ideal) S_ .f32 0x00000000#32)⟩, ⟨S16x4096, a1⟩]
      concatenates_S512x4096_S48x4096_S16x4096_S576x4096_d0)
    (extractStridedSlice Cert.ReferenceIdeal.S4096x6144 ![0, 6160] (shapeCast S4096x12336 a2 shapeCasts_S1x4096x12336_S4096x12336)
      Cert.ReferenceIdeal.Gen.slices_S4096x12336_S4096x6144_0_6160)

/-- The activations' block is all of them, at every step. -/
theorem blk0 (c : Dev nD) (t : Fin cfg0.N) (i : Fin 576) (x : Fin 4096) :
    (iblk m c 0 t : FVec Ideal S576x4096 .bf16) (ix2 i x) = (V m c main_v5 : FVec Ideal S576x4096 .bf16) (ix2 i x) := by
  blk_ext [iblk, idx t]

/-- The weights' block at step `t` begins at row `6160 + 512 * t` (rows counted one by one, not in blocks). -/
theorem blk1 (c : Dev nD) (t : Fin cfg0.N) (i : Fin 512) (x : Fin 4096) (h : 6160 + 512 * t.val + i.val < 12336) :
    (iblk m c 1 t : FVec Ideal S512x4096 .f32) (ix2 i x)
      = (V m c main_v1 : FVec Ideal S12336x4096 .f32) (ix2 ⟨6160 + 512 * t.val + i.val, h⟩ x) := by
  have hi := (idx t).2.1
  have e0 : win0_1.index t 0 = 6160 + 512 * t.val := by rw [hi]; rfl
  have e1 : win0_1.index t 1 = 0 := by rw [hi]; rfl
  blk_ext [iblk, idx t]
  · refine (win0_1.rect_emb_val_off t (ix2 i x) 0).trans ?_
    rw [e0]; rfl
  · refine (win0_1.rect_emb_val_off t (ix2 i x) 1).trans ?_
    rw [e1]
    show 0 + x.val = x.val
    omega

/-- What the region finds as its activations. -/
theorem entry5 (c : Dev nD) : (V m c main_v5 : FVec Ideal S576x4096 .bf16) =
    truncf .bf16 (concatenate S576x4096 0 [⟨S512x4096, shapeCast S512x4096 (m ((c : Thread nD τ).loc main_arg0) : FVec Ideal S128x4x4096 .f32) shapeCasts_S128x4x4096_S512x4096⟩,
      ⟨S48x4096, broadcastInDim S48x4096 ![] bcast_S_S48x4096 (constant (F := Ideal) S_ .f32 0x00000000#32)⟩, ⟨S16x4096, (m ((c : Thread nD τ).loc main_arg1) : FVec Ideal S16x4096 .f32)⟩]
      concatenates_S512x4096_S48x4096_S16x4096_S576x4096_d0) bitsLt_bf16_f32 := by
  show StableHlo.after hostOps0 _ _ = _
  unfold hostOps0
  after_results <;> rfl

/-- What the region finds as its weights. -/
theorem entry1 (c : Dev nD) : (V m c main_v1 : FVec Ideal S12336x4096 .f32) =
    transpose S12336x4096 [1, 0] (shapeCast S4096x12336 (m ((c : Thread nD τ).loc main_arg2) : FVec Ideal S1x4096x12336 .f32) shapeCasts_S1x4096x12336_S4096x12336) transposes_S4096x12336_S12336x4096_1_0 := by
  entry_read
  rfl

/-- What the call leaves in its first result, over the arrays that it is given: row `i` of the activations times
    row `6160 + j` of the transposed weights. -/
def prod (X : FVec Ideal S576x4096 .bf16) (W : FVec Ideal S12336x4096 .f32) : FVec Ideal S576x6144 .f32 := fun j =>
  (∑ k : Fin 4096, (X (ix2 (j 0) k) : EReal) * (W (ix2 ⟨6160 + (j 1).val, by have := (j 1).isLt; show _ < 12336; change _ < 6144 at this; omega⟩ k) : EReal) : EReal)

/-- What the body computes at step `t`, an element at a time. -/
theorem point (c : Dev nD) (t : Fin cfg0.N) (y : S576x512.Idx) :
    k0_pay2 (F := Ideal) (iblk m c 1 t) (iblk m c 0 t) y
      = prod (V m c main_v5) (V m c main_v1) (((cfg0.win 2).blk t).view.emb y) := by
  have ht : t.val < 12 := lt_of_lt_of_eq t.isLt N_0
  pointwise [k0_pay2, k0_pay1, prod]
  refine Finset.sum_congr rfl fun k _ => ?_
  have hy : 6160 + 512 * t.val + (y 1).val < 12336 := by have := (y 1).isLt; change _ < 512 at this; omega
  rw [show iblk m c 0 t (ix2 (y 0) k) = _ from blk0 m c t (y 0) k, show iblk m c 1 t (ix2 (y 1) k) = _ from blk1 m c t (y 1) k hy]
  congr 1
  · blk_ext [idx t]
  · blk_ext [idx t]

/-- The first result after the run. -/
theorem final (c : Dev nD) : (dats m 0 c).arrAt 2 (cfgs 0).N = prod (V m c main_v5) (V m c main_v1) := by
  refine (dats m 0 c).arrAt_eq_of_covers 2 _ (by decide +kernel) fun t _ y => ?_
  blk_simp
  rw [after0_2]; frame_out
  exact point m c t y

/-- The second result after the run: rows 6160 to 12304 of the transposed weights. -/
theorem final3 (c : Dev nD) : (dats m 0 c).arrAt 3 (cfgs 0).N = (fun j => (V m c main_v1 : FVec Ideal S12336x4096 .f32)
    (ix2 ⟨6160 + (j 0).val, by have := (j 0).isLt; show _ < 12336; change _ < 6144 at this; omega⟩ (j 1)) : FVec Ideal S6144x4096 .bf16) := by
  refine (dats m 0 c).arrAt_eq_of_covers 3 _ (by decide +kernel) fun t _ y => ?_
  have ht : t.val < 12 := lt_of_lt_of_eq t.isLt N_0
  have hy : 6160 + 512 * t.val + (y 0).val < 12336 := by have := (y 0).isLt; change _ < 512 at this; omega
  blk_simp
  rw [after0_3]; frame_out
  pointwise [k0_pay1]
  have e := blk1 m c t (y 0) (y 1) hy
  refine (congrArg (iblk m c 1 t) (eq_ix2 (n0 := 512) (n1 := 4096) y)).trans (e.trans ?_)
  blk_ext [idx t]

/-- The transposed weights at a row and a column. -/
theorem wt_at (a2 : FVec Ideal S1x4096x12336 .f32) (r : Fin 12336) (k : Fin 4096) :
    transpose S12336x4096 [1, 0] (shapeCast S4096x12336 a2 shapeCasts_S1x4096x12336_S4096x12336)
      transposes_S4096x12336_S12336x4096_1_0 (ix2 r k) = a2 (ix3 0 k r) := by
  pointwise

/-- The columns that the call projects onto, transposed. -/
theorem wslice_at (a2 : FVec Ideal S1x4096x12336 .f32) (r : Fin 6144) (k : Fin 4096) :
    (truncf .bf16 (transpose Cert.ReferenceIdeal.S6144x4096 [1, 0] (extractStridedSlice Cert.ReferenceIdeal.S4096x6144 ![0, 6160]
        (shapeCast S4096x12336 a2 shapeCasts_S1x4096x12336_S4096x12336)
        Cert.ReferenceIdeal.Gen.slices_S4096x12336_S4096x6144_0_6160) Cert.ReferenceIdeal.Gen.transposes_S4096x6144_S6144x4096_1_0)
        Cert.ReferenceIdeal.Gen.bitsLt_bf16_f32 : FVec Ideal S6144x4096 .bf16) (ix2 r k) = a2 (ix3 0 k ⟨6160 + r.val, by omega⟩) := by
  pointwise

/-- The reference's product at a row and a column, over the row of the activations. -/
theorem ref_at (a0 : FVec Ideal S128x4x4096 .f32) (a1 : FVec Ideal S16x4096 .f32) (a2 : FVec Ideal S1x4096x12336 .f32)
    (i : Fin 576) (n : Fin 6144) : REF a0 a1 a2 (ix2 i n) = ∑ k : Fin 4096,
      (truncf (F := Ideal) .bf16 (concatenate S576x4096 0 [⟨S512x4096, shapeCast S512x4096 a0 shapeCasts_S128x4x4096_S512x4096⟩,
        ⟨S48x4096, broadcastInDim S48x4096 ![] bcast_S_S48x4096 (constant (F := Ideal) S_ .f32 0x00000000#32)⟩, ⟨S16x4096, a1⟩]
        concatenates_S512x4096_S48x4096_S16x4096_S576x4096_d0) bitsLt_bf16_f32 : FVec Ideal S576x4096 .bf16) (ix2 i k)
        * a2 (ix3 0 k ⟨6160 + n.val, by omega⟩) := by
  pointwise [REF]

/-- The call's product is the reference's. -/
theorem prod_eq (c : Dev nD) : prod (V m c main_v5) (V m c main_v1)
    = REF (m ((c : Thread nD τ).loc main_arg0)) (m ((c : Thread nD τ).loc main_arg1)) (m ((c : Thread nD τ).loc main_arg2)) := by
  rw [entry5, entry1]
  funext j
  obtain ⟨i, n, rfl⟩ : ∃ (i : Fin 576) (n : Fin 6144), j = ix2 i n := ⟨j 0, j 1, eq_ix2 j⟩
  refine Eq.trans ?_ (ref_at _ _ _ i n).symm
  exact Finset.sum_congr rfl fun k _ => congrArg _ (wt_at _ _ k)

/-- The second result is the reference's: the rows of the transposed weights. -/
theorem rows_eq (c : Dev nD) : ((fun j => (V m c main_v1 : FVec Ideal S12336x4096 .f32)
      (ix2 ⟨6160 + (j 0).val, by have := (j 0).isLt; show _ < 12336; change _ < 6144 at this; omega⟩ (j 1))) : FVec Ideal S6144x4096 .bf16)
    = (truncf .bf16 (transpose Cert.ReferenceIdeal.S6144x4096 [1, 0] (extractStridedSlice Cert.ReferenceIdeal.S4096x6144 ![0, 6160]
        (shapeCast S4096x12336 (m ((c : Thread nD τ).loc main_arg2) : FVec Ideal S1x4096x12336 .f32) shapeCasts_S1x4096x12336_S4096x12336)
        Cert.ReferenceIdeal.Gen.slices_S4096x12336_S4096x6144_0_6160) Cert.ReferenceIdeal.Gen.transposes_S4096x6144_S6144x4096_1_0)
        Cert.ReferenceIdeal.Gen.bitsLt_bf16_f32 : FVec Ideal S6144x4096 .bf16) := by
  rw [entry1]
  funext j
  obtain ⟨i, n, rfl⟩ : ∃ (i : Fin 6144) (n : Fin 4096), j = ix2 i n := ⟨j 0, j 1, eq_ix2 j⟩
  exact (wt_at _ _ n).trans (wslice_at _ i n).symm

end Cert.KernelIdeal.Value
-- ==== Proof.MixRun.lean ====
module

public import proofs.«01_k».proof.Proof.Gen.MixersIdeal.Frame.Runs

/-! The run of the mixers' body, over any float values. -/

@[expose] public section

set_option maxRecDepth 16384

noncomputable section

namespace Cert.MixersIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The whole body's run: what its stores leave in each output's staging memref, as pieces (last first), and that the body
runs with them. -/
noncomputable def kernelRun0_A (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) :
    Σ' (L29 : List (View.Piece (Elt F) S16x1024 .bf16)), Σ' (L30 : List (View.Piece (Elt F) S4x2x256x512 .f32)), Σ' (L31 : List (View.Piece (Elt F) S16x1024 .bf16)), Σ' (L32 : List (View.Piece (Elt F) S4x16x64x128 .f32)), Σ' (LT0 : List (View.Piece (Elt F) S40x2048 .f32)), Σ' (LT1 : List (View.Piece (Elt F) S32x2048 .f32)), { LT2 : List (View.Piece (Elt F) S16x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f LT0) ∗ (∃ f, arg36.view.loc (c : Thread nD τ) ↦[arg36.view.set]{fullShare} arg36.view.writes (Elt F) f LT1) ∗ (∃ f, arg37.view.loc (c : Thread nD τ) ↦[arg37.view.set]{fullShare} arg37.view.writes (Elt F) f LT2)) -∗ K ⟨⟩))
          ⊢ wp frame (wpE (defs₀ (F := F)) Variants.none c none) E (cc0_mixers_multi i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K } := by
  refine ⟨?_, ?_, ?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%ds0, %fs0, -, HS0⟩, ⟨%ds1, %fs1, -, HS1⟩, ⟨%ds2, %fs2, -, HS2⟩, Hk⟩
    have e := harg2.eq_unread hf0; subst e; have e := harg3.eq_unread hf1; subst e; have e := harg4.eq_unread hf2; subst e; have e := harg5.eq_unread hf3; subst e; have e := harg6.eq_unread hf4; subst e; have e := harg7.eq_unread hf5; subst e; have e := harg8.eq_unread hf6; subst e; have e := harg9.eq_unread hf7; subst e; have e := harg10.eq_unread hf8; subst e; have e := harg11.eq_unread hf9; subst e; have e := harg12.eq_unread hf10; subst e; have e := harg13.eq_unread hf11; subst e; have e := harg14.eq_unread hf12; subst e; have e := harg15.eq_unread hf13; subst e; have e := harg16.eq_unread hf14; subst e; have e := harg17.eq_unread hf15; subst e; have e := harg18.eq_unread hf16; subst e; have e := harg19.eq_unread hf17; subst e; have e := harg20.eq_unread hf18; subst e; have e := harg21.eq_unread hf19; subst e; have e := harg22.eq_unread hf20; subst e; have e := harg23.eq_unread hf21; subst e; have e := harg24.eq_unread hf22; subst e; have e := harg25.eq_unread hf23; subst e; have e := harg26.eq_unread hf24; subst e; have e := harg27.eq_unread hf25; subst e; have e := harg28.eq_unread hf26; subst e; have e := harg29.eq_unread hf27; subst e; have e := harg30.eq_unread hf28; subst e
    simp only [cc0_mixers_multi_eq_skeleton]; unfold cc0_mixers_multi_skel
    simp only [k0_part51_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]; · iexists _; iexact H29
    isplitl [H30]; · iexists _; iexact H30
    isplitl [H31]; · iexists _; iexact H31
    isplitl [H32]; · iexists _; iexact H32
    isplitl [HS0]; · iexists _; iexact HS0
    isplitl [HS1]; · iexists _; iexact HS1
    iexists _; iexact HS2

end Cert.MixersIdeal.Gen

end
-- ==== Proof.MixFrame.lean ====
module

public import proofs.«01_k».proof.Proof.MixRun
public import Idealize.ShloMosaic.Lib.Claim

/-! The frame of the mixers over any float values, of the run of `MixRun`. It follows the generated frames. -/

@[expose] public section

set_option maxRecDepth 16384

noncomputable section

namespace Cert.MixersIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 29 tile its block (2 stores of `S16x512`), so they cover it. -/
theorem cover0_A_29 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).1 S16x512.size (by sl_kernel_rfl) y

/-- What the run leaves in output 29's staging buffer: its pieces read back over junk. -/
def out0_A_29 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) : Vec F S16x1024 .bf16 :=
  VO0_29.read (Elt F) (VO0_29.writes (Elt F) VO0_29.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).1)

/-- The run's pieces for output 30 tile its block (8 stores of `S1x1x256x512`), so they cover it. -/
theorem cover0_A_30 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) (y : S4x2x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.1 S1x1x256x512.size (by sl_kernel_rfl) y

/-- What the run leaves in output 30's staging buffer: its pieces read back over junk. -/
def out0_A_30 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) : Vec F S4x2x256x512 .f32 :=
  VO0_30.read (Elt F) (VO0_30.writes (Elt F) VO0_30.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.1)

/-- The run's pieces for output 31 tile its block (4 stores of `S16x256`), so they cover it. -/
theorem cover0_A_31 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.2.1 S16x256.size (by sl_kernel_rfl) y

/-- What the run leaves in output 31's staging buffer: its pieces read back over junk. -/
def out0_A_31 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) : Vec F S16x1024 .bf16 :=
  VO0_31.read (Elt F) (VO0_31.writes (Elt F) VO0_31.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.2.1)

/-- The run's pieces for output 32 tile its block (16 stores of `S1x4x64x128`), so they cover it. -/
theorem cover0_A_32 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) (y : S4x16x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.2.2.1 S1x4x64x128.size (by sl_kernel_rfl) y

/-- What the run leaves in output 32's staging buffer: its pieces read back over junk. -/
def out0_A_32 (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x2x256x512 .f32) (harg10 : arg10.IsWhole) (arg11 : Memref sig .tc .vmem S16x1024 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x1024 .f32) (harg14 : arg14.IsWhole) (arg15 : Memref sig .tc .vmem S16x128 .f32) (harg15 : arg15.IsWhole) (arg16 : Memref sig .tc .vmem S4x1024 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S1x1024 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S4x128x256 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S4x3x1024 .f32) (harg27 : arg27.IsWhole) (arg28 : Memref sig .tc .vmem S4x3x512 .f32) (harg28 : arg28.IsWhole) (arg29 : Memref sig .tc .vmem S4x3x512 .f32) (harg29 : arg29.IsWhole) (arg30 : Memref sig .tc .vmem S4x16x64x128 .f32) (harg30 : arg30.IsWhole) (arg31 : Memref sig .tc .vmem S16x1024 .bf16) (harg31 : arg31.IsWhole) (arg32 : Memref sig .tc .vmem S4x2x256x512 .f32) (harg32 : arg32.IsWhole) (arg33 : Memref sig .tc .vmem S16x1024 .bf16) (harg33 : arg33.IsWhole) (arg34 : Memref sig .tc .vmem S4x16x64x128 .f32) (harg34 : arg34.IsWhole) (arg35 : Memref sig .tc .vmem S40x2048 .f32) (harg35 : arg35.IsWhole) (arg36 : Memref sig .tc .vmem S32x2048 .f32) (harg36 : arg36.IsWhole) (arg37 : Memref sig .tc .vmem S16x2048 .f32) (harg37 : arg37.IsWhole)
    (x0 : Vec F S16x512 .f32) (x1 : Vec F S16x512 .f32) (x2 : Vec F S16x1024 .f32) (x3 : Vec F S16x1024 .f32) (x4 : Vec F S16x128 .f32) (x5 : Vec F S128x512 .bf16) (x6 : Vec F S1x512 .f32) (x7 : Vec F S1x512 .f32) (x8 : Vec F S4x2x256x512 .f32) (x9 : Vec F S16x1024 .f32) (x10 : Vec F S16x512 .f32) (x11 : Vec F S16x512 .f32) (x12 : Vec F S16x1024 .f32) (x13 : Vec F S16x128 .f32) (x14 : Vec F S4x1024 .f32) (x15 : Vec F S4x512 .f32) (x16 : Vec F S4x512 .f32) (x17 : Vec F S1x1024 .f32) (x18 : Vec F S1x512 .f32) (x19 : Vec F S1x512 .f32) (x20 : Vec F S1x128 .f32) (x21 : Vec F S1x128 .f32) (x22 : Vec F S4x128x256 .bf16) (x23 : Vec F S1x1024 .f32) (x24 : Vec F S1x1024 .f32) (x25 : Vec F S4x3x1024 .f32) (x26 : Vec F S4x3x512 .f32) (x27 : Vec F S4x3x512 .f32) (x28 : Vec F S4x16x64x128 .f32) : Vec F S4x16x64x128 .f32 :=
  VO0_32.read (Elt F) (VO0_32.writes (Elt F) VO0_32.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).2.2.2.1)

/-! ## What the outputs hold after each point -/

/-- What the outputs' staging buffers hold after the body at point `t` (as a tuple, in window order): the run's contents at
    the point's memrefs and input blocks. -/
def outsAt0 (c : Dev nD) (t : Fin cfg0.N) : Vec F S16x1024 .bf16 × Vec F S4x2x256x512 .f32 × Vec F S16x1024 .bf16 × Vec F S4x16x64x128 .f32 :=
  (out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => (outsAt0 m c t).1
    | ⟨30, _⟩ => (outsAt0 m c t).2.1
    | ⟨31, _⟩ => (outsAt0 m c t).2.2.1
    | ⟨32, _⟩ => (outsAt0 m c t).2.2.2
    | ⟨_ + 33, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = (outsAt0 m c t).1 := by dsimp only [dats]
theorem after0_30 (c : Dev nD) (t : Fin cfg0.N) : (dats m 0 c).after 30 t = (outsAt0 m c t).2.1 := by dsimp only [dats]
theorem after0_31 (c : Dev nD) (t : Fin cfg0.N) : (dats m 0 c).after 31 t = (outsAt0 m c t).2.2.1 := by dsimp only [dats]
theorem after0_32 (c : Dev nD) (t : Fin cfg0.N) : (dats m 0 c).after 32 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  rw [show (dats m 0 c).Φ t.castSucc = Pipeline.ΦA spec0 c from rfl, PhiA0_eq]
  unfold outsAt0
  unfold out0_A_29 out0_A_30 out0_A_31 out0_A_32; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  isplitl [H32]; · iexists _; iexact H32
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H32
  ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame: the run ends with its arguments unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MixersIdeal.Gen

end
-- ==== Proof.SameText.lean ====
module

public import Idealize.ShloMosaic.Lib.Claim
public import Idealize.ShloMosaic.Lib.Pipeline.ValueKit

/-! A run from one table of programs is a run from any equal table. -/

@[expose] public section

open Idealize.ShloMosaic Idealize.ShloMosaic.TcCoe Idealize.SL.Sem

namespace Cert.Proof

/-- A run from a table is one from an equal table. -/
theorem run_of_eq {nD : ℕ} {τ : Topo} {sig : RefSig} {Val : EltTy → Type} {Λ : Labels} {D D' : Defs nD τ sig Val Λ}
    (e : D = D') {P s Q} (h : θ_run D' P s Q) : θ_run D P s Q := e ▸ h

end Cert.Proof
-- ==== Proof.MixBits.lean ====
module

public import proofs.«01_k».proof.Defs
public import proofs.«01_k».proof.Proof.Gen.Mixers
public import proofs.«01_k».proof.Proof.Gen.MixersRefIdeal
public import proofs.«01_k».proof.Proof.MixFrame
public import proofs.«01_k».proof.Proof.SameText

/-! The mixers over the bits: the program has the text of the one over any float values, and takes its frame. -/

@[expose] public section

set_option maxRecDepth 16384

noncomputable section

open Idealize.ShloMosaic Idealize.ShloMosaic.TcCoe Idealize.SL.Sem

namespace Cert.Proof

set_option maxHeartbeats 2000000 in
/-- The two programs' bodies are the same. -/
theorem same_body : Cert.Mixers.defs₀ (F := Bits) = Cert.MixersIdeal.defs₀ (F := Bits) := by
  refine congrArg Defs.onTc ?_
  funext l x
  match l, x with
  | 0, (t, s) => rfl
  | ⟨_ + 1, h⟩, _ => exact absurd h (Nat.not_lt.2 (Nat.le_add_left _ _))

set_option maxHeartbeats 2000000 in
/-- So are their tables. -/
theorem same_defs : Cert.Mixers.defs (F := Bits) = Cert.MixersIdeal.defs (F := Bits) :=
  congrArg (Pipeline.defs (Cert.MixersIdeal.pcfgs (F := Bits))) same_body

set_option maxHeartbeats 2000000 in
/-- The mixers run, leave their arguments and every semaphore at zero. -/
theorem frame_Mixers : Cert.quiescent_Mixers := fun m ρ _ =>
  run_of_eq same_defs (Cert.MixersIdeal.Gen.frame (F := Bits) m ρ)

end Cert.Proof
-- ==== Proof.RowNorm.lean ====
module

public import Idealize.ShloMosaic.Lib.Pipeline.ValueKit

@[expose] public section

noncomputable section

open Idealize.ShloMosaic

namespace Cert.RowNorm

/-- The mean of a row of 4096 numbers. -/
def mean (f : Fin 4096 → EReal) : EReal := Ideal.div (∑ x, f x) (Ideal.ofBits .f32 0x45800000#32)

/-- One over the root of a row's variance and the small constant. -/
def rstd (f : Fin 4096 → EReal) : EReal :=
  Ideal.rsqrt (Ideal.div (∑ x, (f x - mean f) * (f x - mean f)) (Ideal.ofBits .f32 0x45800000#32) + Ideal.ofBits .f32 0x3727C5AC#32)

/-- An element of the layer norm of a row, with its scale and its shift. -/
def norm (f : Fin 4096 → EReal) (n : Fin 4096) (g b : EReal) : EReal := (f n - mean f) * rstd f * g + b

/-- A row's statistics as columns: the mean, then one over the root of the variance, then zeros. -/
def stat (f : Fin 4096 → EReal) (n : Fin 128) : EReal := if n.val = 0 then mean f else if n.val = 1 then rstd f else 0

/-- A choice by whether two small words are equal is the choice by their numbers. -/
theorem select_eq {n k : Nat} (hn : n < 128) (hk : k < 128) (A B : EReal) :
    Scalar.select (IntOp.cmpi .eq (BitVec.ofNat 32 n) (BitVec.ofNat 32 k)) A B = if n = k then A else B := by
  by_cases h : n = k
  · subst h; simp [Scalar.select, IntOp.cmpi]
  · have e : BitVec.ofNat 32 n ≠ BitVec.ofNat 32 k := fun e => h (by
      have := congrArg BitVec.toNat e
      simp only [BitVec.toNat_ofNat] at this
      omega)
    simp [Scalar.select, IntOp.cmpi, beq_eq_false_iff_ne.mpr e, h]

end Cert.RowNorm
-- ==== Proof.GlaMath.lean ====
module

public import proofs.«01_k».proof.Proof.RowNorm

@[expose] public section

noncomputable section

open Idealize.ShloMosaic

namespace Cert.GlaMath

/-- The logarithm of the sigmoid of `x` over sixteen. -/
def gate (x : EReal) : EReal :=
  (0 - (max (0 - x) 0 + Ideal.log (1 + Ideal.exp (0 - max (0 - x) (-(0 - x)))))) * Ideal.ofBits .f32 0x3D800000#32

/-- One element of the state of a sequence of four steps after it: the element before, decayed, and what the steps add. -/
def state (g k v : Fin 4 → EReal) (S : EReal) : EReal :=
  Ideal.exp (∑ s, g s) * S + ∑ s, (k s * Ideal.exp (∑ x, g x - ∑ x, if x ≤ s then g x else 0)) * v s

theorem exp_nonneg (x : EReal) : 0 ≤ Ideal.exp x := by
  induction x with
  | bot => simp
  | coe r => simpa using (Real.exp_pos r).le
  | top => simp

theorem log_nonneg {x : EReal} (h : 1 ≤ x) : 0 ≤ Ideal.log x := by
  induction x with
  | bot => exact absurd (le_bot_iff.mp h) (by decide)
  | coe r =>
    have h' : (1 : ℝ) ≤ r := by exact_mod_cast h
    simp only [Ideal.log_coe, if_neg (by linarith : ¬ r ≤ 0)]
    exact_mod_cast Real.log_nonneg h'
  | top => simp

theorem sixteenth : Ideal.ofBits .f32 0x3D800000#32 = ((1 / 16 : ℝ) : EReal) := by
  simp [Ideal.ofBits, Ideal.ieee]; rw [← EReal.coe_mul]; norm_num

theorem sixteen : Ideal.ofBits .f32 0x41800000#32 = ((16 : ℝ) : EReal) := by
  simp [Ideal.ofBits, Ideal.ieee]; rw [← EReal.coe_mul]; norm_num

theorem gate_nonpos (x : EReal) : gate x ≤ 0 := by
  have hs : 0 ≤ max (0 - x) 0 + Ideal.log (1 + Ideal.exp (0 - max (0 - x) (-(0 - x)))) :=
    add_nonneg (le_max_right _ _) (log_nonneg (le_add_of_nonneg_right (exp_nonneg _)))
  have h0 : 0 - (max (0 - x) 0 + Ideal.log (1 + Ideal.exp (0 - max (0 - x) (-(0 - x))))) ≤ 0 := by
    rw [zero_sub]; exact EReal.neg_le_zero.mpr hs
  have hc : (0 : EReal) ≤ Ideal.ofBits .f32 0x3D800000#32 := by rw [sixteenth]; exact_mod_cast (by norm_num : (0:ℝ) ≤ 1/16)
  exact (mul_le_mul_of_nonneg_right h0 hc).trans (zero_mul _).le

theorem gate_ne_top (x : EReal) : gate x ≠ ⊤ := ((gate_nonpos x).trans_lt (by simp)).ne

/-- The exponential of a number that is not positive is a real number. -/
theorem exp_real {x : EReal} (h : x ≤ 0) : ∃ r : ℝ, Ideal.exp x = r := by
  induction x with
  | bot => exact ⟨0, by simp⟩
  | coe r => exact ⟨Real.exp r, by simp⟩
  | top => simp at h

/-- A number below infinity and the rest that its rounding leaves are the number. -/
theorem add_sub_self {x : EReal} (h : x ≠ ⊤) : x + (x - x) = x := by
  induction x with
  | bot => rfl
  | coe r => rw [← EReal.coe_sub, sub_self]; simp
  | top => exact absurd rfl h

/-- A sum over zeros and ones of numbers and of the rests that their roundings leave is the sum of the numbers. -/
theorem split_sum {ι : Type} [Fintype ι] (p : ι → Prop) [DecidablePred p] (f : ι → EReal) (hf : ∀ c, f c ≠ ⊤) :
    ∑ c, (if p c then (1 : EReal) else 0) * f c + ∑ c, (if p c then (1 : EReal) else 0) * (f c - f c)
      = ∑ c, if p c then f c else 0 := by
  rw [← Finset.sum_add_distrib]
  refine Finset.sum_congr rfl fun c _ => ?_
  by_cases h : p c
  · simpa [h] using add_sub_self (hf c)
  · simp [h]

/-- A sum over the rows of one sequence. -/
theorem sum_seg {n : Nat} (hn : 16 ≤ n) (i : Fin 4) (f : Fin n → EReal) :
    (∑ l : Fin n, if l.val / 4 = i.val then f l else 0) = ∑ s : Fin 4, f ⟨4 * i.val + s.val, by omega⟩ := by
  rw [← Finset.sum_filter]
  symm
  refine Finset.sum_nbij (fun s : Fin 4 => (⟨4 * i.val + s.val, by omega⟩ : Fin n)) ?_ ?_ ?_ ?_
  · intro s _; simp; omega
  · intro s _ s' _ h; simp at h; exact Fin.ext (by omega)
  · intro l hl
    have hl' : l.val / 4 = i.val := by simpa using hl
    exact ⟨⟨l.val - 4 * i.val, by omega⟩, by simp, Fin.ext (by simp; omega)⟩
  · intro s _; rfl

/-- A sum over one step is that step. -/
theorem sum_eye {n : Nat} (d : Fin n) (f : Fin n → EReal) :
    ∑ x, (if d.val = x.val then (1 : EReal) else 0) * f x = f d := by
  simp only [ite_mul, one_mul, zero_mul, ← Fin.ext_iff, Finset.sum_ite_eq, Finset.mem_univ, if_true]

/-- A choice by a word of one bit. -/
theorem select_iff {w : BitVec 1} {p : Prop} [Decidable p] (h : w = 1#1 ↔ p) (A B : EReal) :
    Scalar.select w A B = if p then A else B := by
  by_cases hp : p
  · rw [if_pos hp, h.mpr hp]; simp [Scalar.select]
  · have : w ≠ 1#1 := fun e => hp (h.mp e)
    rw [if_neg hp]; simp [Scalar.select, this]

/-- Two small words are equal when their numbers are. -/
theorem word_eq {n k : Nat} (hn : n < 4294967296) (hk : k < 4294967296) :
    IntOp.cmpi .eq (BitVec.ofNat 32 n) (BitVec.ofNat 32 k) = 1#1 ↔ n = k := by
  by_cases h : n = k
  · subst h; simp [IntOp.cmpi]
  · have e : BitVec.ofNat 32 n ≠ BitVec.ofNat 32 k := fun e => h (by
      have := congrArg BitVec.toNat e
      simp only [BitVec.toNat_ofNat] at this
      omega)
    simp [IntOp.cmpi, beq_eq_false_iff_ne.mpr e, h]

/-- The three parts that a decay is split into, stored in the rows of a sequence, sum to it. -/
theorem sum_three {e : EReal} (h : ∃ r : ℝ, e = r) :
    (∑ s : Fin 4, if s.val = 0 then e else if s.val = 1 then e - e else if s.val = 2 then e - e - (e - e) else 0) = e := by
  obtain ⟨r, rfl⟩ := h
  have h0 : (r : EReal) - r = 0 := by rw [← EReal.coe_sub, sub_self]; rfl
  simp [Fin.sum_univ_four, h0]

/-- A sum over the rows of sequence `i` not later than its step `s`. -/
theorem sum_upto (i s : Fin 4) (f : Fin 16 → EReal) :
    (∑ c : Fin 16, if c.val / 4 = i.val ∧ c.val ≤ 4 * i.val + s.val then f c else 0)
      = ∑ x : Fin 4, if x ≤ s then f ⟨4 * i.val + x.val, by omega⟩ else 0 := by
  have h := sum_seg (le_refl 16) i (fun c => if c.val ≤ 4 * i.val + s.val then f c else 0)
  simp only [ite_and]
  rw [h]
  refine Finset.sum_congr rfl fun x _ => if_congr ?_ rfl rfl
  rw [Fin.le_def]; simp

/-- The element of the new state from the rows of a block: the decay is stored in three parts, each product runs over the
    block's rows and the zeros after them. -/
theorem state_of (i : Fin 4) (G K V : Fin 16 → EReal) (hG : ∀ c, G c ≤ 0) (S : EReal) (E kd vb : Fin 128 → EReal)
    (hE : ∀ l, E l = if h : l.val < 16 then
      if l.val % 4 = 0 then Ideal.exp (∑ c : Fin 16, if c.val / 4 = l.val / 4 then G c else 0) else
      if l.val % 4 = 1 then Ideal.exp (∑ c : Fin 16, if c.val / 4 = l.val / 4 then G c else 0)
        - Ideal.exp (∑ c : Fin 16, if c.val / 4 = l.val / 4 then G c else 0) else
      if l.val % 4 = 2 then Ideal.exp (∑ c : Fin 16, if c.val / 4 = l.val / 4 then G c else 0)
        - Ideal.exp (∑ c : Fin 16, if c.val / 4 = l.val / 4 then G c else 0)
        - (Ideal.exp (∑ c : Fin 16, if c.val / 4 = l.val / 4 then G c else 0)
          - Ideal.exp (∑ c : Fin 16, if c.val / 4 = l.val / 4 then G c else 0)) else 0 else 0)
    (hkd : ∀ l, kd l = if h : l.val < 16 then K ⟨l.val, h⟩ * Ideal.exp
      ((∑ c : Fin 16, if c.val / 4 = l.val / 4 then G c else 0)
        - ∑ c : Fin 16, if c.val / 4 = l.val / 4 ∧ c.val ≤ l.val then G c else 0) else 0)
    (hvb : ∀ l, vb l = if h : l.val < 16 then V ⟨l.val, h⟩ else 0) :
    (∑ l : Fin 128, if l.val / 4 = i.val then E l else 0) * S + (∑ l : Fin 128, if l.val / 4 = i.val then kd l * vb l else 0)
      = state (fun x => G ⟨4 * i.val + x.val, by omega⟩) (fun x => K ⟨4 * i.val + x.val, by omega⟩)
          (fun x => V ⟨4 * i.val + x.val, by omega⟩) S := by
  have hq : ∀ x : Fin 4, (4 * i.val + x.val) / 4 = i.val := fun x => by omega
  have hr : ∀ x : Fin 4, (4 * i.val + x.val) % 4 = x.val := fun x => by omega
  have hlt : ∀ x : Fin 4, 4 * i.val + x.val < 16 := fun x => by omega
  have hs := sum_seg (le_refl 16) i G
  rw [sum_seg (by decide) i E, sum_seg (by decide) i fun l => kd l * vb l]
  unfold state
  congr 1
  · congr 1
    refine Eq.trans (Finset.sum_congr rfl fun x _ => ?_)
      (sum_three (exp_real (Finset.sum_nonpos fun x _ => hG (⟨4 * i.val + x.val, by omega⟩ : Fin 16))))
    rw [hE, dif_pos (hlt x)]
    simp only [hr, hq, hs]
  · refine Finset.sum_congr rfl fun x _ => ?_
    rw [hkd, hvb, dif_pos (hlt x), dif_pos (hlt x)]
    simp only [hq, hs, sum_upto]

end Cert.GlaMath
-- ==== Proof.MixGlaPay.lean ====
module

public import proofs.«01_k».proof.Proof.Gen.MixersIdeal.Skeleton
public import proofs.«01_k».proof.Proof.GlaMath
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
namespace Cert.MixersIdeal.Value

open Cert.MixersIdeal Cert.MixersIdeal.Gen Cert.GlaMath

/-- The logarithm of the decay, at a row and a column. -/
theorem gate_at (sm : Vec Ideal S16x128 .f32) (w : Vec Ideal S128x256 .bf16) (b : Vec Ideal S1x256 .f32) (r : Fin 16) (d : Fin 256) :
    (k0_pay10 (F := Ideal) sm w b (ix2 r d) : EReal) = gate (∑ x : Fin 128, (sm (ix2 r x) : EReal) * (w (ix2 x d) : EReal) + (b (ix2 0 d) : EReal)) := by
  pointwise [k0_pay10, k0_pay9]
  rfl

theorem gate_ne (sm : Vec Ideal S16x128 .f32) (w : Vec Ideal S128x256 .bf16) (b : Vec Ideal S1x256 .f32) (r : Fin 16) (d : Fin 256) :
    (k0_pay10 (F := Ideal) sm w b (ix2 r d) : EReal) ≠ ⊤ := by
  rw [gate_at]; exact gate_ne_top _

/-- The values, padded with zeros. -/
theorem vb_at (v : Vec Ideal S16x512 .f32) (l : Fin 128) (e : Fin 512) :
    (k0_pay17 (F := Ideal) v (ix2 l e) : EReal) = if h : l.val < 16 then v (ix2 ⟨l.val, h⟩ e) else 0 := by
  pointwise [k0_pay17]

/-- The identity matrix. -/
theorem eye_at (r c : Fin 256) : (k0_pay2 (F := Ideal) (ix2 r c) : EReal) = if r.val = c.val then 1 else 0 := by
  pointwise [k0_pay2]
  exact select_iff (word_eq (by omega) (by omega)) _ _

/-- Which rows are of one sequence and not later. -/
theorem tri_at (r c : Fin 16) :
    (k0_pay4 (F := Ideal) (ix2 r c) : EReal) = if c.val / 4 = r.val / 4 ∧ c.val ≤ r.val then 1 else 0 := by
  pointwise [k0_pay4, k0_pay3]
  refine select_iff ?_ _ _
  revert r c; decide

/-- Which rows are of one sequence. -/
theorem all_at (r c : Fin 16) :
    (k0_pay6 (F := Ideal) (ix2 r c) : EReal) = if c.val / 4 = r.val / 4 then 1 else 0 := by
  pointwise [k0_pay6, k0_pay3]
  refine select_iff ?_ _ _
  revert r c; decide

/-- A sum of the rows not later, of what the gate is rounded to and of the rest. -/
theorem bc_at (sm : Vec Ideal S16x128 .f32) (w : Vec Ideal S128x256 .bf16) (b : Vec Ideal S1x256 .f32) (r : Fin 16) (d : Fin 256) :
    (k0_pay14 (F := Ideal) k0_pay4 (k0_pay12 sm w b) (k0_pay13 k0_pay4 sm w b) (constant S16x256 .f32 0x00000000#32) (ix2 r d) : EReal)
      = ∑ c : Fin 16, if c.val / 4 = r.val / 4 ∧ c.val ≤ r.val then (k0_pay10 (F := Ideal) sm w b (ix2 c d) : EReal) else 0 := by
  pointwise [k0_pay14, k0_pay13, k0_pay12, k0_pay11]
  simp only [tri_at]
  refine split_sum _ _ fun c => ?_
  exact gate_ne sm w b c d

/-- A sum over a sequence, of what the gate is rounded to and of the rest. -/
theorem last_at (g : FVec Ideal S16x256 .f32) (hg : ∀ c d, (g (ix2 c d) : EReal) ≠ ⊤) (r : Fin 16) (d : Fin 256) :
    (k0_pay15 (F := Ideal) k0_pay6 g (ix2 r d) : EReal) = ∑ c : Fin 16, if c.val / 4 = r.val / 4 then (g (ix2 c d) : EReal) else 0 := by
  pointwise [k0_pay15]
  simp only [all_at]
  exact split_sum _ _ fun c => hg c d

/-- The decayed keys, a column for each row of the block and zeros after them. -/
theorem kd_at (sm : Vec Ideal S16x128 .f32) (w : Vec Ideal S128x256 .bf16) (b : Vec Ideal S1x256 .f32) (k : Vec Ideal S16x256 .f32)
    (d : Fin 256) (l : Fin 128) :
    (k0_pay20 (F := Ideal) k0_pay2 k0_pay4 k0_pay6 (k0_pay10 sm w b) k (k0_pay12 sm w b) (k0_pay13 k0_pay4 sm w b)
      (constant S16x256 .f32 0x00000000#32) (ix2 d l) : EReal)
      = if h : l.val < 16 then (k (ix2 ⟨l.val, h⟩ d) : EReal) * Ideal.exp
          (∑ c : Fin 16, (if c.val / 4 = l.val / 4 then (k0_pay10 (F := Ideal) sm w b (ix2 c d) : EReal) else 0)
            - ∑ c : Fin 16, (if c.val / 4 = l.val / 4 ∧ c.val ≤ l.val then (k0_pay10 (F := Ideal) sm w b (ix2 c d) : EReal) else 0)) else 0 := by
  pointwise [k0_pay20]
  simp only [eye_at]
  refine (sum_eye d _).trans ?_
  by_cases h : l.val < 16
  · rw [dif_pos h, dif_pos h, last_at _ (gate_ne sm w b), bc_at]
  · rw [dif_neg h, dif_neg h]

/-- The split decay over a sequence, a column for each row. -/
theorem et_at (el : FVec Ideal S16x256 .f32) (d : Fin 256) (l : Fin 128) :
    (k0_pay23 (F := Ideal) k0_pay2 el (truncf .bf16 el bitsLt_bf16_f32) (ix2 d l) : EReal)
      = if h : l.val < 16 then if l.val % 4 = 0 then (el (ix2 ⟨l.val, h⟩ d) : EReal) else
          if l.val % 4 = 1 then (el (ix2 ⟨l.val, h⟩ d) : EReal) - (el (ix2 ⟨l.val, h⟩ d) : EReal) else
          if l.val % 4 = 2 then (el (ix2 ⟨l.val, h⟩ d) : EReal) - (el (ix2 ⟨l.val, h⟩ d) : EReal)
            - ((el (ix2 ⟨l.val, h⟩ d) : EReal) - (el (ix2 ⟨l.val, h⟩ d) : EReal)) else 0 else 0 := by
  have hs : ∀ l : Fin 128, ∀ x : Fin 3, IntOp.cmpi .eq (IntOp.andi (BitVec.ofNat 32 l.val) 3#32) (BitVec.ofNat 32 x.val) = 1#1 ↔ l.val % 4 = x.val := by decide +kernel
  pointwise [k0_pay23]
  simp only [eye_at]
  refine (sum_eye d _).trans ?_
  by_cases h : l.val < 16
  · rw [dif_pos h, dif_pos h]
    exact (select_iff (hs l 0) _ _).trans (congrArg _ ((select_iff (hs l 1) _ _).trans (congrArg _ (select_iff (hs l 2) _ _))))
  · rw [dif_neg h, dif_neg h]

/-- The number of the sequence of each column. -/
abbrev lanes : IVec S256x128 32 := shrsi (iota .tc S256x128 32 [1] iota_S256x128_d1_w32) (broadcast S256x128 2#32)

/-- What the columns of sequence `n` hold, and zeros. -/
abbrev keep (n : BitVec 32) (x : FVec Ideal S256x128 .f32) : FVec Ideal S256x128 .f32 :=
  select (cmpi .eq lanes (broadcast S256x128 n)) x (broadcast S256x128 (Scalar.ofBits .f32 0x00000000#32))

/-- The new state of sequence `n` of a block and one head, from the values, the decayed keys, the decays and the state before. -/
def upd (n : BitVec 32) (vb : FVec Ideal S128x512 .bf16) (kd et : FVec Ideal S256x128 .f32) (s : FVec Ideal S256x512 .f32) :
    FVec Ideal S1x1x256x512 .f32 :=
  shapeCast S1x1x256x512 (addf (mulf (broadcastTo S256x512 (shapeCast S256x1
    (multiReduction .add [1] S256 (keep n et) 0x00000000#32 reduces_S256x128_S256 (.inl rfl) rfl) shapeCasts_S256_S256x1)
    broadcasts_S256x1_S256x512) s) (matmul dot_S256x128_S128x512_S256x512_1_0_0_1_n_n none
      (truncf .bf16 (keep n kd) bitsLt_bf16_f32) vb (constant S256x512 .f32 0x00000000#32))) shapeCasts_S256x512_S1x1x256x512

theorem lane_iff : ∀ (i : Fin 4) (l : Fin 128), IntOp.cmpi .eq (IntOp.shrsi .vector (BitVec.ofNat 32 l.val) 2#32) (BitVec.ofNat 32 i.val) = 1#1
    ↔ l.val / 4 = i.val := by decide +kernel

/-- The new state at an element. -/
theorem upd_at (i : Fin 4) (vb : FVec Ideal S128x512 .bf16) (kd et : FVec Ideal S256x128 .f32) (s : FVec Ideal S256x512 .f32)
    (d : Fin 256) (e : Fin 512) : (upd (BitVec.ofNat 32 i.val) vb kd et s (ix4 0 0 d e) : EReal)
      = (∑ l : Fin 128, if l.val / 4 = i.val then (et (ix2 d l) : EReal) else 0) * (s (ix2 d e) : EReal)
        + ∑ l : Fin 128, if l.val / 4 = i.val then (kd (ix2 d l) : EReal) * (vb (ix2 l e) : EReal) else 0 := by
  pointwise [upd]
  simp only [select_iff (lane_iff i _)]

/-- The new state of sequence `n` of a block and one head, from what the body reads of them. -/
def newState (n : BitVec 32) (sm : Vec Ideal S16x128 .f32) (w : Vec Ideal S128x256 .bf16) (b : Vec Ideal S1x256 .f32)
    (k : Vec Ideal S16x256 .f32) (v : Vec Ideal S16x512 .f32) (s : Vec Ideal S1x1x256x512 .f32) : FVec Ideal S1x1x256x512 .f32 :=
  upd n (k0_pay17 v) (k0_pay20 k0_pay2 k0_pay4 k0_pay6 (k0_pay10 sm w b) k (k0_pay12 sm w b) (k0_pay13 k0_pay4 sm w b)
    (constant S16x256 .f32 0x00000000#32)) (k0_pay23 k0_pay2 (k0_pay21 k0_pay6 (k0_pay10 sm w b)) (k0_pay22 k0_pay6 (k0_pay10 sm w b)))
    (shapeCast S256x512 s shapeCasts_S1x1x256x512_S256x512)

/-- The state before, as a matrix. -/
theorem s_at (s : Vec Ideal S1x1x256x512 .f32) (d : Fin 256) (e : Fin 512) :
    (shapeCast S256x512 s shapeCasts_S1x1x256x512_S256x512 (ix2 d e) : EReal) = s (ix4 0 0 d e) := by
  pointwise

/-- The decay over a sequence. -/
theorem decay_at (g : FVec Ideal S16x256 .f32) (i : S16x256.Idx) :
    (k0_pay21 (F := Ideal) k0_pay6 g i : EReal) = Ideal.exp (k0_pay15 (F := Ideal) k0_pay6 g i) := rfl

/-- The new state of a sequence and one head, at an element: the state before, decayed, and what the sequence's steps add. -/
theorem newState_at (i : Fin 4) (sm : Vec Ideal S16x128 .f32) (w : Vec Ideal S128x256 .bf16) (b : Vec Ideal S1x256 .f32)
    (k : Vec Ideal S16x256 .f32) (v : Vec Ideal S16x512 .f32) (s : Vec Ideal S1x1x256x512 .f32) (d : Fin 256) (e : Fin 512) :
    (newState (BitVec.ofNat 32 i.val) sm w b k v s (ix4 0 0 d e) : EReal)
      = state (fun x => gate (∑ y : Fin 128, (sm (ix2 ⟨4 * i.val + x.val, by omega⟩ y) : EReal) * (w (ix2 y d) : EReal) + (b (ix2 0 d) : EReal)))
          (fun x => k (ix2 ⟨4 * i.val + x.val, by omega⟩ d)) (fun x => v (ix2 ⟨4 * i.val + x.val, by omega⟩ e)) (s (ix4 0 0 d e)) := by
  refine (upd_at i _ _ _ _ d e).trans ?_
  rw [s_at]
  refine Eq.trans ?_ (congrArg (fun G => state G _ _ _) (funext fun x : Fin 4 => gate_at sm w b ⟨4 * i.val + x.val, by omega⟩ d))
  refine state_of i (fun c => k0_pay10 (F := Ideal) sm w b (ix2 c d)) (fun c => k (ix2 c d)) (fun c => v (ix2 c e))
    (fun c => (gate_at sm w b c d).trans_le (gate_nonpos _)) _ _ _ _ (fun l => (et_at _ d l).trans ?_) (fun l => kd_at sm w b k d l)
    (fun l => vb_at v l e)
  simp only [decay_at, last_at _ (gate_ne sm w b)]

end Cert.MixersIdeal.Value
-- ==== Proof.MixGlaOut.lean ====
module

public import proofs.«01_k».proof.Proof.MixFrame
public import proofs.«01_k».proof.Proof.MixGlaPay

@[expose] public section

set_option maxRecDepth 16384

noncomputable section

open Idealize.ShloMosaic Idealize.ShloMosaic.TcCoe Idealize.SL.Sem
open Idealize.ShloMosaic.Pipeline (Dat)

namespace Cert.MixersIdeal.Value

open Cert.MixersIdeal Cert.MixersIdeal.Gen Cert.GlaMath

variable (m : (ℓ : Loc nD τ sig) → Buf (Elt Ideal) ℓ)

/-- Where each window's block lies at each step of the grid. -/
theorem idx : ∀ t : Fin cfg0.N, win0_1.index t = ![t.val / 2, 2 + t.val % 2] ∧ win0_2.index t = ![t.val / 2, 2 + t.val % 2]
    ∧ win0_4.index t = ![t.val / 2, 0] ∧ win0_5.index t = ![0, t.val % 2] ∧ win0_6.index t = ![0, t.val % 2]
    ∧ win0_8.index t = ![t.val / 2, t.val % 2, 0, 0] ∧ win0_30.index t = ![t.val / 2, t.val % 2, 0, 0] :=
  (by decide +kernel : ∀ t : Fin grid0.N, _)

/-- The keys' block at a step. -/
theorem blkK (c : Dev nD) (t : Fin cfg0.N) (i : Fin 16) (x : Fin 512) (h : 16 * (t.val / 2) + i.val < 576) (h' : 512 * (2 + t.val % 2) + x.val < 6144) :
    (iblk m c 1 t : FVec Ideal S16x512 .f32) (ix2 i x)
      = (m ((c : Thread nD τ).loc main_arg0) : FVec Ideal S576x6144 .f32) (ix2 ⟨16 * (t.val / 2) + i.val, h⟩ ⟨512 * (2 + t.val % 2) + x.val, h'⟩) := by
  refine Eq.trans ?_ (congrFun (V_main_arg0 m c) _)
  blk_ext [iblk, idx t]

/-- The values' block at a step. -/
theorem blkV (c : Dev nD) (t : Fin cfg0.N) (i : Fin 16) (x : Fin 1024) (h : 16 * (t.val / 2) + i.val < 576) (h' : 1024 * (2 + t.val % 2) + x.val < 6144) :
    (iblk m c 2 t : FVec Ideal S16x1024 .f32) (ix2 i x)
      = (m ((c : Thread nD τ).loc main_arg0) : FVec Ideal S576x6144 .f32) (ix2 ⟨16 * (t.val / 2) + i.val, h⟩ ⟨1024 * (2 + t.val % 2) + x.val, h'⟩) := by
  refine Eq.trans ?_ (congrFun (V_main_arg0 m c) _)
  blk_ext [iblk, idx t]

/-- The block of the small projections at a step. -/
theorem blkU (c : Dev nD) (t : Fin cfg0.N) (i : Fin 16) (x : Fin 128) (h : 16 * (t.val / 2) + i.val < 576) :
    (iblk m c 4 t : FVec Ideal S16x128 .f32) (ix2 i x)
      = (m ((c : Thread nD τ).loc main_arg2) : FVec Ideal S576x128 .f32) (ix2 ⟨16 * (t.val / 2) + i.val, h⟩ x) := by
  refine Eq.trans ?_ (congrFun (V_main_arg2 m c) _)
  blk_ext [iblk, idx t]

/-- The block of the gate's weights at a step. -/
theorem blkW (c : Dev nD) (t : Fin cfg0.N) (i : Fin 128) (x : Fin 512) (h : 512 * (t.val % 2) + x.val < 1024) :
    (iblk m c 5 t : FVec Ideal S128x512 .bf16) (ix2 i x)
      = (V m c main_v3 : FVec Ideal S128x1024 .bf16) (ix2 i ⟨512 * (t.val % 2) + x.val, h⟩) := by
  blk_ext [iblk, idx t]

/-- The block of the gate's bias at a step. -/
theorem blkB (c : Dev nD) (t : Fin cfg0.N) (x : Fin 512) (h : 512 * (t.val % 2) + x.val < 1024) :
    (iblk m c 6 t : FVec Ideal S1x512 .f32) (ix2 0 x)
      = (V m c main_v5 : FVec Ideal S1x1024 .f32) (ix2 0 ⟨512 * (t.val % 2) + x.val, h⟩) := by
  blk_ext [iblk, idx t]

/-- The block of the states before, at a step. -/
theorem blkS (c : Dev nD) (t : Fin cfg0.N) (i : Fin 4) (j : Fin 2) (d : Fin 256) (e : Fin 512) (h : 4 * (t.val / 2) + i.val < 128) (h' : 2 * (t.val % 2) + j.val < 4) :
    (iblk m c 8 t : FVec Ideal S4x2x256x512 .f32) (ix4 i j d e)
      = (V m c main_v41 : FVec Ideal S128x4x256x512 .f32) (ix4 ⟨4 * (t.val / 2) + i.val, h⟩ ⟨2 * (t.val % 2) + j.val, h'⟩ d e) := by
  blk_ext [iblk, idx t]

/-- One element of the new state, of the projections, the padded weights of the gate, its bias, and the states before. -/
def outAt (u : FVec Ideal S576x128 .f32) (w : FVec Ideal S128x1024 .bf16) (b : FVec Ideal S1x1024 .f32)
    (a : FVec Ideal S576x6144 .f32) (s : FVec Ideal S128x4x256x512 .f32) (q : Fin 128) (h : Fin 4) (d : Fin 256) (e : Fin 512) : EReal :=
  state
    (fun x => gate (∑ y : Fin 128, (u (ix2 ⟨q.val * 4 + x.val, by omega⟩ y) : EReal) *
      (w (ix2 y ⟨h.val * 256 + d.val, by omega⟩) : EReal) + (b (ix2 0 ⟨h.val * 256 + d.val, by omega⟩) : EReal)))
    (fun x => a (ix2 ⟨q.val * 4 + x.val, by omega⟩ ⟨1024 + (h.val * 256 + d.val), by omega⟩))
    (fun x => a (ix2 ⟨q.val * 4 + x.val, by omega⟩ ⟨2048 + (h.val * 512 + e.val), by omega⟩)) (s (ix4 q h d e))

theorem inbW : ∀ j : Fin 2, ∀ a, (![0, 256 * j.val] : Fin 2 → Nat) a + S128x256.size a ≤ S128x512.size a := by decide
theorem inbB : ∀ j : Fin 2, ∀ a, (![0, 256 * j.val] : Fin 2 → Nat) a + S1x256.size a ≤ S1x512.size a := by decide
theorem inbK : ∀ j : Fin 2, ∀ a, (![0, 256 * j.val] : Fin 2 → Nat) a + S16x256.size a ≤ S16x512.size a := by decide
theorem inbV : ∀ j : Fin 2, ∀ a, (![0, 512 * j.val] : Fin 2 → Nat) a + S16x512.size a ≤ S16x1024.size a := by decide
theorem inbS : ∀ i : Fin 4, ∀ j : Fin 2, ∀ a, (![i.val, j.val, 0, 0] : Fin 4 → Nat) a + S1x1x256x512.size a ≤ S4x2x256x512.size a := by decide

/-- What the body stores for sequence `i` and head `j` of a step's block. -/
def cell (c : Dev nD) (t : Fin cfg0.N) (i : Fin 4) (j : Fin 2) : FVec Ideal S1x1x256x512 .f32 :=
  newState (BitVec.ofNat 32 i.val) (iblk m c 4 t) (View.ld (iblk m c 5 t) (Rect.unit ![0, 256 * j.val] S128x256.size (inbW j)))
    (View.ld (iblk m c 6 t) (Rect.unit ![0, 256 * j.val] S1x256.size (inbB j)))
    (View.ld (iblk m c 1 t) (Rect.unit ![0, 256 * j.val] S16x256.size (inbK j)))
    (View.ld (iblk m c 2 t) (Rect.unit ![0, 512 * j.val] S16x512.size (inbV j)))
    (View.ld (iblk m c 8 t) (Rect.unit ![i.val, j.val, 0, 0] S1x1x256x512.size (inbS i j)))

theorem ldW (x : FVec Ideal S128x512 .bf16) (j : Fin 2) (y : Fin 128) (d : Fin 256) :
    (View.ld (S := S128x512) (Val := Elt Ideal) (e' := .bf16) x (Rect.unit (s := S128x512) ![0, 256 * j.val] S128x256.size (inbW j)) : FVec Ideal S128x256 .bf16) (ix2 y d) = x (ix2 y ⟨256 * j.val + d.val, by omega⟩) :=
  View.ld_unit_apply_of _ _ _ _ _ _ (by intro a; fin_cases a <;> simp)

theorem ldB (x : FVec Ideal S1x512 .f32) (j : Fin 2) (d : Fin 256) :
    (View.ld (S := S1x512) (Val := Elt Ideal) (e' := .f32) x (Rect.unit (s := S1x512) ![0, 256 * j.val] S1x256.size (inbB j)) : FVec Ideal S1x256 .f32) (ix2 0 d) = x (ix2 0 ⟨256 * j.val + d.val, by omega⟩) :=
  View.ld_unit_apply_of _ _ _ _ _ _ (by intro a; fin_cases a <;> simp)

theorem ldK (x : FVec Ideal S16x512 .f32) (j : Fin 2) (y : Fin 16) (d : Fin 256) :
    (View.ld (S := S16x512) (Val := Elt Ideal) (e' := .f32) x (Rect.unit (s := S16x512) ![0, 256 * j.val] S16x256.size (inbK j)) : FVec Ideal S16x256 .f32) (ix2 y d) = x (ix2 y ⟨256 * j.val + d.val, by omega⟩) :=
  View.ld_unit_apply_of _ _ _ _ _ _ (by intro a; fin_cases a <;> simp)

theorem ldV (x : FVec Ideal S16x1024 .f32) (j : Fin 2) (y : Fin 16) (d : Fin 512) :
    (View.ld (S := S16x1024) (Val := Elt Ideal) (e' := .f32) x (Rect.unit (s := S16x1024) ![0, 512 * j.val] S16x512.size (inbV j)) : FVec Ideal S16x512 .f32) (ix2 y d) = x (ix2 y ⟨512 * j.val + d.val, by omega⟩) :=
  View.ld_unit_apply_of _ _ _ _ _ _ (by intro a; fin_cases a <;> simp)

theorem ldS (x : FVec Ideal S4x2x256x512 .f32) (i : Fin 4) (j : Fin 2) (d : Fin 256) (e : Fin 512) :
    (View.ld (S := S4x2x256x512) (Val := Elt Ideal) (e' := .f32) x (Rect.unit (s := S4x2x256x512) ![i.val, j.val, 0, 0] S1x1x256x512.size (inbS i j)) : FVec Ideal S1x1x256x512 .f32) (ix4 0 0 d e) = x (ix4 i j d e) :=
  View.ld_unit_apply_of _ _ _ _ _ _ (by intro a; fin_cases a <;> simp)

theorem state_congr {g g' k k' v v' : Fin 4 → EReal} {S S' : EReal} (hg : ∀ x, g x = g' x) (hk : ∀ x, k x = k' x) (hv : ∀ x, v x = v' x) (hS : S = S') :
    state g k v S = state g' k' v' S' := by
  rw [funext hg, funext hk, funext hv, hS]

/-- … is that sequence's and head's new state. -/
theorem cell_at (c : Dev nD) (t : Fin cfg0.N) (ht : t.val < 64) (i : Fin 4) (j : Fin 2) (d : Fin 256) (e : Fin 512) :
    (cell m c t i j (ix4 0 0 d e) : EReal) = outAt (m ((c : Thread nD τ).loc main_arg2)) (V m c main_v3) (V m c main_v5)
      (m ((c : Thread nD τ).loc main_arg0)) (V m c main_v41) ⟨4 * (t.val / 2) + i.val, by omega⟩ ⟨2 * (t.val % 2) + j.val, by omega⟩ d e := by
  unfold cell
  refine (newState_at i _ _ _ _ _ _ d e).trans ?_
  unfold outAt
  refine state_congr (fun x => ?_) (fun x => ?_) (fun x => ?_) ?_
  · refine congrArg gate (congrArg₂ _ (Finset.sum_congr rfl fun y _ => congrArg₂ _ ?_ ?_) ?_)
    · refine (blkU m c t _ y (by simp; omega)).trans (congrArg _ ?_)
      congr 1; apply Fin.ext; simp; omega
    · refine (ldW _ j y d).trans ((blkW m c t y _ (by simp; omega)).trans (congrArg _ ?_))
      congr 1; apply Fin.ext; simp; omega
    · refine (ldB _ j d).trans ((blkB m c t _ (by simp; omega)).trans (congrArg _ ?_))
      congr 1; apply Fin.ext; simp; omega
  · refine (ldK _ j _ d).trans ((blkK m c t _ _ (by simp; omega) (by simp; omega)).trans (congrArg _ ?_))
    congr 1 <;> apply Fin.ext <;> simp <;> omega
  · refine (ldV _ j _ e).trans ((blkV m c t _ _ (by simp; omega) (by simp; omega)).trans (congrArg _ ?_))
    congr 1 <;> apply Fin.ext <;> simp <;> omega
  · exact (ldS _ i j d e).trans (blkS m c t i j d e _ _)

/-- An index of a block of four sequences and two heads, and its place in the store that holds it. -/
theorem cell_of (c : Dev nD) (t : Fin cfg0.N) (i n : Fin 4) (j k : Fin 2) (d : Fin 256) (e : Fin 512) (x : S1x1x256x512.Idx)
    (h0 : i.val = n.val + (x 0).val) (h1 : j.val = k.val + (x 1).val) (h2 : d.val = (x 2).val) (h3 : e.val = (x 3).val) :
    cell m c t n k x = cell m c t i j (ix4 0 0 d e) := by
  have x0 : (x 0).val = 0 := Nat.lt_one_iff.mp (x 0).isLt
  have x1 : (x 1).val = 0 := Nat.lt_one_iff.mp (x 1).isLt
  obtain rfl : n = i := Fin.ext (by omega)
  obtain rfl : k = j := Fin.ext (by omega)
  refine congrArg _ (funext fun a => Fin.ext ?_)
  fin_cases a
  · exact x0
  · exact x1
  · exact h2.symm
  · exact h3.symm

set_option maxHeartbeats 1000000 in
/-- What the body leaves in the state's block. -/
theorem block_at (c : Dev nD) (t : Fin cfg0.N) (i : Fin 4) (j : Fin 2) (d : Fin 256) (e : Fin 512) :
    ((outsAt0 m c t).2.1 : FVec Ideal S4x2x256x512 .f32) (ix4 i j d e) = cell m c t i j (ix4 0 0 d e) := by
  generalize hy : (ix4 i j d e : S4x2x256x512.Idx) = y
  have hi : i.val = (y 0).val := by rw [← hy]; rfl
  have hj : j.val = (y 1).val := by rw [← hy]; rfl
  have hd : d.val = (y 2).val := by rw [← hy]; rfl
  have he : e.val = (y 3).val := by rw [← hy]; rfl
  unfold outsAt0
  frame_out
  canon_tiles x h
  · exact (show _ = cell m c t 3 1 x from rfl).trans (cell_of m c t i 3 j 1 d e x (by simp; omega) (by simp; omega) (by omega) (by omega))
  · exact (show _ = cell m c t 2 1 x from rfl).trans (cell_of m c t i 2 j 1 d e x (by simp; omega) (by simp; omega) (by omega) (by omega))
  · exact (show _ = cell m c t 1 1 x from rfl).trans (cell_of m c t i 1 j 1 d e x (by simp; omega) (by simp; omega) (by omega) (by omega))
  · exact (show _ = cell m c t 0 1 x from rfl).trans (cell_of m c t i 0 j 1 d e x (by simp; omega) (by simp; omega) (by omega) (by omega))
  · exact (show _ = cell m c t 3 0 x from rfl).trans (cell_of m c t i 3 j 0 d e x (by simp; omega) (by simp; omega) (by omega) (by omega))
  · exact (show _ = cell m c t 2 0 x from rfl).trans (cell_of m c t i 2 j 0 d e x (by simp; omega) (by simp; omega) (by omega) (by omega))
  · exact (show _ = cell m c t 1 0 x from rfl).trans (cell_of m c t i 1 j 0 d e x (by simp; omega) (by simp; omega) (by omega) (by omega))
  · exact (show _ = cell m c t 0 0 x from rfl).trans (cell_of m c t i 0 j 0 d e x (by simp; omega) (by simp; omega) (by omega) (by omega))

end Cert.MixersIdeal.Value
-- ==== Proof.MixGlaRef.lean ====
module

public import proofs.«01_k».proof.Proof.Gen.MixersRefIdeal.Run
public import proofs.«01_k».proof.Proof.GlaMath
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.MixersRefIdeal.Value

open Cert.MixersRefIdeal Cert.MixersRefIdeal.Gen Cert.GlaMath

/-- The reference's gate before its sigmoid. -/
def PRE (u : FVec Ideal S576x128 .f32) (w : FVec Ideal S1x16x1024 .f32) (b : FVec Ideal S1x1024 .f32) : FVec Ideal S512x1024 .f32 :=
  addf (Host.dotGeneral dot_S512x16_S16x1024_S512x1024_1_0_0_1_n_n none (extractStridedSlice S512x16 ![0, 0] u slices_S576x128_S512x16_0_0)
    (shapeCast _ w shapeCasts_S1x16x1024_S16x1024)) (broadcastInDim S512x1024 ![0, 1] bcast_S1x1024_S512x1024_0_1
    (broadcastInDim S1x1024 ![1] bcast_S1024_S1x1024_1 (shapeCast _ b shapeCasts_S1x1024_S1024)))

/-- The reference's zeros. -/
abbrev ZERO : FVec Ideal S512x1024 .f32 := broadcastInDim S512x1024 ![] bcast_S_S512x1024 (constant S_ .f32 0x00000000#32)

/-- The reference's logarithm of the decay. -/
def GATE (p : FVec Ideal S512x1024 .f32) : FVec Ideal S512x1024 .f32 :=
  Host.divf (Host.negf (select (cmpf .une (subf (Host.negf p) ZERO) (subf (Host.negf p) ZERO)) (addf (Host.negf p) ZERO)
    (addf (maximumf (Host.negf p) ZERO) (Host.log1p (Host.exp (Host.negf (Host.absf (subf (Host.negf p) ZERO))))))))
    (broadcastInDim S512x1024 ![] bcast_S_S512x1024 (constant S_ .f32 0x41800000#32))

/-- The reference's cumulative sum over a sequence. -/
def CUM (g : FVec Ideal S512x1024 .f32) : FVec Ideal S128x4x4x256 .f32 :=
  Host.reduceWindowAdd ![1, 4, 1, 1] ![1, 1, 1, 1] ![0, 3, 0, 0] ![0, 0, 0, 0] (shapeCast _ g shapeCasts_S512x1024_S128x4x4x256)
    (broadcastInDim S_ ![] bcast_S_S_ (constant S_ .f32 0x00000000#32))
    reduceWindows_S128x4x4x256_S128x4x4x256_w1s1p0_0_w4s1p3_0_w1s1p0_0_w1s1p0_0 h_S_

/-- The sum over a whole sequence. -/
def LAST (c : FVec Ideal S128x4x4x256 .f32) : FVec Ideal S128x4x256 .f32 :=
  shapeCast _ (extractStridedSlice S128x1x4x256 ![0, 3, 0, 0] c slices_S128x4x4x256_S128x1x4x256_0_3_0_0) shapeCasts_S128x1x4x256_S128x4x256

/-- The reference's new state from the cumulative sum. -/
def STATE (a : FVec Ideal S576x6144 .f32) (s : FVec Ideal S1x128x4x256x512 .f32) (c : FVec Ideal S128x4x4x256 .f32) : FVec Ideal S128x4x256x512 .f32 :=
  addf (mulf (broadcastInDim S128x4x256x512 ![0, 1, 2, 3] bcast_S128x4x256x1_S128x4x256x512_0_1_2_3
      (broadcastInDim S128x4x256x1 ![0, 1, 2] bcast_S128x4x256_S128x4x256x1_0_1_2 (Host.exp (LAST c))))
      (shapeCast _ s shapeCasts_S1x128x4x256x512_S128x4x256x512))
    (Host.dotGeneral dot_S128x4x4x256_S128x4x4x512_S128x4x256x512_1_1_3_3_02_02 none
      (mulf (shapeCast _ (extractStridedSlice S512x1024 ![0, 1024] a slices_S576x6144_S512x1024_0_1024) shapeCasts_S512x1024_S128x4x4x256)
        (Host.exp (subf (broadcastInDim S128x4x4x256 ![0, 1, 2, 3] bcast_S128x1x4x256_S128x4x4x256_0_1_2_3
          (broadcastInDim S128x1x4x256 ![0, 2, 3] bcast_S128x4x256_S128x1x4x256_0_2_3 (LAST c))) c)))
      (shapeCast _ (extractStridedSlice S512x2048 ![0, 2048] a slices_S576x6144_S512x2048_0_2048) shapeCasts_S512x2048_S128x4x4x512))

theorem res_eq (m : (ℓ : Loc nD τ sig) → Buf (Elt Ideal) ℓ) (c : Dev nD) :
    res_main_v29 m c = STATE (m ((c.tc : Thread nD τ).loc main_arg0)) (m ((c.tc : Thread nD τ).loc main_arg12))
      (CUM (GATE (PRE (m ((c.tc : Thread nD τ).loc main_arg2)) (m ((c.tc : Thread nD τ).loc main_arg3)) (m ((c.tc : Thread nD τ).loc main_arg4))))) := rfl

theorem pre_at (u : FVec Ideal S576x128 .f32) (w : FVec Ideal S1x16x1024 .f32) (b : FVec Ideal S1x1024 .f32) (r : Fin 512) (d : Fin 1024) :
    (PRE u w b (ix2 r d) : EReal) = ∑ x : Fin 16, (u (ix2 ⟨r.val, by omega⟩ ⟨x.val, by omega⟩) : EReal) * (w (ix3 0 x d) : EReal) + (b (ix2 0 d) : EReal) := by
  pointwise [PRE]

theorem gate_at (p : FVec Ideal S512x1024 .f32) (r : Fin 512) (d : Fin 1024) : (GATE p (ix2 r d) : EReal) = gate (p (ix2 r d)) := by
  pointwise [GATE]
  rw [if_neg (fun h => h rfl), sixteen, Ideal.div_coe (by norm_num)]
  unfold gate
  rw [sixteenth, zero_sub, zero_sub, zero_sub]
  rfl

theorem last_at (c : FVec Ideal S128x4x4x256 .f32) (q : Fin 128) (h : Fin 4) (d : Fin 256) :
    (LAST c (ix3 q h d) : EReal) = c (ix4 q 3 h d) := by
  pointwise [LAST]

theorem state_at (a : FVec Ideal S576x6144 .f32) (s : FVec Ideal S1x128x4x256x512 .f32) (c : FVec Ideal S128x4x4x256 .f32)
    (q : Fin 128) (h : Fin 4) (d : Fin 256) (e : Fin 512) :
    (STATE a s c (ix4 q h d e) : EReal) = Ideal.exp (c (ix4 q 3 h d)) * s (ix5 0 q h d e) +
      ∑ x : Fin 4, a (ix2 ⟨q.val * 4 + x.val, by omega⟩ ⟨1024 + (h.val * 256 + d.val), by omega⟩) *
        Ideal.exp (c (ix4 q 3 h d) - c (ix4 q x h d)) * a (ix2 ⟨q.val * 4 + x.val, by omega⟩ ⟨2048 + (h.val * 512 + e.val), by omega⟩) := by
  pointwise [STATE, LAST]

theorem fold_sum {n : Nat} (f : Fin n → EReal) : (List.finRange n).foldl (fun r k => r + f k) 0 = ∑ k, f k := by
  rw [← List.foldl_map (f := f) (g := (· + ·)), ← List.sum_eq_foldl, ← List.ofFn_eq_map, List.sum_ofFn]

/-- The place of a window's element: its second coordinate counts. -/
theorem win_at (n : Fin 4) : ∀ a : Fin 4, ((⟨4, ![1, 4, 1, 1]⟩ : Shape).rowMajor.symm (n.cast (by decide)) a).val = (![0, n.val, 0, 0] : Fin 4 → Nat) a := by
  decide +revert

theorem shift_sum (G : Fin 4 → EReal) (t : Fin 4) :
    (∑ k : Fin 4, if h : 3 ≤ t.val + k.val then G ⟨t.val + k.val - 3, by omega⟩ else 0) = ∑ x, if x ≤ t then G x else 0 := by
  fin_cases t <;> simp [Fin.sum_univ_four]

theorem cum_of (x : FVec Ideal S128x4x4x256 .f32) (v : FVec Ideal S_ .f32) (hv : v (Shape.Idx.first h_S_) = (0 : EReal)) (q : Fin 128) (t : Fin 4) (h : Fin 4) (d : Fin 256) :
    (Host.reduceWindowAdd ![1, 4, 1, 1] ![1, 1, 1, 1] ![0, 3, 0, 0] ![0, 0, 0, 0] x v
      reduceWindows_S128x4x4x256_S128x4x4x256_w1s1p0_0_w4s1p3_0_w1s1p0_0_w1s1p0_0 h_S_ (ix4 q t h d) : EReal) = ∑ y : Fin 4, if y ≤ t then (x (ix4 q y h d) : EReal) else 0 := by
  rw [← shift_sum (fun y => x (ix4 q y h d)) t]
  unfold Host.reduceWindowAdd
  rw [hv]
  simp only [FloatOps.hostReduceWindowAdd, Ideal.hostReduceWindowAdd, Host.reduceWindow]
  refine (fold_sum _).trans ?_
  refine (Fintype.sum_equiv (finCongr (by decide)) _ _ fun n => ?_).symm
  have hw : ∀ a : Fin 4, ((⟨4, ![1, 4, 1, 1]⟩ : Shape).rowMajor.symm (finCongr (by decide) n) a).val = (![0, n.val, 0, 0] : Fin 4 → Nat) a := win_at n
  have hin : (∀ a : Fin 4, (![0, 3, 0, 0] : Fin 4 → Nat) a ≤ ((ix4 q t h d : S128x4x4x256.Idx) a).val * (![1, 1, 1, 1] : Fin 4 → Nat) a + (![0, n.val, 0, 0] : Fin 4 → Nat) a ∧
      ((ix4 q t h d : S128x4x4x256.Idx) a).val * (![1, 1, 1, 1] : Fin 4 → Nat) a + (![0, n.val, 0, 0] : Fin 4 → Nat) a - (![0, 3, 0, 0] : Fin 4 → Nat) a < S128x4x4x256.size a) ↔ 3 ≤ t.val + n.val := by
    constructor
    · intro h; have := (h 1).1; simpa using this
    · intro h a; fin_cases a <;> simp <;> omega
  by_cases ht : 3 ≤ t.val + n.val
  · rw [dif_pos ht]
    refine Eq.trans ?_ (dif_pos (fun a => by rw [hw a]; exact hin.2 ht a)).symm
    congr 1
    funext a
    apply Fin.ext
    show _ = ((ix4 q t h d : S128x4x4x256.Idx) a).val * (![1, 1, 1, 1] : Fin 4 → Nat) a + _ - (![0, 3, 0, 0] : Fin 4 → Nat) a
    rw [hw a]
    fin_cases a <;> simp
  · rw [dif_neg ht]
    symm
    apply dif_neg
    intro H
    exact ht (hin.1 fun a => by have h' := H a; rw [hw a] at h'; exact h')

theorem cum_at (g : FVec Ideal S512x1024 .f32) (q : Fin 128) (t : Fin 4) (h : Fin 4) (d : Fin 256) :
    (CUM g (ix4 q t h d) : EReal) = ∑ x : Fin 4, if x ≤ t then (g (ix2 ⟨q.val * 4 + x.val, by omega⟩ ⟨h.val * 256 + d.val, by omega⟩) : EReal) else 0 := by
  refine (cum_of _ _ (by pointwise []) q t h d).trans (Finset.sum_congr rfl fun x _ => ?_)
  congr 1
  pointwise []

theorem whole_sum (f : Fin 4 → EReal) : (∑ x, if x ≤ 3 then f x else 0) = ∑ x, f x :=
  Finset.sum_congr rfl fun x _ => if_pos (Fin.le_last x)

/-- One element of the new state, of the projections, the gate's weight and bias, and the state before. -/
def newAt (u : FVec Ideal S576x128 .f32) (w : FVec Ideal S1x16x1024 .f32) (b : FVec Ideal S1x1024 .f32)
    (a : FVec Ideal S576x6144 .f32) (s : FVec Ideal S1x128x4x256x512 .f32) (q : Fin 128) (h : Fin 4) (d : Fin 256) (e : Fin 512) : EReal :=
  state
    (fun x => gate (∑ y : Fin 16, (u (ix2 ⟨q.val * 4 + x.val, by omega⟩ ⟨y.val, by omega⟩) : EReal) *
      (w (ix3 0 y ⟨h.val * 256 + d.val, by omega⟩) : EReal) + (b (ix2 0 ⟨h.val * 256 + d.val, by omega⟩) : EReal)))
    (fun x => a (ix2 ⟨q.val * 4 + x.val, by omega⟩ ⟨1024 + (h.val * 256 + d.val), by omega⟩))
    (fun x => a (ix2 ⟨q.val * 4 + x.val, by omega⟩ ⟨2048 + (h.val * 512 + e.val), by omega⟩)) (s (ix5 0 q h d e))

theorem state_of_inputs (u : FVec Ideal S576x128 .f32) (w : FVec Ideal S1x16x1024 .f32) (b : FVec Ideal S1x1024 .f32)
    (a : FVec Ideal S576x6144 .f32) (s : FVec Ideal S1x128x4x256x512 .f32) (q : Fin 128) (h : Fin 4) (d : Fin 256) (e : Fin 512) :
    (STATE a s (CUM (GATE (PRE u w b))) (ix4 q h d e) : EReal) = newAt u w b a s q h d e := by
  refine (state_at _ _ _ q h d e).trans ?_
  simp only [cum_at, gate_at, pre_at, whole_sum]
  rfl

/-- The reference's new state at an element. -/
theorem ref_at (m : (ℓ : Loc nD τ sig) → Buf (Elt Ideal) ℓ) (c : Dev nD) (q : Fin 128) (h : Fin 4) (d : Fin 256) (e : Fin 512) :
    (res_main_v29 m c (ix4 q h d e) : EReal) = newAt (m ((c.tc : Thread nD τ).loc main_arg2)) (m ((c.tc : Thread nD τ).loc main_arg3))
      (m ((c.tc : Thread nD τ).loc main_arg4)) (m ((c.tc : Thread nD τ).loc main_arg0)) (m ((c.tc : Thread nD τ).loc main_arg12)) q h d e :=
  (congrFun (res_eq m c) _).trans (state_of_inputs _ _ _ _ _ q h d e)

end Cert.MixersRefIdeal.Value
-- ==== Proof.MixGlaValue.lean ====
module

public import proofs.«01_k».proof.Defs
public import proofs.«01_k».proof.Proof.Gen.Mixers
public import proofs.«01_k».proof.Proof.MixGlaOut
public import proofs.«01_k».proof.Proof.MixGlaRef
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixersIdeal.Value

open Cert.MixersIdeal Cert.MixersIdeal.Gen Cert.GlaMath

section Kept

variable {F : FTy → Type} [FloatOps F]
variable (m : (ℓ : Loc nD τ sig) → Buf (Elt F) ℓ) (ρ : Dev nD → PrngReg)

/-- The new states after the run. -/
theorem post30 (r : PUnit × MemSt nD τ sig (Elt F)) (h : Pipeline.FramePost cfgs (dats m) 0 (V m) r) (c : Dev nD) :
    r.2.mem ((c : Thread nD τ).loc main_v44_1) = (dats m 0 c).arrAt 30 cfg0.N :=
  (h c).1 30

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 12).trans (((dats m 0 c).arrAt_in 12 rfl _).trans ((A_eq m c 12).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 13).trans (((dats m 0 c).arrAt_in 13 rfl _).trans ((A_eq m c 13).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The run with the new states and the arguments after it. -/
theorem run_state : θ_run defs (onTc (τ := τ) (main (F := F))) ⟨m, fun _ => 0, ρ⟩ fun r => ∀ c : Dev nD,
      r.2.mem ((c : Thread nD τ).loc main_v44_1) = (dats m 0 c).arrAt 30 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post30 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Kept

variable (m : (ℓ : Loc nD τ sig) → Buf (Elt Ideal) ℓ)

/-- The gate's weights, padded with zeros. -/
def WG (w : FVec Ideal S1x16x1024 .f32) : FVec Ideal S128x1024 .bf16 :=
  truncf .bf16 (concatenate S128x1024 0 [⟨S16x1024, shapeCast _ w shapeCasts_S1x16x1024_S16x1024⟩,
    ⟨S112x1024, broadcastInDim S112x1024 ![] bcast_S_S112x1024 (constant S_ .f32 0x00000000#32)⟩] concatenates_S16x1024_S112x1024_S128x1024_d0) bitsLt_bf16_f32

/-- The gate's bias as a row. -/
def BG (b : FVec Ideal S1x1024 .f32) : FVec Ideal S1x1024 .f32 :=
  broadcastInDim S1x1024 ![1] bcast_S1024_S1x1024_1 (shapeCast S1024 b shapeCasts_S1x1024_S1024)

/-- The states before. -/
def S0 (s : FVec Ideal S1x128x4x256x512 .f32) : FVec Ideal S128x4x256x512 .f32 :=
  shapeCast _ s shapeCasts_S1x128x4x256x512_S128x4x256x512

/-- What the region finds as the gate's weights. -/
theorem entryW (c : Dev nD) : (V m c main_v3 : FVec Ideal S128x1024 .bf16) = WG (m ((c : Thread nD τ).loc main_arg3)) := by
  entry_read
  rfl

/-- What the region finds as the gate's bias. -/
theorem entryB (c : Dev nD) : (V m c main_v5 : FVec Ideal S1x1024 .f32) = BG (m ((c : Thread nD τ).loc main_arg4)) := by
  entry_read
  rfl

/-- What the region finds as the states before. -/
theorem entryS (c : Dev nD) : (V m c main_v41 : FVec Ideal S128x4x256x512 .f32) = S0 (m ((c : Thread nD τ).loc main_arg12)) := by
  entry_read
  rfl

theorem wg_at (w : FVec Ideal S1x16x1024 .f32) (y : Fin 128) (d : Fin 1024) :
    (WG w (ix2 y d) : EReal) = if h : y.val < 16 then (w (ix3 0 ⟨y.val, h⟩ d) : EReal) else 0 := by
  pointwise [WG]

theorem bg_at (b : FVec Ideal S1x1024 .f32) (d : Fin 1024) : (BG b (ix2 0 d) : EReal) = b (ix2 0 d) := by
  pointwise [BG]

theorem s0_at (s : FVec Ideal S1x128x4x256x512 .f32) (q : Fin 128) (h : Fin 4) (d : Fin 256) (e : Fin 512) :
    (S0 s (ix4 q h d e) : EReal) = s (ix5 0 q h d e) := by
  pointwise [S0]

/-- A sum with zeros after the first sixteen. -/
theorem sum_pad (u : Fin 128 → EReal) (w : Fin 16 → EReal) :
    (∑ y : Fin 128, u y * if h : y.val < 16 then w ⟨y.val, h⟩ else 0) = ∑ y : Fin 16, u ⟨y.val, by omega⟩ * w y := by
  refine (Fin.sum_univ_add (a := 16) (b := 112) _).trans ?_
  simp only [Fin.val_castAdd, Fin.is_lt, dite_true, Fin.val_natAdd]
  rw [Finset.sum_eq_zero (s := (Finset.univ : Finset (Fin 112)))
    (fun y _ => by rw [dif_neg (by omega), mul_zero]), add_zero]
  rfl

/-- What the call leaves of the states. -/
def out (u : FVec Ideal S576x128 .f32) (w : FVec Ideal S128x1024 .bf16) (b : FVec Ideal S1x1024 .f32)
    (a : FVec Ideal S576x6144 .f32) (s : FVec Ideal S128x4x256x512 .f32) : FVec Ideal S128x4x256x512 .f32 := fun j =>
  (outAt u w b a s (j 0) (j 1) (j 2) (j 3) : EReal)

/-- The new states after the run. -/
theorem result (c : Dev nD) : (dats m 0 c).arrAt 30 (cfgs 0).N = out (m ((c : Thread nD τ).loc main_arg2)) (V m c main_v3)
    (V m c main_v5) (m ((c : Thread nD τ).loc main_arg0)) (V m c main_v41) := by
  refine (dats m 0 c).arrAt_eq_of_covers 30 _ (by decide +kernel) fun t _ y => ?_
  have ht : t.val < 64 := lt_of_lt_of_eq t.isLt N_0
  blk_simp
  rw [after0_30]
  obtain ⟨i, j, d, e, rfl⟩ : ∃ (i : Fin 4) (j : Fin 2) (d : Fin 256) (e : Fin 512), y = ix4 i j d e :=
    ⟨y 0, y 1, y 2, y 3, eq_ix4 (n0 := 4) (n1 := 2) (n2 := 256) (n3 := 512) y⟩
  refine (block_at m c t i j d e).trans ((cell_at m c t ht i j d e).trans ?_)
  have hj : ((cfg0.win 30).blk t).view.emb (ix4 i j d e)
      = (ix4 ⟨4 * (t.val / 2) + i.val, by omega⟩ ⟨2 * (t.val % 2) + j.val, by omega⟩ d e : S128x4x256x512.Idx) := by
    blk_ext [idx t]
  refine Eq.trans ?_ (congrArg (out _ _ _ _ _) hj.symm)
  rfl

open Cert.MixersRefIdeal.Value in
/-- An element of the new states, of what the region finds, is the reference's. -/
theorem out_at (u : FVec Ideal S576x128 .f32) (w : FVec Ideal S1x16x1024 .f32) (b : FVec Ideal S1x1024 .f32)
    (a : FVec Ideal S576x6144 .f32) (s : FVec Ideal S1x128x4x256x512 .f32) (q : Fin 128) (h : Fin 4) (d : Fin 256) (e : Fin 512) :
    newAt u w b a s q h d e = outAt u (WG w) (BG b) a (S0 s) q h d e := by
  unfold newAt outAt
  refine state_congr (fun x => congrArg gate (congrArg₂ _ ?_ (bg_at b _).symm)) (fun _ => rfl) (fun _ => rfl) (s0_at s q h d e).symm
  simp only [wg_at]
  exact (sum_pad (fun y => u (ix2 _ y)) (fun y => w (ix3 0 y _))).symm

end Cert.MixersIdeal.Value

namespace Cert.Proof

open Cert.MixersIdeal Cert.MixersIdeal.Value

/-- The same over the extended reals. -/
theorem frame_MixersIdeal : Cert.quiescent_MixersIdeal := fun m ρ _ => Cert.MixersIdeal.Gen.frame m ρ

/-- The reference of the mixers runs, leaves its arguments and has no semaphore. -/
theorem frame_MixersRefIdeal : Cert.quiescent_MixersRefIdeal := fun m ρ _ =>
  (θ_run Cert.MixersRefIdeal.defs _ _).mono (fun r h => ⟨fun c => (h c).2, sem_eq_zero_of_no_sems (by rfl) r.2⟩)
    (Cert.MixersRefIdeal.Value.run m ρ)

/-- Over the extended reals the mixers' new states are the reference's. -/
theorem algebraic_Mixers : Cert.algebraic_MixersIdeal_MixersRefIdeal := by
  pair_intro
  · run_from Cert.MixersIdeal.Value.run_state m g
  · run_from Cert.MixersRefIdeal.Value.run m' g'
    refine Eq.trans ?_ (result m c).symm
    rw [entryW, entryB, entryS]
    funext j
    obtain ⟨q, h, d, e, rfl⟩ : ∃ (q : Fin 128) (h : Fin 4) (d : Fin 256) (e : Fin 512), j = ix4 q h d e :=
      ⟨j 0, j 1, j 2, j 3, eq_ix4 (n0 := 128) (n1 := 4) (n2 := 256) (n3 := 512) j⟩
    refine (Cert.MixersRefIdeal.Value.ref_at m' c q h d e).trans ?_
    obtain ⟨h0, _, h2, h3, h4, _, _, _, _, _, _, _, h12, _⟩ := hagree c
    rw [h0, h2, h3, h4, h12]
    exact out_at _ _ _ _ _ q h d e

end Cert.Proof
-- ==== Proof.MlpUpValue.lean ====
module

public import proofs.«01_k».proof.Proof.Gen.MlpUpIdeal.Value
public import proofs.«01_k».proof.Proof.Gen.MlpUpRefIdeal.Run
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpUpIdeal.Value

open Cert.MlpUpIdeal Cert.MlpUpIdeal.Gen

variable (m : (ℓ : Loc nD τ sig) → Buf (Elt Ideal) ℓ)

/-- Where each window's block lies at each step of the grid. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- What the region finds as its weights: the argument without its first axis. -/
theorem entry (c : Dev nD) : (V m c main_v0 : FVec Ideal S4096x16384 .f32) =
    shapeCast S4096x16384 (m ((c : Thread nD τ).loc main_arg1) : FVec Ideal S1x4096x16384 .f32) shapeCasts_S1x4096x16384_S4096x16384 := by
  entry_read
  rfl

/-- The activations' block is all of them, at every step. -/
theorem blk0 (c : Dev nD) (t : Fin cfg0.N) (i : Fin 512) (x : Fin 4096) :
    (iblk m c 0 t : FVec Ideal S512x4096 .bf16) (ix2 i x) = (m ((c : Thread nD τ).loc main_arg0) : FVec Ideal S512x4096 .bf16) (ix2 i x) := by
  refine Eq.trans ?_ (congrFun (V_main_arg0 m c) _)
  blk_ext [iblk, idx t]

/-- The weights' block at step `t` is columns `512 * t` onward. -/
theorem blk1 (c : Dev nD) (t : Fin cfg0.N) (i : Fin 4096) (x : Fin 512) (h : 512 * t.val + x.val < 16384) :
    (iblk m c 1 t : FVec Ideal S4096x512 .f32) (ix2 i x)
      = (V m c main_v0 : FVec Ideal S4096x16384 .f32) (ix2 i ⟨512 * t.val + x.val, h⟩) := by
  blk_ext [iblk, idx t]

/-- The square of the positive part of a number. -/
def relu2 (x : EReal) : EReal := max x 0 * max x 0

/-- The first result over the activations and the weights. -/
def out (X : FVec Ideal S512x4096 .bf16) (W : FVec Ideal S4096x16384 .f32) : FVec Ideal S512x16384 .bf16 := fun j =>
  relu2 (∑ k : Fin 4096, (X (ix2 (j 0) k) : EReal) * (W (ix2 k (j 1)) : EReal))

/-- What the body computes, at a row and a column. -/
theorem pay_at (v0 : Vec Ideal S4096x512 .f32) (v4 : Vec Ideal S512x4096 .bf16) (i : Fin 512) (n : Fin 512) :
    (k0_pay2 (F := Ideal) v0 v4 (ix2 i n) : EReal) = relu2 (∑ k : Fin 4096, (v4 (ix2 i k) : EReal) * (v0 (ix2 k n) : EReal)) := by
  pointwise [k0_pay2, k0_pay1, relu2]

/-- What the reference computes, at a row and a column. -/
theorem ref_at (a0 : FVec Ideal S512x4096 .bf16) (a1 : FVec Ideal S1x4096x16384 .f32) (i : Fin 512) (n : Fin 16384) :
    ((truncf .bf16 (mulf (maximumf (Host.dotGeneral (F := Ideal) (φ₁ := .f32) (φ₂ := .f32) Cert.MlpUpRefIdeal.dot_S512x4096_S4096x16384_S512x16384_1_0_0_1_n_n none (extf .f32 a0 Cert.MlpUpRefIdeal.Gen.bitsLt_bf16_f32) (shapeCast S4096x16384 a1 shapeCasts_S1x4096x16384_S4096x16384)) (broadcastInDim S512x16384 ![] Cert.MlpUpRefIdeal.Gen.bcast_S_S512x16384 (constant Cert.MlpUpRefIdeal.S_ .f32 0x00000000#32))) (maximumf (Host.dotGeneral (F := Ideal) (φ₁ := .f32) (φ₂ := .f32) Cert.MlpUpRefIdeal.dot_S512x4096_S4096x16384_S512x16384_1_0_0_1_n_n none (extf .f32 a0 Cert.MlpUpRefIdeal.Gen.bitsLt_bf16_f32) (shapeCast S4096x16384 a1 shapeCasts_S1x4096x16384_S4096x16384)) (broadcastInDim S512x16384 ![] Cert.MlpUpRefIdeal.Gen.bcast_S_S512x16384 (constant Cert.MlpUpRefIdeal.S_ .f32 0x00000000#32)))) bitsLt_bf16_f32 : FVec Ideal S512x16384 .bf16) (ix2 i n) : EReal)
     = relu2 (∑ k : Fin 4096, (a0 (ix2 i k) : EReal) * (shapeCast S4096x16384 a1 shapeCasts_S1x4096x16384_S4096x16384 (ix2 k n) : EReal)) := by
  pointwise [relu2]

/-- The first result after the run. -/
theorem final2' (c : Dev nD) : (dats m 0 c).arrAt 2 (cfgs 0).N = out (m ((c : Thread nD τ).loc main_arg0)) (V m c main_v0) := by
  refine (dats m 0 c).arrAt_eq_of_covers 2 _ (by decide +kernel) fun t _ y => ?_
  have ht : t.val < 32 := lt_of_lt_of_eq t.isLt N_0
  blk_simp
  rw [after0_2]; frame_out
  obtain ⟨i, n, rfl⟩ : ∃ (i : Fin 512) (n : Fin 512), y = ix2 i n := ⟨y 0, y 1, eq_ix2 (n0 := 512) (n1 := 512) y⟩
  refine (pay_at _ _ i n).trans ?_
  refine congrArg relu2 (Finset.sum_congr rfl fun k _ => ?_)
  rw [blk0 m c t i k, blk1 m c t k n (by omega)]
  congr 1
  · blk_ext [idx t]
  · blk_ext [idx t]

/-- The second result after the run: the weights. -/
theorem final3' (c : Dev nD) : (dats m 0 c).arrAt 3 (cfgs 0).N = (V m c main_v0 : FVec Ideal S4096x16384 .bf16) := by
  refine (dats m 0 c).arrAt_eq_of_covers 3 _ (by decide +kernel) fun t _ y => ?_
  have ht : t.val < 32 := lt_of_lt_of_eq t.isLt N_0
  blk_simp
  rw [after0_3]; frame_out
  obtain ⟨i, n, rfl⟩ : ∃ (i : Fin 4096) (n : Fin 512), y = ix2 i n := ⟨y 0, y 1, eq_ix2 (n0 := 4096) (n1 := 512) y⟩
  pointwise [k0_pay1]
  refine (blk1 m c t i n (by omega)).trans ?_
  blk_ext [idx t]

end Cert.MlpUpIdeal.Value
namespace Cert.Proof
open Idealize.ShloMosaic Idealize.SL.Sem Cert.MlpUpIdeal Cert.MlpUpIdeal.Value

/-- The reference of the feed-forward part's first product runs, leaves its arguments and has no semaphore. -/
theorem mlpUp_frame_ref : Cert.quiescent_MlpUpRefIdeal := fun m ρ _ =>
  (θ_run Cert.MlpUpRefIdeal.defs _ _).mono (fun r h => ⟨fun c => (h c).2.2, sem_eq_zero_of_no_sems (by rfl) r.2⟩)
    (Cert.MlpUpRefIdeal.Value.run m ρ)

/-- Over the extended reals the feed-forward part's first product is the reference's. -/
theorem mlpUp_algebraic : Cert.algebraic_MlpUpIdeal_MlpUpRefIdeal := by
  pair_intro
  · run_from Cert.MlpUpIdeal.Value.run_blocks m g
  · run_from Cert.MlpUpRefIdeal.Value.run m' g'
    · refine Eq.trans ?_ (final2' m c).symm
      rw [entry]
      funext j
      obtain ⟨i, n, rfl⟩ : ∃ (i : Fin 512) (n : Fin 16384), j = ix2 i n := ⟨j 0, j 1, eq_ix2 (n0 := 512) (n1 := 16384) j⟩
      exact ref_at _ _ i n
    · refine Eq.trans ?_ (final3' m c).symm
      rw [entry]; rfl
end Cert.Proof
-- ==== Proof.DownProjValue.lean ====
module

public import proofs.«01_k».proof.Defs
public import proofs.«01_k».proof.Proof.Gen.DownProjIdeal.Value
public import proofs.«01_k».proof.Proof.Gen.DownProjRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownProjRefIdeal.Value

open Cert.DownProjRefIdeal Cert.DownProjRefIdeal.Gen

/-- The residual's normalised element times the constant. -/
def base (p mu r g b : EReal) : EReal := Ideal.ofBits .f32 0x3F9837F0#32 * ((p - mu) * r * g + b)

/-- The reference's residual sum over its arguments, the weights as a matrix. -/
abbrev REF (a0 : FVec Ideal S512x16384 .bf16) (w : FVec Ideal S16384x4096 .f32) (a2 : FVec Ideal S512x4096 .f32)
    (a3 : FVec Ideal S512x128 .f32) (a4 a5 : FVec Ideal S1x4096 .f32) : FVec Ideal S512x4096 .f32 :=
  addf (mulf (broadcastInDim S512x4096 ![] bcast_S_S512x4096 (constant S_ .f32 0x3F9837F0#32)) (addf (mulf (mulf (subf a2 (broadcastInDim S512x4096 ![0, 1] bcast_S512x1_S512x4096_0_1 (extractStridedSlice S512x1 ![0, 0] a3 slices_S512x128_S512x1_0_0))) (broadcastInDim S512x4096 ![0, 1] bcast_S512x1_S512x4096_0_1 (extractStridedSlice S512x1 ![0, 1] a3 slices_S512x128_S512x1_0_1))) (broadcastInDim S512x4096 ![0, 1] bcast_S1x4096_S512x4096_0_1 (broadcastInDim S1x4096 ![1] bcast_S4096_S1x4096_1 (shapeCast S4096 a4 shapeCasts_S1x4096_S4096)))) (broadcastInDim S512x4096 ![0, 1] bcast_S1x4096_S512x4096_0_1 (broadcastInDim S1x4096 ![1] bcast_S4096_S1x4096_1 (shapeCast S4096 a5 shapeCasts_S1x4096_S4096))))) (Host.dotGeneral (F := Ideal) (φ₁ := .f32) (φ₂ := .f32) dot_S512x16384_S16384x4096_S512x4096_1_0_0_1_n_n none (extf .f32 a0 bitsLt_bf16_f32) w)

/-- The reference's residual sum at a row and a column. -/
theorem ref_at (a0 : FVec Ideal S512x16384 .bf16) (w : FVec Ideal S16384x4096 .f32) (a2 : FVec Ideal S512x4096 .f32)
    (a3 : FVec Ideal S512x128 .f32) (a4 a5 : FVec Ideal S1x4096 .f32) (i : Fin 512) (n : Fin 4096) :
    (REF a0 w a2 a3 a4 a5 (ix2 i n) : EReal) = base (a2 (ix2 i n)) (a3 (ix2 i 0)) (a3 (ix2 i 1)) (a4 (ix2 0 n)) (a5 (ix2 0 n))
      + ∑ k : Fin 16384, (a0 (ix2 i k) : EReal) * w (ix2 k n) := by
  pointwise [REF, base]

end Cert.DownProjRefIdeal.Value

namespace Cert.DownProjIdeal.Value

open Cert.DownProjIdeal Cert.DownProjIdeal.Gen
open Cert.DownProjRefIdeal.Value (base)

variable (m : (ℓ : Loc nD τ sig) → Buf (Elt Ideal) ℓ)

/-- Where each window's block lies at each step of the grid. -/
theorem idx : ∀ t : Fin cfg0.N, win0_0.index t = ![0, t.val % 8] ∧ win0_1.index t = ![t.val % 8, t.val / 8]
    ∧ win0_2.index t = ![0, t.val / 8] ∧ win0_3.index t = ![0, 0] ∧ win0_4.index t = ![0, t.val / 8] ∧ win0_5.index t = ![0, t.val / 8]
    ∧ win0_6.index t = ![0, t.val / 8] ∧ win0_7.index t = ![t.val % 8, t.val / 8] :=
  (by decide +kernel : ∀ t : Fin grid0.N, _)

/-- The weights as a matrix. -/
abbrev W (a1 : FVec Ideal S1x16384x4096 .f32) : FVec Ideal S16384x4096 .f32 := shapeCast S16384x4096 a1 shapeCasts_S1x16384x4096_S16384x4096

/-- What the region finds as its weights. -/
theorem entry0 (c : Dev nD) : (V m c main_v0 : FVec Ideal S16384x4096 .f32) = W (m ((c : Thread nD τ).loc main_arg1)) := by
  entry_read
  rfl

/-- A row taken through a vector is the row. -/
theorem row_at (a : FVec Ideal S1x4096 .f32) (n : Fin 4096) : broadcastInDim S1x4096 ![1] bcast_S4096_S1x4096_1
    (shapeCast S4096 a shapeCasts_S1x4096_S4096) (ix2 0 n) = a (ix2 0 n) := by
  pointwise

/-- What the region finds as its scale. -/
theorem scaleEntry (c : Dev nD) (n : Fin 4096) : (V m c main_v2 : FVec Ideal S1x4096 .f32) (ix2 0 n)
    = (m ((c : Thread nD τ).loc main_arg4) : FVec Ideal S1x4096 .f32) (ix2 0 n) := by
  have e : (V m c main_v2 : FVec Ideal S1x4096 .f32) = broadcastInDim S1x4096 ![1] bcast_S4096_S1x4096_1
      (shapeCast S4096 (m ((c : Thread nD τ).loc main_arg4) : FVec Ideal S1x4096 .f32) shapeCasts_S1x4096_S4096) := by
    entry_read; rfl
  rw [e]; exact row_at _ n

/-- What the region finds as its shift. -/
theorem shiftEntry (c : Dev nD) (n : Fin 4096) : (V m c main_v4 : FVec Ideal S1x4096 .f32) (ix2 0 n)
    = (m ((c : Thread nD τ).loc main_arg5) : FVec Ideal S1x4096 .f32) (ix2 0 n) := by
  have e : (V m c main_v4 : FVec Ideal S1x4096 .f32) = broadcastInDim S1x4096 ![1] bcast_S4096_S1x4096_1
      (shapeCast S4096 (m ((c : Thread nD τ).loc main_arg5) : FVec Ideal S1x4096 .f32) shapeCasts_S1x4096_S4096) := by
    entry_read; rfl
  rw [e]; exact row_at _ n

/-- The activations' block at a step is 2048 columns of them. -/
theorem blk0 (c : Dev nD) (t : Fin cfg0.N) (i : Fin 512) (k : Fin 2048) (h : 2048 * (t.val % 8) + k.val < 16384) :
    (iblk m c 0 t : FVec Ideal S512x2048 .bf16) (ix2 i k)
      = (m ((c : Thread nD τ).loc main_arg0) : FVec Ideal S512x16384 .bf16) (ix2 i ⟨2048 * (t.val % 8) + k.val, h⟩) := by
  refine Eq.trans ?_ (congrFun (V_main_arg0 m c) _)
  blk_ext [iblk, idx t]

/-- The weights' block at a step. -/
theorem blk1 (c : Dev nD) (t : Fin cfg0.N) (k : Fin 2048) (x : Fin 1024) (h : 2048 * (t.val % 8) + k.val < 16384) (h' : 1024 * (t.val / 8) + x.val < 4096) :
    (iblk m c 1 t : FVec Ideal S2048x1024 .f32) (ix2 k x)
      = (V m c main_v0 : FVec Ideal S16384x4096 .f32) (ix2 ⟨2048 * (t.val % 8) + k.val, h⟩ ⟨1024 * (t.val / 8) + x.val, h'⟩) := by
  blk_ext [iblk, idx t]

/-- The residual's block at a step is 1024 columns of it. -/
theorem blk2 (c : Dev nD) (t : Fin cfg0.N) (i : Fin 512) (x : Fin 1024) (h' : 1024 * (t.val / 8) + x.val < 4096) :
    (iblk m c 2 t : FVec Ideal S512x1024 .f32) (ix2 i x)
      = (m ((c : Thread nD τ).loc main_arg2) : FVec Ideal S512x4096 .f32) (ix2 i ⟨1024 * (t.val / 8) + x.val, h'⟩) := by
  refine Eq.trans ?_ (congrFun (V_main_arg2 m c) _)
  blk_ext [iblk, idx t]

/-- The statistics' block is all of them. -/
theorem blk3 (c : Dev nD) (t : Fin cfg0.N) (i : Fin 512) (x : Fin 128) :
    (iblk m c 3 t : FVec Ideal S512x128 .f32) (ix2 i x) = (m ((c : Thread nD τ).loc main_arg3) : FVec Ideal S512x128 .f32) (ix2 i x) := by
  refine Eq.trans ?_ (congrFun (V_main_arg3 m c) _)
  blk_ext [iblk, idx t]

/-- The scale's block at a step is 1024 columns of it. -/
theorem blk4 (c : Dev nD) (t : Fin cfg0.N) (x : Fin 1024) (h' : 1024 * (t.val / 8) + x.val < 4096) :
    (iblk m c 4 t : FVec Ideal S1x1024 .f32) (ix2 0 x)
      = (m ((c : Thread nD τ).loc main_arg4) : FVec Ideal S1x4096 .f32) (ix2 0 ⟨1024 * (t.val / 8) + x.val, h'⟩) := by
  refine Eq.trans ?_ (scaleEntry m c _)
  blk_ext [iblk, idx t]

/-- The shift's block at a step is 1024 columns of it. -/
theorem blk5 (c : Dev nD) (t : Fin cfg0.N) (x : Fin 1024) (h' : 1024 * (t.val / 8) + x.val < 4096) :
    (iblk m c 5 t : FVec Ideal S1x1024 .f32) (ix2 0 x)
      = (m ((c : Thread nD τ).loc main_arg5) : FVec Ideal S1x4096 .f32) (ix2 0 ⟨1024 * (t.val / 8) + x.val, h'⟩) := by
  refine Eq.trans ?_ (shiftEntry m c _)
  blk_ext [iblk, idx t]

/-- What a run of steps begins with, at a row and a column. -/
theorem init_at (s : Vec Ideal S512x128 .f32) (p : Vec Ideal S512x1024 .f32) (g b : Vec Ideal S1x1024 .f32) (i : Fin 512) (n : Fin 1024) :
    (k0_pay1 (F := Ideal) s p g b (ix2 i n) : EReal) = base (p (ix2 i n)) (s (ix2 i 0)) (s (ix2 i 1)) (g (ix2 0 n)) (b (ix2 0 n)) := by
  pointwise [k0_pay1, base]

/-- What a step adds, at a row and a column. -/
theorem step_at (w : Vec Ideal S2048x1024 .f32) (acc : Vec Ideal S512x1024 .f32) (x : Vec Ideal S512x2048 .bf16) (i : Fin 512) (n : Fin 1024) :
    (k0_pay3 (F := Ideal) w acc x (ix2 i n) : EReal) = acc (ix2 i n) + ∑ k : Fin 2048, (x (ix2 i k) : EReal) * (w (ix2 k n) : EReal) := by
  pointwise [k0_pay3, k0_pay2]

/-- The weights are passed on. -/
theorem pass_at (w : Vec Ideal S2048x1024 .f32) (k : Fin 2048) (n : Fin 1024) : (k0_pay2 (F := Ideal) w (ix2 k n) : EReal) = w (ix2 k n) := by
  pointwise [k0_pay2]

/-- A block's product, at a row and a column. -/
def dot (x : FVec Ideal S512x2048 .bf16) (w : FVec Ideal S2048x1024 .f32) (i : Fin 512) (n : Fin 1024) : EReal :=
  ∑ k : Fin 2048, (x (ix2 i k) : EReal) * (w (ix2 k n) : EReal)

/-- What a step's product adds to the running sum. -/
def part (c : Dev nD) (t : Fin cfg0.N) (i : Fin 512) (n : Fin 1024) : EReal := dot (iblk m c 0 t) (iblk m c 1 t) i n

/-- What a run of steps begins with. -/
def start (c : Dev nD) (t : Fin cfg0.N) (i : Fin 512) (n : Fin 1024) : EReal :=
  base ((iblk m c 2 t : FVec Ideal S512x1024 .f32) (ix2 i n)) ((iblk m c 3 t : FVec Ideal S512x128 .f32) (ix2 i 0))
    ((iblk m c 3 t : FVec Ideal S512x128 .f32) (ix2 i 1)) ((iblk m c 4 t : FVec Ideal S1x1024 .f32) (ix2 0 n)) ((iblk m c 5 t : FVec Ideal S1x1024 .f32) (ix2 0 n))

/-- What a step adds to the running sum, its first step the run's beginning too. -/
def term (c : Dev nD) (t : Fin cfg0.N) (j : S512x1024.Idx) : EReal :=
  (if t.val % 8 = 0 then start m c t (j 0) (j 1) else 0) + part m c t (j 0) (j 1)

/-- The running sum after a run's first step. -/
theorem acc_first (c : Dev nD) (t : Fin cfg0.N) (h : t.val % 8 = 0) (j : S512x1024.Idx) :
    ((outsAt0 m c t.val t.isLt).2.2 j : EReal) = 0 + term m c t j := by
  rw [outsAt0_A m c t h (by omega)]; frame_out
  obtain ⟨i, n, rfl⟩ : ∃ (i : Fin 512) (n : Fin 1024), j = ix2 i n := ⟨j 0, j 1, eq_ix2 (n0 := 512) (n1 := 1024) j⟩
  refine (step_at _ _ _ i n).trans ?_
  rw [zero_add, term, if_pos h]
  exact congrArg₂ (· + ·) (init_at _ _ _ _ i n) rfl

/-- The running sum after any other step. -/
theorem acc_next (c : Dev nD) (t : Fin cfg0.N) (h : ¬t.val % 8 = 0) (j : S512x1024.Idx) :
    ((outsAt0 m c t.val t.isLt).2.2 j : EReal) = (outsAt0 m c (t.val - 1) (Nat.lt_of_le_of_lt (Nat.sub_le _ _) t.isLt)).2.2 j + term m c t j := by
  obtain ⟨i, n, rfl⟩ : ∃ (i : Fin 512) (n : Fin 1024), j = ix2 i n := ⟨j 0, j 1, eq_ix2 (n0 := 512) (n1 := 1024) j⟩
  rw [term, if_neg h, zero_add]
  by_cases h1 : t.val % 8 = 7
  · rw [outsAt0_C m c t h h1]; frame_out
    refine (step_at _ _ _ i n).trans (congrArg₂ (· + ·) (congrFun ((Memref.isWhole_whole cc0_scratch0).read_unread _) _) rfl)
  · rw [outsAt0_B m c t h h1]; frame_out
    refine (step_at _ _ _ i n).trans (congrArg₂ (· + ·) (congrFun ((Memref.isWhole_whole cc0_scratch0).read_unread _) _) rfl)

/-- A run's last step writes the running sum back. -/
theorem out_last (c : Dev nD) (t : Fin cfg0.N) (h : t.val % 8 = 7) (j : S512x1024.Idx) :
    ((outsAt0 m c t.val t.isLt).1 j : EReal) = (outsAt0 m c t.val t.isLt).2.2 j := by
  rw [outsAt0_C m c t (by omega) h]; frame_out

/-- Every step passes its weights on. -/
theorem out_pass (c : Dev nD) (t : Fin cfg0.N) (k : Fin 2048) (n : Fin 1024) :
    ((outsAt0 m c t.val t.isLt).2.1 (ix2 k n) : EReal) = (iblk m c 1 t : FVec Ideal S2048x1024 .f32) (ix2 k n) := by
  by_cases h0 : t.val % 8 = 0
  · rw [outsAt0_A m c t h0 (by omega)]; frame_out
    exact pass_at _ k n
  · by_cases h1 : t.val % 8 = 7
    · rw [outsAt0_C m c t h0 h1]; frame_out
      exact pass_at _ k n
    · rw [outsAt0_B m c t h0 h1]; frame_out
      exact pass_at _ k n

/-- The first result, over the call's arguments. -/
def out (a0 : FVec Ideal S512x16384 .bf16) (w : FVec Ideal S16384x4096 .f32) (a2 : FVec Ideal S512x4096 .f32)
    (a3 : FVec Ideal S512x128 .f32) (a4 a5 : FVec Ideal S1x4096 .f32) : FVec Ideal S512x4096 .f32 := fun j =>
  base (a2 (ix2 (j 0) (j 1))) (a3 (ix2 (j 0) 0)) (a3 (ix2 (j 0) 1)) (a4 (ix2 0 (j 1))) (a5 (ix2 0 (j 1)))
    + ∑ k : Fin 16384, (a0 (ix2 (j 0) k) : EReal) * w (ix2 k (j 1))

/-- A step of a run over the contraction's blocks: its product over the arguments. -/
theorem part_at (c : Dev nD) (X : FVec Ideal S512x16384 .bf16) (W : FVec Ideal S16384x4096 .f32) (hX : (m ((c : Thread nD τ).loc main_arg0) : FVec Ideal S512x16384 .bf16) = X)
    (hW : (V m c main_v0 : FVec Ideal S16384x4096 .f32) = W) (q : Nat) (hq : q < 4) (s : Fin 8) (hN : 8 * q + s.val < cfg0.N) (i : Fin 512) (n : Fin 1024) :
    part m c ⟨8 * q + s.val, hN⟩ i n = ∑ k : Fin 2048, (X (ix2 i ⟨s.val * 2048 + k.val, by omega⟩) : EReal)
      * W (ix2 ⟨s.val * 2048 + k.val, by omega⟩ ⟨1024 * q + n.val, by omega⟩) := by
  unfold part dot
  refine Finset.sum_congr (M := EReal) rfl fun k _ => ?_
  refine congrArg₂ (· * ·) ((blk0 m c ⟨8 * q + s.val, hN⟩ i k (by show 2048 * ((8 * q + s.val) % 8) + k.val < 16384; omega)).trans ?_)
    ((blk1 m c ⟨8 * q + s.val, hN⟩ k n (by show 2048 * ((8 * q + s.val) % 8) + k.val < 16384; omega)
      (by show 1024 * ((8 * q + s.val) / 8) + n.val < 4096; omega)).trans ?_)
  · rw [hX]
    exact congrArg (fun x => X (ix2 i x)) (Fin.ext (by show 2048 * ((8 * q + s.val) % 8) + k.val = s.val * 2048 + k.val; omega))
  · rw [hW]
    exact congrArg₂ (fun x y => W (ix2 x y)) (Fin.ext (by show 2048 * ((8 * q + s.val) % 8) + k.val = s.val * 2048 + k.val; omega))
      (Fin.ext (by show 1024 * ((8 * q + s.val) / 8) + n.val = 1024 * q + n.val; omega))

/-- The beginning of a run over the arguments. -/
theorem start_at (c : Dev nD) (t : Fin cfg0.N) (q : Nat) (hq : q < 4) (ht : t.val / 8 = q) (i : Fin 512) (n : Fin 1024) :
    start m c t i n = base ((m ((c : Thread nD τ).loc main_arg2) : FVec Ideal S512x4096 .f32) (ix2 i ⟨1024 * q + n.val, by omega⟩))
      ((m ((c : Thread nD τ).loc main_arg3) : FVec Ideal S512x128 .f32) (ix2 i 0)) ((m ((c : Thread nD τ).loc main_arg3) : FVec Ideal S512x128 .f32) (ix2 i 1))
      ((m ((c : Thread nD τ).loc main_arg4) : FVec Ideal S1x4096 .f32) (ix2 0 ⟨1024 * q + n.val, by omega⟩))
      ((m ((c : Thread nD τ).loc main_arg5) : FVec Ideal S1x4096 .f32) (ix2 0 ⟨1024 * q + n.val, by omega⟩)) := by
  subst ht
  unfold start
  rw [blk2 m c t i n (by omega), blk3 m c t i 0, blk3 m c t i 1, blk4 m c t n (by omega), blk5 m c t n (by omega)]

/-- The first result after the run. -/
theorem result6 (c : Dev nD) : (dats m 0 c).arrAt 6 (cfgs 0).N = out (m ((c : Thread nD τ).loc main_arg0)) (V m c main_v0)
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 32 := lt_of_lt_of_eq t.isLt N_0
  have h7 : t.val % 8 = 7 := (flush0_6 t).mp hf
  blk_simp
  rw [after0_6]
  obtain ⟨i, n, rfl⟩ : ∃ (i : Fin 512) (n : Fin 1024), y = ix2 i n := ⟨y 0, y 1, eq_ix2 (n0 := 512) (n1 := 1024) y⟩
  have hj : ((cfg0.win 6).blk t).view.emb (ix2 i n) = (ix2 i ⟨1024 * (t.val / 8) + n.val, by omega⟩ : S512x4096.Idx) := by
    blk_ext [idx t]
  refine Eq.trans ?_ (congrArg (out _ _ _ _ _ _) hj.symm)
  refine (out_last m c t h7 _).trans ?_
  refine (Pipeline.eq_sum_fin_of_reset_step_apply_of_flush (M := EReal) (fun n h => (outsAt0 m c n h).2.2) 8 (fun _ => 0) (term m c)
    (acc_first m c) (acc_next m c) t h7 (ix2 i n)).trans ?_
  rw [zero_add]
  unfold term
  rw [Finset.sum_add_distrib]
  refine congrArg₂ (· + ·) ?_ ?_
  · rw [Finset.sum_eq_single (0 : Fin 8)]
    · rw [if_pos (by show (8 * (t.val / 8) + 0) % 8 = 0; omega)]
      exact start_at m c _ (t.val / 8) (by omega) (by show (8 * (t.val / 8) + 0) / 8 = t.val / 8; omega) i n
    · intro s _ hs
      have : s.val ≠ 0 := fun h => hs (Fin.ext h)
      exact if_neg (by show ¬(8 * (t.val / 8) + s.val) % 8 = 0; omega)
    · intro h; exact absurd (Finset.mem_univ _) h
  · refine (Finset.sum_congr rfl fun s _ => part_at m c _ _ rfl rfl (t.val / 8) (by omega) s _ i n).trans ?_
    exact Fin.sum_mul_add_congr fun s k hl => rfl

/-- The second result after the run: the weights as a matrix. -/
theorem result7 (c : Dev nD) : (dats m 0 c).arrAt 7 (cfgs 0).N = (V m c main_v0 : FVec Ideal S16384x4096 .f32) := by
  refine (dats m 0 c).arrAt_eq_of_covers 7 _ (by decide +kernel) fun t hf y => ?_
  have ht : t.val < 32 := lt_of_lt_of_eq t.isLt N_0
  blk_simp
  rw [after0_7]
  obtain ⟨k, n, rfl⟩ : ∃ (k : Fin 2048) (n : Fin 1024), y = ix2 k n := ⟨y 0, y 1, eq_ix2 (n0 := 2048) (n1 := 1024) y⟩
  have hj : ((cfg0.win 7).blk t).view.emb (ix2 k n) = (ix2 ⟨2048 * (t.val % 8) + k.val, by omega⟩ ⟨1024 * (t.val / 8) + n.val, by omega⟩ : S16384x4096.Idx) := by
    blk_ext [idx t]
  exact (out_pass m c t k n).trans ((blk1 m c t k n (by omega) (by omega)).trans (congrArg (V m c main_v0 : FVec Ideal S16384x4096 .f32) hj.symm))

end Cert.DownProjIdeal.Value

namespace Cert.Proof

open Cert.DownProjIdeal Cert.DownProjIdeal.Value

/-- The reference of the second feed-forward product runs, leaves its arguments and has no semaphore. -/
theorem frame_DownProjRefIdeal : Cert.quiescent_DownProjRefIdeal := fun m ρ _ =>
  (θ_run Cert.DownProjRefIdeal.defs _ _).mono (fun r h => ⟨fun c => (h c).2.2, sem_eq_zero_of_no_sems (by rfl) r.2⟩)
    (Cert.DownProjRefIdeal.Value.run m ρ)

/-- Over the extended reals the second feed-forward product, added up block by block onto the residual, is the reference's,
    and the weights it passes on are the reference's. -/
theorem algebraic_DownProj : Cert.algebraic_DownProjIdeal_DownProjRefIdeal := by
  pair_intro
  · run_from Cert.DownProjIdeal.Value.run_blocks m g
  · run_from Cert.DownProjRefIdeal.Value.run m' g'
    · refine Eq.trans ?_ (result6 m c).symm
      rw [entry0]
      funext j
      obtain ⟨i, n, rfl⟩ : ∃ (i : Fin 512) (n : Fin 4096), j = ix2 i n := ⟨j 0, j 1, eq_ix2 (n0 := 512) (n1 := 4096) j⟩
      exact Cert.DownProjRefIdeal.Value.ref_at _ _ _ _ _ _ i n
    · refine Eq.trans ?_ (result7 m c).symm
      rw [entry0]
      rfl

end Cert.Proof
-- ==== Proof.InProjGlaValue.lean ====
module

public import proofs.«01_k».proof.Defs
public import proofs.«01_k».proof.Proof.Gen.InProjGlaIdeal.Value
public import proofs.«01_k».proof.Proof.Gen.InProjGlaRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjGlaIdeal.Value

open Cert.InProjGlaIdeal Cert.InProjGlaIdeal.Gen

variable (m : (ℓ : Loc nD τ sig) → Buf (Elt Ideal) ℓ)

/-- Where each window's block lies at each step of the grid. -/
theorem idx : ∀ t : Fin cfg0.N, win0_0.index t = ![0, 0] ∧ win0_1.index t = ![t.val, 0]
    ∧ win0_2.index t = ![0, t.val] ∧ win0_3.index t = ![t.val, 0] :=
  (by decide +kernel : ∀ t : Fin grid0.N, _)

/-- The activations: the tokens, rows of zeros and the memory's rows. -/
abbrev acts (a0 : FVec Ideal S128x4x4096 .f32) (a1 : FVec Ideal S16x4096 .f32) : FVec Ideal S576x4096 .bf16 :=
  truncf .bf16 (concatenate S576x4096 0 [⟨S512x4096, shapeCast S512x4096 a0 shapeCasts_S128x4x4096_S512x4096⟩,
      ⟨S48x4096, broadcastInDim S48x4096 ![] bcast_S_S48x4096 (constant (F := Ideal) S_ .f32 0x00000000#32)⟩, ⟨S16x4096, a1⟩]
      concatenates_S512x4096_S48x4096_S16x4096_S576x4096_d0) bitsLt_bf16_f32

/-- The transposed weights. -/
abbrev wt (a2 : FVec Ideal S1x4096x12336 .f32) : FVec Ideal S12336x4096 .f32 :=
  transpose S12336x4096 [1, 0] (shapeCast S4096x12336 a2 shapeCasts_S1x4096x12336_S4096x12336) transposes_S4096x12336_S12336x4096_1_0

/-- What the region finds as its activations. -/
theorem entry3' (c : Dev nD) : (V m c main_v3 : FVec Ideal S576x4096 .bf16)
    = acts (m ((c : Thread nD τ).loc main_arg0)) (m ((c : Thread nD τ).loc main_arg1)) := by
  show StableHlo.after hostOps0 _ _ = _
  unfold hostOps0
  after_results <;> rfl

/-- What the region finds as its weights. -/
theorem entry5 (c : Dev nD) : (V m c main_v5 : FVec Ideal S12336x4096 .f32) = wt (m ((c : Thread nD τ).loc main_arg2)) := by
  entry_read
  rfl

/-- The transposed weights at a row and a column. -/
theorem wt_at (a2 : FVec Ideal S1x4096x12336 .f32) (r : Fin 12336) (k : Fin 4096) : wt a2 (ix2 r k) = a2 (ix3 0 k r) := by
  pointwise

/-- The activations' block is all of them, at every step. -/
theorem blk0 (c : Dev nD) (t : Fin cfg0.N) (i : Fin 576) (x : Fin 4096) :
    (iblk m c 0 t : FVec Ideal S576x4096 .bf16) (ix2 i x) = (V m c main_v3 : FVec Ideal S576x4096 .bf16) (ix2 i x) := by
  blk_ext [iblk, idx t]

/-- The weights' block at step `t` is rows `512 * t` onward of the transposed weights: no block that the grid reaches
    runs past the last row. -/
theorem blk1 (c : Dev nD) (t : Fin cfg0.N) (i : Fin 512) (x : Fin 4096) (h : 512 * t.val + i.val < 12336) :
    (X0_1 m c t : FVec Ideal S512x4096 .f32) (ix2 i x)
      = (V m c main_v5 : FVec Ideal S12336x4096 .f32) (ix2 ⟨512 * t.val + i.val, h⟩ x) := by
  refine (dif_pos (moved0_1 t (ix2 i x))).trans ?_
  blk_ext [iblk, idx t]

/-- What the body computes, at a row and a column. -/
theorem pay_at (v0 : Vec Ideal S512x4096 .f32) (v4 : Vec Ideal S576x4096 .bf16) (i : Fin 576) (n : Fin 512) :
    (k0_pay2 (F := Ideal) v0 v4 (ix2 i n) : EReal) = ∑ k : Fin 4096, (v4 (ix2 i k) : EReal) * (v0 (ix2 n k) : EReal) := by
  pointwise [k0_pay2, k0_pay1]

/-- The weights are passed on. -/
theorem pass_at (v0 : Vec Ideal S512x4096 .f32) (i : Fin 512) (n : Fin 4096) : (k0_pay1 (F := Ideal) v0 (ix2 i n) : EReal) = v0 (ix2 i n) := by
  pointwise [k0_pay1]

/-- The first result, over the activations and the transposed weights. -/
def out (X : FVec Ideal S576x4096 .bf16) (W : FVec Ideal S12336x4096 .f32) : FVec Ideal S576x6144 .f32 := fun j =>
  (∑ k : Fin 4096, (X (ix2 (j 0) k) : EReal) * (W (ix2 ⟨(j 1).val, lt_trans (j 1).isLt (by decide)⟩ k) : EReal) : EReal)

/-- The second result: the first rows of the transposed weights. -/
def rows (W : FVec Ideal S12336x4096 .f32) : FVec Ideal S6144x4096 .bf16 := fun j =>
  W (ix2 ⟨(j 0).val, lt_trans (j 0).isLt (by decide)⟩ (j 1))

/-- The first result after the run. -/
theorem result2 (c : Dev nD) : (dats m 0 c).arrAt 2 (cfgs 0).N = out (V m c main_v3) (V m c main_v5) := by
  refine (dats m 0 c).arrAt_eq_of_covers 2 _ (by decide +kernel) fun t _ y => ?_
  have ht : t.val < 12 := lt_of_lt_of_eq t.isLt N_0
  blk_simp
  rw [after0_2]; unfold outsAt0; frame_out
  obtain ⟨i, n, rfl⟩ : ∃ (i : Fin 576) (n : Fin 512), y = ix2 i n := ⟨y 0, y 1, eq_ix2 (n0 := 576) (n1 := 512) y⟩
  have hj : ((cfg0.win 2).blk t).view.emb (ix2 i n) = (ix2 i ⟨512 * t.val + n.val, by omega⟩ : S576x6144.Idx) := by
    blk_ext [idx t]
  refine (pay_at _ _ i n).trans (Eq.trans ?_ (congrArg (out _ _) hj.symm))
  refine Finset.sum_congr rfl fun k _ => ?_
  rw [blk0 m c t i k, blk1 m c t n k (by omega)]
  rfl

/-- The second result after the run. -/
theorem result3 (c : Dev nD) : (dats m 0 c).arrAt 3 (cfgs 0).N = rows (V m c main_v5) := by
  refine (dats m 0 c).arrAt_eq_of_covers 3 _ (by decide +kernel) fun t _ y => ?_
  have ht : t.val < 12 := lt_of_lt_of_eq t.isLt N_0
  blk_simp
  rw [after0_3]; unfold outsAt0; frame_out
  obtain ⟨i, n, rfl⟩ : ∃ (i : Fin 512) (n : Fin 4096), y = ix2 i n := ⟨y 0, y 1, eq_ix2 (n0 := 512) (n1 := 4096) y⟩
  have hj : ((cfg0.win 3).blk t).view.emb (ix2 i n) = (ix2 ⟨512 * t.val + i.val, by omega⟩ n : S6144x4096.Idx) := by
    blk_ext [idx t]
  exact (pass_at _ i n).trans ((blk1 m c t i n (by omega)).trans (congrArg (rows _) hj.symm))

/-- The reference's product over its arguments. -/
abbrev REF (a0 : FVec Ideal S128x4x4096 .f32) (a1 : FVec Ideal S16x4096 .f32) (a2 : FVec Ideal S1x4096x12336 .f32) :
    FVec Ideal S576x6144 .f32 :=
  Host.dotGeneral (F := Ideal) (φ₁ := .f32) (φ₂ := .f32) Cert.InProjGlaRefIdeal.dot_S576x4096_S4096x6144_S576x6144_1_0_0_1_n_n none
    (concatenate S576x4096 0 [⟨S512x4096, shapeCast S512x4096 a0 shapeCasts_S128x4x4096_S512x4096⟩,
      ⟨S48x4096, broadcastInDim S48x4096 ![] bcast_S_S48x4096 (constant (F := Ideal) S_ .f32 0x00000000#32)⟩, ⟨S16x4096, a1⟩]
      concatenates_S512x4096_S48x4096_S16x4096_S576x4096_d0)
    (extractStridedSlice Cert.InProjGlaRefIdeal.S4096x6144 ![0, 0] (shapeCast S4096x12336 a2 shapeCasts_S1x4096x12336_S4096x12336)
      Cert.InProjGlaRefIdeal.Gen.slices_S4096x12336_S4096x6144_0_0)

/-- The reference's product at a row and a column, over the row of the activations. -/
theorem ref_at (a0 : FVec Ideal S128x4x4096 .f32) (a1 : FVec Ideal S16x4096 .f32) (a2 : FVec Ideal S1x4096x12336 .f32)
    (i : Fin 576) (n : Fin 6144) : REF a0 a1 a2 (ix2 i n) = ∑ k : Fin 4096, (acts a0 a1 (ix2 i k) : EReal) * a2 (ix3 0 k ⟨n.val, by omega⟩) := by
  pointwise [REF]

/-- The reference's second result at a row and a column. -/
theorem slice_at (a2 : FVec Ideal S1x4096x12336 .f32) (r : Fin 6144) (k : Fin 4096) :
    (truncf .bf16 (transpose Cert.InProjGlaRefIdeal.S6144x4096 [1, 0] (extractStridedSlice Cert.InProjGlaRefIdeal.S4096x6144 ![0, 0]
        (shapeCast S4096x12336 a2 shapeCasts_S1x4096x12336_S4096x12336)
        Cert.InProjGlaRefIdeal.Gen.slices_S4096x12336_S4096x6144_0_0) Cert.InProjGlaRefIdeal.Gen.transposes_S4096x6144_S6144x4096_1_0)
        Cert.InProjGlaRefIdeal.Gen.bitsLt_bf16_f32 : FVec Ideal S6144x4096 .bf16) (ix2 r k) = a2 (ix3 0 k ⟨r.val, by omega⟩) := by
  pointwise

end Cert.InProjGlaIdeal.Value

namespace Cert.Proof

open Cert.InProjGlaIdeal Cert.InProjGlaIdeal.Value

/-- The reference of the first projection runs, leaves its arguments and has no semaphore. -/
theorem frame_InProjGlaRefIdeal : Cert.quiescent_InProjGlaRefIdeal := fun m ρ _ =>
  (θ_run Cert.InProjGlaRefIdeal.defs _ _).mono (fun r h => ⟨fun c => (h c).2.2, sem_eq_zero_of_no_sems (by rfl) r.2⟩)
    (Cert.InProjGlaRefIdeal.Value.run m ρ)

/-- Over the extended reals the first projection is the reference's product, and the weights it passes on are the reference's. -/
theorem algebraic_InProjGla : Cert.algebraic_InProjGlaIdeal_InProjGlaRefIdeal := by
  pair_intro
  · run_from Cert.InProjGlaIdeal.Value.run_blocks m g
  · run_from Cert.InProjGlaRefIdeal.Value.run m' g'
    · refine Eq.trans ?_ (result2 m c).symm
      rw [entry3', entry5]
      funext j
      obtain ⟨i, n, rfl⟩ : ∃ (i : Fin 576) (n : Fin 6144), j = ix2 i n := ⟨j 0, j 1, eq_ix2 (n0 := 576) (n1 := 6144) j⟩
      refine (ref_at _ _ _ i n).trans ?_
      exact Finset.sum_congr rfl fun k _ => congrArg _ (wt_at _ _ k).symm
    · refine Eq.trans ?_ (result3 m c).symm
      rw [entry5]
      funext j
      obtain ⟨i, n, rfl⟩ : ∃ (i : Fin 6144) (n : Fin 4096), j = ix2 i n := ⟨j 0, j 1, eq_ix2 (n0 := 6144) (n1 := 4096) j⟩
      exact (slice_at _ i n).trans (wt_at _ _ n).symm

end Cert.Proof
-- ==== Proof.OutProjValue.lean ====
module

public import proofs.«01_k».proof.Defs
public import proofs.«01_k».proof.Proof.Gen.OutProjIdeal.Value
public import proofs.«01_k».proof.Proof.Gen.OutProjRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjRefIdeal.Value

open Cert.OutProjRefIdeal Cert.OutProjRefIdeal.Gen

/-- The reference's residual sum over its arguments, the weights and the residual as matrices. -/
abbrev REF (a0 a1 : FVec Ideal S512x2048 .bf16) (w : FVec Ideal S4096x4096 .f32) (r : FVec Ideal S512x4096 .f32) : FVec Ideal S512x4096 .f32 :=
  addf (mulf (broadcastInDim S512x4096 ![] bcast_S_S512x4096 (constant S_ .f32 0x3F9837F0#32)) r) (Host.dotGeneral (F := Ideal) (φ₁ := .f32) (φ₂ := .f32) dot_S512x4096_S4096x4096_S512x4096_1_0_0_1_n_n none (extf .f32 (concatenate S512x4096 1 [⟨S512x2048, a0⟩, ⟨S512x2048, a1⟩] concatenates_S512x2048_S512x2048_S512x4096_d1) bitsLt_bf16_f32) w)

/-- The reference's residual sum at a row and a column: a sum over each mixer's half of the rows. -/
theorem ref_at (a0 a1 : FVec Ideal S512x2048 .bf16) (w : FVec Ideal S4096x4096 .f32) (r : FVec Ideal S512x4096 .f32) (i : Fin 512) (n : Fin 4096) :
    (REF a0 a1 w r (ix2 i n) : EReal) = Ideal.ofBits .f32 0x3F9837F0#32 * r (ix2 i n)
      + ((∑ k : Fin 2048, (a0 (ix2 i k) : EReal) * w (ix2 ⟨k.val, by omega⟩ n))
        + ∑ k : Fin 2048, (a1 (ix2 i k) : EReal) * w (ix2 ⟨2048 + k.val, by omega⟩ n)) := by
  pointwise [REF]

/-- The reference's upper rows of the weights. -/
theorem upper_at (w : FVec Ideal S4096x4096 .f32) (i : Fin 2048) (n : Fin 4096) :
    (truncf .bf16 (extractStridedSlice S2048x4096 ![0, 0] w slices_S4096x4096_S2048x4096_0_0) bitsLt_bf16_f32 (ix2 i n) : EReal)
      = w (ix2 ⟨i.val, by omega⟩ n) := by
  pointwise

/-- The reference's lower rows of the weights. -/
theorem lower_at (w : FVec Ideal S4096x4096 .f32) (i : Fin 2048) (n : Fin 4096) :
    (truncf .bf16 (extractStridedSlice S2048x4096 ![2048, 0] w slices_S4096x4096_S2048x4096_2048_0) bitsLt_bf16_f32 (ix2 i n) : EReal)
      = w (ix2 ⟨2048 + i.val, by omega⟩ n) := by
  pointwise

end Cert.OutProjRefIdeal.Value

namespace Cert.OutProjIdeal.Value

open Cert.OutProjIdeal Cert.OutProjIdeal.Gen

variable (m : (ℓ : Loc nD τ sig) → Buf (Elt Ideal) ℓ)

/-- Where each window's block lies at each step of the grid. -/
theorem idx : ∀ t : Fin cfg0.N, win0_0.index t = ![0, 0] ∧ win0_1.index t = ![0, 0]
    ∧ win0_2.index t = ![0, t.val] ∧ win0_3.index t = ![1, t.val] ∧ win0_4.index t = ![0, t.val]
    ∧ win0_5.index t = ![0, t.val] ∧ win0_6.index t = ![0, t.val] ∧ win0_7.index t = ![0, t.val] :=
  (by decide +kernel : ∀ t : Fin grid0.N, _)

/-- The weights as a matrix. -/
abbrev W (c : Dev nD) : FVec Ideal S4096x4096 .f32 :=
  shapeCast S4096x4096 (m ((c : Thread nD τ).loc main_arg2) : FVec Ideal S1x4096x4096 .f32) shapeCasts_S1x4096x4096_S4096x4096

/-- What the region finds as its weights, for the upper rows. -/
theorem entry0 (c : Dev nD) : (V m c main_v0 : FVec Ideal S4096x4096 .f32) = W m c := by
  entry_read
  rfl

/-- What the region finds as its weights, for the lower rows. -/
theorem entry1 (c : Dev nD) : (V m c main_v1 : FVec Ideal S4096x4096 .f32) = W m c := by
  entry_read
  rfl

/-- What the region finds as its residual: the argument as a matrix of tokens. -/
theorem entry2 (c : Dev nD) : (V m c main_v2 : FVec Ideal S512x4096 .f32) =
    shapeCast S512x4096 (m ((c : Thread nD τ).loc main_arg3) : FVec Ideal S128x4x4096 .f32) shapeCasts_S128x4x4096_S512x4096 := by
  entry_read
  rfl

/-- The first activations' block is all of them, at every step. -/
theorem blk0 (c : Dev nD) (t : Fin cfg0.N) (i : Fin 512) (x : Fin 2048) :
    (iblk m c 0 t : FVec Ideal S512x2048 .bf16) (ix2 i x) = (m ((c : Thread nD τ).loc main_arg0) : FVec Ideal S512x2048 .bf16) (ix2 i x) := by
  refine Eq.trans ?_ (congrFun (V_main_arg0 m c) _)
  blk_ext [iblk, idx t]

/-- The second activations' block is all of them, at every step. -/
theorem blk1 (c : Dev nD) (t : Fin cfg0.N) (i : Fin 512) (x : Fin 2048) :
    (iblk m c 1 t : FVec Ideal S512x2048 .bf16) (ix2 i x) = (m ((c : Thread nD τ).loc main_arg1) : FVec Ideal S512x2048 .bf16) (ix2 i x) := by
  refine Eq.trans ?_ (congrFun (V_main_arg1 m c) _)
  blk_ext [iblk, idx t]

/-- The upper weights' block at a step is 512 columns of the upper rows. -/
theorem blk2 (c : Dev nD) (t : Fin cfg0.N) (k : Fin 2048) (x : Fin 512) (h : 512 * t.val + x.val < 4096) :
    (iblk m c 2 t : FVec Ideal S2048x512 .f32) (ix2 k x) = W m c (ix2 ⟨k.val, by omega⟩ ⟨512 * t.val + x.val, h⟩) := by
  refine Eq.trans ?_ (congrFun (entry0 m c) _)
  blk_ext [iblk, idx t]

/-- The lower weights' block at a step is 512 columns of the lower rows. -/
theorem blk3 (c : Dev nD) (t : Fin cfg0.N) (k : Fin 2048) (x : Fin 512) (h : 512 * t.val + x.val < 4096) :
    (iblk m c 3 t : FVec Ideal S2048x512 .f32) (ix2 k x) = W m c (ix2 ⟨2048 + k.val, by omega⟩ ⟨512 * t.val + x.val, h⟩) := by
  refine Eq.trans ?_ (congrFun (entry1 m c) _)
  blk_ext [iblk, idx t]

/-- The residual's block at a step is 512 columns of it. -/
theorem blk4 (c : Dev nD) (t : Fin cfg0.N) (i x : Fin 512) (h : 512 * t.val + x.val < 4096) :
    (iblk m c 4 t : FVec Ideal S512x512 .f32) (ix2 i x) = (V m c main_v2 : FVec Ideal S512x4096 .f32) (ix2 i ⟨512 * t.val + x.val, h⟩) := by
  blk_ext [iblk, idx t]

/-- What the body computes, at a row and a column. -/
theorem pay_at (v0 v2 : Vec Ideal S2048x512 .f32) (v8 : Vec Ideal S512x512 .f32) (v12 v15 : Vec Ideal S512x2048 .bf16) (i n : Fin 512) :
    (k0_pay3 (F := Ideal) v0 v2 v8 v12 v15 (ix2 i n) : EReal) = (Ideal.ofBits .f32 0x3F9837F0#32 * v8 (ix2 i n)
      + ∑ k : Fin 2048, (v12 (ix2 i k) : EReal) * v0 (ix2 k n)) + ∑ k : Fin 2048, (v15 (ix2 i k) : EReal) * v2 (ix2 k n) := by
  pointwise [k0_pay3, k0_pay1, k0_pay2]

/-- The first result, over the activations, the weights and the residual. -/
def out (a b : FVec Ideal S512x2048 .bf16) (w : FVec Ideal S4096x4096 .f32) (r : FVec Ideal S512x4096 .f32) : FVec Ideal S512x4096 .f32 := fun j =>
  (Ideal.ofBits .f32 0x3F9837F0#32 * r (ix2 (j 0) (j 1))
    + ((∑ k : Fin 2048, (a (ix2 (j 0) k) : EReal) * w (ix2 ⟨k.val, by omega⟩ (j 1)))
      + ∑ k : Fin 2048, (b (ix2 (j 0) k) : EReal) * w (ix2 ⟨2048 + k.val, by omega⟩ (j 1))) : EReal)

/-- The first result after the run. -/
theorem result5 (c : Dev nD) : (dats m 0 c).arrAt 5 (cfgs 0).N = out (m ((c : Thread nD τ).loc main_arg0))
    (m ((c : Thread nD τ).loc main_arg1)) (W m c) (V m c main_v2) := by
  refine (dats m 0 c).arrAt_eq_of_covers 5 _ (by decide +kernel) fun t _ y => ?_
  have ht : t.val < 8 := lt_of_lt_of_eq t.isLt N_0
  blk_simp
  rw [after0_5]; frame_out
  obtain ⟨i, n, rfl⟩ : ∃ (i n : Fin 512), y = ix2 i n := ⟨y 0, y 1, eq_ix2 (n0 := 512) (n1 := 512) y⟩
  refine (pay_at _ _ _ _ _ i n).trans ?_
  have hj : ((cfg0.win 5).blk t).view.emb (ix2 i n) = (ix2 i ⟨512 * t.val + n.val, by omega⟩ : S512x4096.Idx) := by
    blk_ext [idx t]
  rw [hj, blk4 m c t i n (by omega), add_assoc]
  refine congrArg₂ (· + ·) rfl (congrArg₂ (· + ·) (Finset.sum_congr rfl fun k _ => ?_) (Finset.sum_congr rfl fun k _ => ?_))
  · rw [blk0 m c t i k, blk2 m c t k n (by omega)]; rfl
  · rw [blk1 m c t i k, blk3 m c t k n (by omega)]; rfl

/-- The upper weights are passed on. -/
theorem pay1_at (v0 : Vec Ideal S2048x512 .f32) (k : Fin 2048) (n : Fin 512) : (k0_pay1 (F := Ideal) v0 (ix2 k n) : EReal) = v0 (ix2 k n) := by
  pointwise [k0_pay1]

/-- The lower weights are passed on. -/
theorem pay2_at (v2 : Vec Ideal S2048x512 .f32) (k : Fin 2048) (n : Fin 512) : (k0_pay2 (F := Ideal) v2 (ix2 k n) : EReal) = v2 (ix2 k n) := by
  pointwise [k0_pay2]

/-- The upper rows of a matrix. -/
def upper (w : FVec Ideal S4096x4096 .f32) : FVec Ideal S2048x4096 .bf16 := fun j => w (ix2 ⟨(j 0).val, lt_trans (j 0).isLt (by decide)⟩ (j 1))

/-- The upper weights the call leaves. -/
theorem result6 (c : Dev nD) : (dats m 0 c).arrAt 6 (cfgs 0).N = upper (W m c) := by
  refine (dats m 0 c).arrAt_eq_of_covers 6 _ (by decide +kernel) fun t _ y => ?_
  have ht : t.val < 8 := lt_of_lt_of_eq t.isLt N_0
  blk_simp
  rw [after0_6]; frame_out
  obtain ⟨k, n, rfl⟩ : ∃ (k : Fin 2048) (n : Fin 512), y = ix2 k n := ⟨y 0, y 1, eq_ix2 (n0 := 2048) (n1 := 512) y⟩
  have hj : ((cfg0.win 6).blk t).view.emb (ix2 k n) = (ix2 k ⟨512 * t.val + n.val, by omega⟩ : S2048x4096.Idx) := by
    blk_ext [idx t]
  refine Eq.trans ?_ (congrArg (upper (W m c)) hj.symm)
  exact (pay1_at _ k n).trans (blk2 m c t k n (by omega))

/-- The lower rows of a matrix. -/
def lower (w : FVec Ideal S4096x4096 .f32) : FVec Ideal S2048x4096 .bf16 := fun j => w (ix2 ⟨2048 + (j 0).val, Nat.add_lt_add_left (j 0).isLt 2048⟩ (j 1))

/-- The lower weights the call leaves. -/
theorem result7 (c : Dev nD) : (dats m 0 c).arrAt 7 (cfgs 0).N = lower (W m c) := by
  refine (dats m 0 c).arrAt_eq_of_covers 7 _ (by decide +kernel) fun t _ y => ?_
  have ht : t.val < 8 := lt_of_lt_of_eq t.isLt N_0
  blk_simp
  rw [after0_7]; frame_out
  obtain ⟨k, n, rfl⟩ : ∃ (k : Fin 2048) (n : Fin 512), y = ix2 k n := ⟨y 0, y 1, eq_ix2 (n0 := 2048) (n1 := 512) y⟩
  have hj : ((cfg0.win 7).blk t).view.emb (ix2 k n) = (ix2 k ⟨512 * t.val + n.val, by omega⟩ : S2048x4096.Idx) := by
    blk_ext [idx t]
  refine Eq.trans ?_ (congrArg (lower (W m c)) hj.symm)
  exact (pay2_at _ k n).trans (blk3 m c t k n (by omega))

end Cert.OutProjIdeal.Value

namespace Cert.Proof

open Cert.OutProjIdeal Cert.OutProjIdeal.Value

/-- The reference of the mixers' output projection runs, leaves its arguments and has no semaphore. -/
theorem frame_OutProjRefIdeal : Cert.quiescent_OutProjRefIdeal := fun m ρ _ =>
  (θ_run Cert.OutProjRefIdeal.defs _ _).mono (fun r h => ⟨fun c => (h c).2.2.2, sem_eq_zero_of_no_sems (by rfl) r.2⟩)
    (Cert.OutProjRefIdeal.Value.run m ρ)

/-- Over the extended reals the mixers' output projection and the residual sum are the reference's. -/
theorem algebraic_OutProj : Cert.algebraic_OutProjIdeal_OutProjRefIdeal := by
  pair_intro
  · run_from Cert.OutProjIdeal.Value.run_blocks m g
  · run_from Cert.OutProjRefIdeal.Value.run m' g'
    · refine Eq.trans ?_ (result5 m c).symm
      rw [entry2]
      funext j
      obtain ⟨i, n, rfl⟩ : ∃ (i : Fin 512) (n : Fin 4096), j = ix2 i n := ⟨j 0, j 1, eq_ix2 (n0 := 512) (n1 := 4096) j⟩
      exact Cert.OutProjRefIdeal.Value.ref_at _ _ _ _ i n
    · refine Eq.trans ?_ (result6 m c).symm
      funext j
      obtain ⟨i, n, rfl⟩ : ∃ (i : Fin 2048) (n : Fin 4096), j = ix2 i n := ⟨j 0, j 1, eq_ix2 (n0 := 2048) (n1 := 4096) j⟩
      exact Cert.OutProjRefIdeal.Value.upper_at _ i n
    · refine Eq.trans ?_ (result7 m c).symm
      funext j
      obtain ⟨i, n, rfl⟩ : ∃ (i : Fin 2048) (n : Fin 4096), j = ix2 i n := ⟨j 0, j 1, eq_ix2 (n0 := 2048) (n1 := 4096) j⟩
      exact Cert.OutProjRefIdeal.Value.lower_at _ i n

end Cert.Proof
-- ==== Proof.NormStatsValue.lean ====
module

public import proofs.«01_k».proof.Defs
public import proofs.«01_k».proof.Proof.Gen.NormStatsIdeal.Value
public import proofs.«01_k».proof.Proof.Gen.NormStatsRefIdeal.Run
public import proofs.«01_k».proof.Proof.RowNorm
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormStatsRefIdeal.Value

open Cert.NormStatsRefIdeal Cert.NormStatsRefIdeal.Gen

/-- The reference's layer norm over its arguments. -/
abbrev REF (a0 : FVec Ideal S512x4096 .f32) (a1 a2 : FVec Ideal S1x4096 .f32) : FVec Ideal S512x4096 .bf16 :=
  truncf .bf16 (addf (mulf (mulf (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32))))) (broadcastInDim S512x4096 ![0, 1] bcast_S512x1_S512x4096_0_1 (Host.rsqrt (addf (Host.divf (broadcastInDim S512x1 ![0] bcast_S512_S512x1_0 (Host.reduceAdd (mulf (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32))))) (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32)))))) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x3727C5AC#32)))))) (broadcastInDim S512x4096 ![0, 1] bcast_S1x4096_S512x4096_0_1 (broadcastInDim S1x4096 ![1] bcast_S4096_S1x4096_1 (shapeCast _ a1 shapeCasts_S1x4096_S4096)))) (broadcastInDim S512x4096 ![0, 1] bcast_S1x4096_S512x4096_0_1 (broadcastInDim S1x4096 ![1] bcast_S4096_S1x4096_1 (shapeCast _ a2 shapeCasts_S1x4096_S4096)))) bitsLt_bf16_f32

/-- The reference's layer norm at a row and a column. -/
theorem ref_at (a0 : FVec Ideal S512x4096 .f32) (a1 a2 : FVec Ideal S1x4096 .f32) (i : Fin 512) (n : Fin 4096) :
    (REF a0 a1 a2 (ix2 i n) : EReal) = RowNorm.norm (fun k => a0 (ix2 i k)) n (a1 (ix2 0 n)) (a2 (ix2 0 n)) := by
  pointwise [REF, RowNorm.norm, RowNorm.mean, RowNorm.rstd]

/-- The reference's statistics of its rows. -/
abbrev STATS (a0 : FVec Ideal S512x4096 .f32) : FVec Ideal S512x128 .f32 :=
  (concatenate S512x128 1 [⟨S512x1, ((Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32))) : FVec Ideal S512x1 .f32)⟩, ⟨S512x1, ((Host.rsqrt (addf (Host.divf (broadcastInDim S512x1 ![0] bcast_S512_S512x1_0 (Host.reduceAdd (mulf (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32))))) (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32)))))) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x3727C5AC#32)))) : FVec Ideal S512x1 .f32)⟩, ⟨S512x126, ((broadcastInDim S512x126 ![] bcast_S_S512x126 (constant S_ .f32 0x00000000#32)) : FVec Ideal S512x126 .f32)⟩] concatenates_S512x1_S512x1_S512x126_S512x128_d1 : FVec Ideal S512x128 .f32)

/-- The reference's statistics at a row and a column. -/
theorem stats_at (a0 : FVec Ideal S512x4096 .f32) (i : Fin 512) (n : Fin 128) :
    STATS a0 (ix2 i n) = RowNorm.stat (fun k => a0 (ix2 i k)) n := by
  pointwise [STATS, RowNorm.stat, RowNorm.mean, RowNorm.rstd]
  by_cases h : (n : Nat) = 0
  · rw [dif_pos (by omega), if_pos h]
  · have e1 : ((n : Nat) - 1 < 1) ↔ ((n : Nat) = 1) := by omega
    rw [dif_neg (by omega), if_neg h]
    simp only [e1]
    rfl

end Cert.NormStatsRefIdeal.Value

namespace Cert.NormStatsIdeal.Value

open Cert.NormStatsIdeal Cert.NormStatsIdeal.Gen

variable (m : (ℓ : Loc nD τ sig) → Buf (Elt Ideal) ℓ)

/-- Where each window's block lies at each step of the grid. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- A row taken through a vector is the row. -/
theorem row_at (a : FVec Ideal S1x4096 .f32) (n : Fin 4096) : broadcastInDim S1x4096 ![1] bcast_S4096_S1x4096_1
    (shapeCast S4096 a shapeCasts_S1x4096_S4096) (ix2 0 n) = a (ix2 0 n) := by
  pointwise

/-- What the region finds as its scale. -/
theorem scaleEntry (c : Dev nD) (n : Fin 4096) : (V m c main_v1 : FVec Ideal S1x4096 .f32) (ix2 0 n)
    = (m ((c : Thread nD τ).loc main_arg1) : FVec Ideal S1x4096 .f32) (ix2 0 n) := by
  have e : (V m c main_v1 : FVec Ideal S1x4096 .f32) = broadcastInDim S1x4096 ![1] bcast_S4096_S1x4096_1
      (shapeCast S4096 (m ((c : Thread nD τ).loc main_arg1) : FVec Ideal S1x4096 .f32) shapeCasts_S1x4096_S4096) := by
    entry_read; rfl
  rw [e]; exact row_at _ n

/-- What the region finds as its shift. -/
theorem shiftEntry (c : Dev nD) (n : Fin 4096) : (V m c main_v3 : FVec Ideal S1x4096 .f32) (ix2 0 n)
    = (m ((c : Thread nD τ).loc main_arg2) : FVec Ideal S1x4096 .f32) (ix2 0 n) := by
  have e : (V m c main_v3 : FVec Ideal S1x4096 .f32) = broadcastInDim S1x4096 ![1] bcast_S4096_S1x4096_1
      (shapeCast S4096 (m ((c : Thread nD τ).loc main_arg2) : FVec Ideal S1x4096 .f32) shapeCasts_S1x4096_S4096) := by
    entry_read; rfl
  rw [e]; exact row_at _ n

/-- The rows' block at step `t` is rows `512 * t` onward. -/
theorem blk0 (c : Dev nD) (t : Fin cfg0.N) (i : Fin 512) (x : Fin 4096) (h : 512 * t.val + i.val < 512) :
    (iblk m c 0 t : FVec Ideal S512x4096 .f32) (ix2 i x)
      = (m ((c : Thread nD τ).loc main_arg0) : FVec Ideal S512x4096 .f32) (ix2 ⟨512 * t.val + i.val, h⟩ x) := by
  refine Eq.trans ?_ (congrFun (V_main_arg0 m c) _)
  blk_ext [iblk, idx t]

/-- The scale's block is all of it. -/
theorem blk1 (c : Dev nD) (t : Fin cfg0.N) (x : Fin 4096) :
    (iblk m c 1 t : FVec Ideal S1x4096 .f32) (ix2 0 x) = (m ((c : Thread nD τ).loc main_arg1) : FVec Ideal S1x4096 .f32) (ix2 0 x) := by
  refine Eq.trans ?_ (scaleEntry m c x)
  blk_ext [iblk, idx t]

/-- The shift's block is all of it. -/
theorem blk2 (c : Dev nD) (t : Fin cfg0.N) (x : Fin 4096) :
    (iblk m c 2 t : FVec Ideal S1x4096 .f32) (ix2 0 x) = (m ((c : Thread nD τ).loc main_arg2) : FVec Ideal S1x4096 .f32) (ix2 0 x) := by
  refine Eq.trans ?_ (shiftEntry m c x)
  blk_ext [iblk, idx t]

/-- The columns of the statistics, at a row and a column. -/
theorem pay5_at (v0 : Vec Ideal S512x4096 .f32) (i : Fin 512) (n : Fin 128) :
    (k0_pay5 (F := Ideal) v0 (ix2 i n) : EReal) = RowNorm.stat (fun k => v0 (ix2 i k)) n := by
  pointwise [k0_pay5, k0_pay1, k0_pay2, k0_pay3, RowNorm.stat, RowNorm.mean, RowNorm.rstd]
  exact (RowNorm.select_eq (n := n.val) (k := 0) (by omega) (by omega) _ _).trans
    (congrArg _ (RowNorm.select_eq (n := n.val) (k := 1) (by omega) (by omega) _ _))

/-- What the body computes, at a row and a column. -/
theorem pay_at (v0 : Vec Ideal S512x4096 .f32) (g b : Vec Ideal S1x4096 .f32) (i : Fin 512) (n : Fin 4096) :
    (k0_pay4 (F := Ideal) v0 g b (ix2 i n) : EReal) = RowNorm.norm (fun k => v0 (ix2 i k)) n (g (ix2 0 n)) (b (ix2 0 n)) := by
  pointwise [k0_pay4, k0_pay1, k0_pay2, k0_pay3, RowNorm.norm, RowNorm.mean, RowNorm.rstd]

/-- What the call leaves, over its arguments. -/
def out (X : FVec Ideal S512x4096 .f32) (g b : FVec Ideal S1x4096 .f32) : FVec Ideal S512x4096 .f32 := fun j =>
  RowNorm.norm (fun k => X (ix2 (j 0) k)) (j 1) (g (ix2 0 (j 1))) (b (ix2 0 (j 1)))

/-- The result after the run. -/
theorem result (c : Dev nD) : (dats m 0 c).arrAt 3 (cfgs 0).N = out (m ((c : Thread nD τ).loc main_arg0))
    (m ((c : Thread nD τ).loc main_arg1)) (m ((c : Thread nD τ).loc main_arg2)) := by
  refine (dats m 0 c).arrAt_eq_of_covers 3 _ (by decide +kernel) fun t _ y => ?_
  have ht : t.val < 1 := lt_of_lt_of_eq t.isLt N_0
  blk_simp
  rw [after0_3]; frame_out
  obtain ⟨i, n, rfl⟩ : ∃ (i : Fin 512) (n : Fin 4096), y = ix2 i n := ⟨y 0, y 1, eq_ix2 (n0 := 512) (n1 := 4096) y⟩
  refine (pay_at _ _ _ i n).trans ?_
  have hj : ((cfg0.win 3).blk t).view.emb (ix2 i n) = (ix2 ⟨512 * t.val + i.val, by omega⟩ n : S512x4096.Idx) := by
    blk_ext [idx t]
  rw [hj, blk1 m c t n, blk2 m c t n]
  refine congrArg (fun f => RowNorm.norm f n _ _) (funext fun k => ?_)
  exact blk0 m c t i k (by omega)

/-- The statistics the call leaves, over its argument. -/
def outStats (X : FVec Ideal S512x4096 .f32) : FVec Ideal S512x128 .f32 := fun j =>
  RowNorm.stat (fun k => X (ix2 (j 0) k)) (j 1)

/-- The statistics after the run. -/
theorem resultStats (c : Dev nD) : (dats m 0 c).arrAt 4 (cfgs 0).N = outStats (m ((c : Thread nD τ).loc main_arg0)) := by
  refine (dats m 0 c).arrAt_eq_of_covers 4 _ (by decide +kernel) fun t _ y => ?_
  have ht : t.val < 1 := lt_of_lt_of_eq t.isLt N_0
  blk_simp
  rw [after0_4]; frame_out
  obtain ⟨i, n, rfl⟩ : ∃ (i : Fin 512) (n : Fin 128), y = ix2 i n := ⟨y 0, y 1, eq_ix2 (n0 := 512) (n1 := 128) y⟩
  refine (pay5_at _ i n).trans ?_
  have hj : ((cfg0.win 4).blk t).view.emb (ix2 i n) = (ix2 ⟨512 * t.val + i.val, by omega⟩ n : S512x128.Idx) := by
    blk_ext [idx t]
  rw [hj]
  refine congrArg (fun f => RowNorm.stat f n) (funext fun k => ?_)
  exact blk0 m c t i k (by omega)

end Cert.NormStatsIdeal.Value

namespace Cert.Proof

open Cert.NormStatsIdeal Cert.NormStatsIdeal.Value

/-- The reference of the layer norm before the feed-forward layers runs, leaves its arguments and has no semaphore. -/
theorem frame_NormStatsRefIdeal : Cert.quiescent_NormStatsRefIdeal := fun m ρ _ =>
  (θ_run Cert.NormStatsRefIdeal.defs _ _).mono (fun r h => ⟨fun c => (h c).2.2, sem_eq_zero_of_no_sems (by rfl) r.2⟩)
    (Cert.NormStatsRefIdeal.Value.run m ρ)

/-- Over the extended reals the layer norm before the feed-forward layers is the reference's. -/
theorem algebraic_NormStats : Cert.algebraic_NormStatsIdeal_NormStatsRefIdeal := by
  pair_intro
  · run_from Cert.NormStatsIdeal.Value.run_blocks m g
  · run_from Cert.NormStatsRefIdeal.Value.run m' g'
    refine Eq.trans ?_ (result m c).symm
    funext j
    obtain ⟨i, n, rfl⟩ : ∃ (i : Fin 512) (n : Fin 4096), j = ix2 i n := ⟨j 0, j 1, eq_ix2 (n0 := 512) (n1 := 4096) j⟩
    exact Cert.NormStatsRefIdeal.Value.ref_at _ _ _ i n
    refine Eq.trans ?_ (resultStats m c).symm
    funext j
    obtain ⟨i, n, rfl⟩ : ∃ (i : Fin 512) (n : Fin 128), j = ix2 i n := ⟨j 0, j 1, eq_ix2 (n0 := 512) (n1 := 128) j⟩
    exact Cert.NormStatsRefIdeal.Value.stats_at _ i n

end Cert.Proof
-- ==== Proof.NormSampleValue.lean ====
module

public import proofs.«01_k».proof.Defs
public import proofs.«01_k».proof.Proof.Gen.NormSampleIdeal.Value
public import proofs.«01_k».proof.Proof.Gen.NormSampleRefIdeal.Run
public import proofs.«01_k».proof.Proof.RowNorm
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormSampleRefIdeal.Value

open Cert.NormSampleRefIdeal Cert.NormSampleRefIdeal.Gen

/-- The reference's layer norm over its arguments. -/
abbrev REF (a0 : FVec Ideal S512x4096 .f32) (a1 a2 : FVec Ideal S1x4096 .f32) : FVec Ideal S512x4096 .f32 :=
  addf (mulf (mulf (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32))))) (broadcastInDim S512x4096 ![0, 1] bcast_S512x1_S512x4096_0_1 (Host.rsqrt (addf (Host.divf (broadcastInDim S512x1 ![0] bcast_S512_S512x1_0 (Host.reduceAdd (mulf (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32))))) (subf a0 (broadcastInDim S512x4096 ![0, 1] bcast_S512x1_S512x4096_0_1 (Host.divf (broadcastInDim S512x1 ![0] bcast_S512_S512x1_0 (Host.reduceAdd a0 (constant S_ .f32 0x00000000#32) reducesTo_S512x4096_S512_d1 h_S_)) (broadcastInDim S512x1 ![] bcast_S_S512x1 (constant S_ .f32 0x45800000#32)))))) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x3727C5AC#32)))))) (broadcastInDim S512x4096 ![0, 1] bcast_S1x4096_S512x4096_0_1 (broadcastInDim S1x4096 ![1] bcast_S4096_S1x4096_1 (shapeCast _ a1 shapeCasts_S1x4096_S4096)))) (broadcastInDim S512x4096 ![0, 1] bcast_S1x4096_S512x4096_0_1 (broadcastInDim S1x4096 ![1] bcast_S4096_S1x4096_1 (shapeCast _ a2 shapeCasts_S1x4096_S4096)))

/-- The reference's layer norm at a row and a column. -/
theorem ref_at (a0 : FVec Ideal S512x4096 .f32) (a1 a2 : FVec Ideal S1x4096 .f32) (i : Fin 512) (n : Fin 4096) :
    REF a0 a1 a2 (ix2 i n) = RowNorm.norm (fun k => a0 (ix2 i k)) n (a1 (ix2 0 n)) (a2 (ix2 0 n)) := by
  pointwise [REF, RowNorm.norm, RowNorm.mean, RowNorm.rstd]

end Cert.NormSampleRefIdeal.Value

namespace Cert.NormSampleIdeal.Value

open Cert.NormSampleIdeal Cert.NormSampleIdeal.Gen

variable (m : (ℓ : Loc nD τ sig) → Buf (Elt Ideal) ℓ)

/-- Where each window's block lies at each step of the grid. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- A row taken through a vector is the row. -/
theorem row_at (a : FVec Ideal S1x4096 .f32) (n : Fin 4096) : broadcastInDim S1x4096 ![1] bcast_S4096_S1x4096_1
    (shapeCast S4096 a shapeCasts_S1x4096_S4096) (ix2 0 n) = a (ix2 0 n) := by
  pointwise

/-- What the region finds as its scale. -/
theorem scaleEntry (c : Dev nD) (n : Fin 4096) : (V m c main_v1 : FVec Ideal S1x4096 .f32) (ix2 0 n)
    = (m ((c : Thread nD τ).loc main_arg1) : FVec Ideal S1x4096 .f32) (ix2 0 n) := by
  have e : (V m c main_v1 : FVec Ideal S1x4096 .f32) = broadcastInDim S1x4096 ![1] bcast_S4096_S1x4096_1
      (shapeCast S4096 (m ((c : Thread nD τ).loc main_arg1) : FVec Ideal S1x4096 .f32) shapeCasts_S1x4096_S4096) := by
    entry_read; rfl
  rw [e]; exact row_at _ n

/-- What the region finds as its shift. -/
theorem shiftEntry (c : Dev nD) (n : Fin 4096) : (V m c main_v3 : FVec Ideal S1x4096 .f32) (ix2 0 n)
    = (m ((c : Thread nD τ).loc main_arg2) : FVec Ideal S1x4096 .f32) (ix2 0 n) := by
  have e : (V m c main_v3 : FVec Ideal S1x4096 .f32) = broadcastInDim S1x4096 ![1] bcast_S4096_S1x4096_1
      (shapeCast S4096 (m ((c : Thread nD τ).loc main_arg2) : FVec Ideal S1x4096 .f32) shapeCasts_S1x4096_S4096) := by
    entry_read; rfl
  rw [e]; exact row_at _ n

/-- The rows' block at step `t` is rows `512 * t` onward. -/
theorem blk0 (c : Dev nD) (t : Fin cfg0.N) (i : Fin 512) (x : Fin 4096) (h : 512 * t.val + i.val < 512) :
    (iblk m c 0 t : FVec Ideal S512x4096 .f32) (ix2 i x)
      = (m ((c : Thread nD τ).loc main_arg0) : FVec Ideal S512x4096 .f32) (ix2 ⟨512 * t.val + i.val, h⟩ x) := by
  refine Eq.trans ?_ (congrFun (V_main_arg0 m c) _)
  blk_ext [iblk, idx t]

/-- The scale's block is all of it. -/
theorem blk1 (c : Dev nD) (t : Fin cfg0.N) (x : Fin 4096) :
    (iblk m c 1 t : FVec Ideal S1x4096 .f32) (ix2 0 x) = (m ((c : Thread nD τ).loc main_arg1) : FVec Ideal S1x4096 .f32) (ix2 0 x) := by
  refine Eq.trans ?_ (scaleEntry m c x)
  blk_ext [iblk, idx t]

/-- The shift's block is all of it. -/
theorem blk2 (c : Dev nD) (t : Fin cfg0.N) (x : Fin 4096) :
    (iblk m c 2 t : FVec Ideal S1x4096 .f32) (ix2 0 x) = (m ((c : Thread nD τ).loc main_arg2) : FVec Ideal S1x4096 .f32) (ix2 0 x) := by
  refine Eq.trans ?_ (shiftEntry m c x)
  blk_ext [iblk, idx t]

/-- What the body computes, at a row and a column. -/
theorem pay_at (v0 : Vec Ideal S512x4096 .f32) (g b : Vec Ideal S1x4096 .f32) (i : Fin 512) (n : Fin 4096) :
    (k0_pay1 (F := Ideal) v0 g b (ix2 i n) : EReal) = RowNorm.norm (fun k => v0 (ix2 i k)) n (g (ix2 0 n)) (b (ix2 0 n)) := by
  pointwise [k0_pay1, RowNorm.norm, RowNorm.mean, RowNorm.rstd]

/-- What the call leaves, over its arguments. -/
def out (X : FVec Ideal S512x4096 .f32) (g b : FVec Ideal S1x4096 .f32) : FVec Ideal S512x4096 .f32 := fun j =>
  RowNorm.norm (fun k => X (ix2 (j 0) k)) (j 1) (g (ix2 0 (j 1))) (b (ix2 0 (j 1)))

/-- The result after the run. -/
theorem result (c : Dev nD) : (dats m 0 c).arrAt 3 (cfgs 0).N = out (m ((c : Thread nD τ).loc main_arg0))
    (m ((c : Thread nD τ).loc main_arg1)) (m ((c : Thread nD τ).loc main_arg2)) := by
  refine (dats m 0 c).arrAt_eq_of_covers 3 _ (by decide +kernel) fun t _ y => ?_
  have ht : t.val < 1 := lt_of_lt_of_eq t.isLt N_0
  blk_simp
  rw [after0_3]; frame_out
  obtain ⟨i, n, rfl⟩ : ∃ (i : Fin 512) (n : Fin 4096), y = ix2 i n := ⟨y 0, y 1, eq_ix2 (n0 := 512) (n1 := 4096) y⟩
  refine (pay_at _ _ _ i n).trans ?_
  have hj : ((cfg0.win 3).blk t).view.emb (ix2 i n) = (ix2 ⟨512 * t.val + i.val, by omega⟩ n : S512x4096.Idx) := by
    blk_ext [idx t]
  rw [hj, blk1 m c t n, blk2 m c t n]
  refine congrArg (fun f => RowNorm.norm f n _ _) (funext fun k => ?_)
  exact blk0 m c t i k (by omega)

end Cert.NormSampleIdeal.Value

namespace Cert.Proof

open Cert.NormSampleIdeal Cert.NormSampleIdeal.Value

/-- The reference of the sample batch's last layer norm runs, leaves its arguments and has no semaphore. -/
theorem frame_NormSampleRefIdeal : Cert.quiescent_NormSampleRefIdeal := fun m ρ _ =>
  (θ_run Cert.NormSampleRefIdeal.defs _ _).mono (fun r h => ⟨fun c => (h c).2, sem_eq_zero_of_no_sems (by rfl) r.2⟩)
    (Cert.NormSampleRefIdeal.Value.run m ρ)

/-- Over the extended reals the sample batch's last layer norm is the reference's. -/
theorem algebraic_NormSample : Cert.algebraic_NormSampleIdeal_NormSampleRefIdeal := by
  pair_intro
  · run_from Cert.NormSampleIdeal.Value.run_blocks m g
  · run_from Cert.NormSampleRefIdeal.Value.run m' g'
    refine Eq.trans ?_ (result m c).symm
    funext j
    obtain ⟨i, n, rfl⟩ : ∃ (i : Fin 512) (n : Fin 4096), j = ix2 i n := ⟨j 0, j 1, eq_ix2 (n0 := 512) (n1 := 4096) j⟩
    exact Cert.NormSampleRefIdeal.Value.ref_at _ _ _ i n

end Cert.Proof
-- ==== Proof.NormPromptValue.lean ====
module

public import proofs.«01_k».proof.Defs
public import proofs.«01_k».proof.Proof.Gen.NormPromptIdeal.Value
public import proofs.«01_k».proof.Proof.Gen.NormPromptRefIdeal.Run
public import proofs.«01_k».proof.Proof.RowNorm
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormPromptRefIdeal.Value

open Cert.NormPromptRefIdeal Cert.NormPromptRefIdeal.Gen

/-- The reference's layer norm over its arguments. -/
abbrev REF (a0 : FVec Ideal S8192x4096 .f32) (a1 a2 : FVec Ideal S1x4096 .f32) : FVec Ideal S8192x4096 .f32 :=
  addf (mulf (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 (shapeCast _ a1 shapeCasts_S1x4096_S4096)))) (broadcastInDim S8192x4096 ![0, 1] bcast_S1x4096_S8192x4096_0_1 (broadcastInDim S1x4096 ![1] bcast_S4096_S1x4096_1 (shapeCast _ a2 shapeCasts_S1x4096_S4096)))

/-- The reference's layer norm at a row and a column. -/
theorem ref_at (a0 : FVec Ideal S8192x4096 .f32) (a1 a2 : FVec Ideal S1x4096 .f32) (i : Fin 8192) (n : Fin 4096) :
    REF a0 a1 a2 (ix2 i n) = RowNorm.norm (fun k => a0 (ix2 i k)) n (a1 (ix2 0 n)) (a2 (ix2 0 n)) := by
  pointwise [REF, RowNorm.norm, RowNorm.mean, RowNorm.rstd]

end Cert.NormPromptRefIdeal.Value

namespace Cert.NormPromptIdeal.Value

open Cert.NormPromptIdeal Cert.NormPromptIdeal.Gen

variable (m : (ℓ : Loc nD τ sig) → Buf (Elt Ideal) ℓ)

/-- Where each window's block lies at each step of the grid. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- A row taken through a vector is the row. -/
theorem row_at (a : FVec Ideal S1x4096 .f32) (n : Fin 4096) : broadcastInDim S1x4096 ![1] bcast_S4096_S1x4096_1
    (shapeCast S4096 a shapeCasts_S1x4096_S4096) (ix2 0 n) = a (ix2 0 n) := by
  pointwise

/-- What the region finds as its scale. -/
theorem scaleEntry (c : Dev nD) (n : Fin 4096) : (V m c main_v1 : FVec Ideal S1x4096 .f32) (ix2 0 n)
    = (m ((c : Thread nD τ).loc main_arg1) : FVec Ideal S1x4096 .f32) (ix2 0 n) := by
  have e : (V m c main_v1 : FVec Ideal S1x4096 .f32) = broadcastInDim S1x4096 ![1] bcast_S4096_S1x4096_1
      (shapeCast S4096 (m ((c : Thread nD τ).loc main_arg1) : FVec Ideal S1x4096 .f32) shapeCasts_S1x4096_S4096) := by
    entry_read; rfl
  rw [e]; exact row_at _ n

/-- What the region finds as its shift. -/
theorem shiftEntry (c : Dev nD) (n : Fin 4096) : (V m c main_v3 : FVec Ideal S1x4096 .f32) (ix2 0 n)
    = (m ((c : Thread nD τ).loc main_arg2) : FVec Ideal S1x4096 .f32) (ix2 0 n) := by
  have e : (V m c main_v3 : FVec Ideal S1x4096 .f32) = broadcastInDim S1x4096 ![1] bcast_S4096_S1x4096_1
      (shapeCast S4096 (m ((c : Thread nD τ).loc main_arg2) : FVec Ideal S1x4096 .f32) shapeCasts_S1x4096_S4096) := by
    entry_read; rfl
  rw [e]; exact row_at _ n

/-- The rows' block at step `t` is rows `512 * t` onward. -/
theorem blk0 (c : Dev nD) (t : Fin cfg0.N) (i : Fin 512) (x : Fin 4096) (h : 512 * t.val + i.val < 8192) :
    (iblk m c 0 t : FVec Ideal S512x4096 .f32) (ix2 i x)
      = (m ((c : Thread nD τ).loc main_arg0) : FVec Ideal S8192x4096 .f32) (ix2 ⟨512 * t.val + i.val, h⟩ x) := by
  refine Eq.trans ?_ (congrFun (V_main_arg0 m c) _)
  blk_ext [iblk, idx t]

/-- The scale's block is all of it. -/
theorem blk1 (c : Dev nD) (t : Fin cfg0.N) (x : Fin 4096) :
    (iblk m c 1 t : FVec Ideal S1x4096 .f32) (ix2 0 x) = (m ((c : Thread nD τ).loc main_arg1) : FVec Ideal S1x4096 .f32) (ix2 0 x) := by
  refine Eq.trans ?_ (scaleEntry m c x)
  blk_ext [iblk, idx t]

/-- The shift's block is all of it. -/
theorem blk2 (c : Dev nD) (t : Fin cfg0.N) (x : Fin 4096) :
    (iblk m c 2 t : FVec Ideal S1x4096 .f32) (ix2 0 x) = (m ((c : Thread nD τ).loc main_arg2) : FVec Ideal S1x4096 .f32) (ix2 0 x) := by
  refine Eq.trans ?_ (shiftEntry m c x)
  blk_ext [iblk, idx t]

/-- What the body computes, at a row and a column. -/
theorem pay_at (v0 : Vec Ideal S512x4096 .f32) (g b : Vec Ideal S1x4096 .f32) (i : Fin 512) (n : Fin 4096) :
    (k0_pay1 (F := Ideal) v0 g b (ix2 i n) : EReal) = RowNorm.norm (fun k => v0 (ix2 i k)) n (g (ix2 0 n)) (b (ix2 0 n)) := by
  pointwise [k0_pay1, RowNorm.norm, RowNorm.mean, RowNorm.rstd]

/-- What the call leaves, over its arguments. -/
def out (X : FVec Ideal S8192x4096 .f32) (g b : FVec Ideal S1x4096 .f32) : FVec Ideal S8192x4096 .f32 := fun j =>
  RowNorm.norm (fun k => X (ix2 (j 0) k)) (j 1) (g (ix2 0 (j 1))) (b (ix2 0 (j 1)))

/-- The result after the run. -/
theorem result (c : Dev nD) : (dats m 0 c).arrAt 3 (cfgs 0).N = out (m ((c : Thread nD τ).loc main_arg0))
    (m ((c : Thread nD τ).loc main_arg1)) (m ((c : Thread nD τ).loc main_arg2)) := by
  refine (dats m 0 c).arrAt_eq_of_covers 3 _ (by decide +kernel) fun t _ y => ?_
  have ht : t.val < 16 := lt_of_lt_of_eq t.isLt N_0
  blk_simp
  rw [after0_3]; frame_out
  obtain ⟨i, n, rfl⟩ : ∃ (i : Fin 512) (n : Fin 4096), y = ix2 i n := ⟨y 0, y 1, eq_ix2 (n0 := 512) (n1 := 4096) y⟩
  refine (pay_at _ _ _ i n).trans ?_
  have hj : ((cfg0.win 3).blk t).view.emb (ix2 i n) = (ix2 ⟨512 * t.val + i.val, by omega⟩ n : S8192x4096.Idx) := by
    blk_ext [idx t]
  rw [hj, blk1 m c t n, blk2 m c t n]
  refine congrArg (fun f => RowNorm.norm f n _ _) (funext fun k => ?_)
  exact blk0 m c t i k (by omega)

end Cert.NormPromptIdeal.Value

namespace Cert.Proof

open Cert.NormPromptIdeal Cert.NormPromptIdeal.Value

/-- The reference of the prompt batch's last layer norm runs, leaves its arguments and has no semaphore. -/
theorem frame_NormPromptRefIdeal : Cert.quiescent_NormPromptRefIdeal := fun m ρ _ =>
  (θ_run Cert.NormPromptRefIdeal.defs _ _).mono (fun r h => ⟨fun c => (h c).2, sem_eq_zero_of_no_sems (by rfl) r.2⟩)
    (Cert.NormPromptRefIdeal.Value.run m ρ)

/-- Over the extended reals the prompt batch's last layer norm is the reference's. -/
theorem algebraic_NormPrompt : Cert.algebraic_NormPromptIdeal_NormPromptRefIdeal := by
  pair_intro
  · run_from Cert.NormPromptIdeal.Value.run_blocks m g
  · run_from Cert.NormPromptRefIdeal.Value.run m' g'
    refine Eq.trans ?_ (result m c).symm
    funext j
    obtain ⟨i, n, rfl⟩ : ∃ (i : Fin 8192) (n : Fin 4096), j = ix2 i n := ⟨j 0, j 1, eq_ix2 (n0 := 8192) (n1 := 4096) j⟩
    exact Cert.NormPromptRefIdeal.Value.ref_at _ _ _ i n

end Cert.Proof
-- ==== Proof.InProjSsdPromptValue.lean ====
module

public import proofs.«01_k».proof.Defs
public import proofs.«01_k».proof.Proof.Gen.InProjSsdPromptIdeal.Value
public import proofs.«01_k».proof.Proof.Gen.InProjSsdPromptRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjSsdPromptRefIdeal.Value

open Cert.InProjSsdPromptRefIdeal Cert.InProjSsdPromptRefIdeal.Gen

/-- The reference's product over its arguments. -/
abbrev REF (a0 : FVec Ideal S4x2048x4096 .f32) (a1 : FVec Ideal S6144x4096 .bf16) : FVec Ideal S8192x6144 .f32 :=
  Host.dotGeneral (F := Ideal) (φ₁ := .f32) (φ₂ := .f32) dot_S8192x4096_S4096x6144_S8192x6144_1_0_0_1_n_n none (shapeCast S8192x4096 a0 shapeCasts_S4x2048x4096_S8192x4096) (transpose S4096x6144 [1, 0] (extf .f32 a1 bitsLt_bf16_f32) transposes_S6144x4096_S4096x6144_1_0)

/-- The reference's product at a row and a column. -/
theorem ref_at (a0 : FVec Ideal S4x2048x4096 .f32) (a1 : FVec Ideal S6144x4096 .bf16) (i : Fin 8192) (n : Fin 6144) :
    (REF a0 a1 (ix2 i n) : EReal) = ∑ k : Fin 4096, (shapeCast S8192x4096 a0 shapeCasts_S4x2048x4096_S8192x4096 (ix2 i k) : EReal) * (a1 (ix2 n k) : EReal) := by
  pointwise [REF]

end Cert.InProjSsdPromptRefIdeal.Value

namespace Cert.InProjSsdPromptIdeal.Value

open Cert.InProjSsdPromptIdeal Cert.InProjSsdPromptIdeal.Gen

variable (m : (ℓ : Loc nD τ sig) → Buf (Elt Ideal) ℓ)

/-- Where each window's block lies at each step of the grid. -/
theorem idx : ∀ t : Fin cfg0.N, win0_0.index t = ![t.val / 6, 0] ∧ win0_1.index t = ![t.val % 6, 0]
    ∧ win0_2.index t = ![t.val / 6, t.val % 6] :=
  (by decide +kernel : ∀ t : Fin grid0.N, _)

/-- The activations as a matrix of tokens. -/
abbrev X (a0 : FVec Ideal S4x2048x4096 .f32) : FVec Ideal S8192x4096 .bf16 :=
  truncf .bf16 (shapeCast S8192x4096 a0 shapeCasts_S4x2048x4096_S8192x4096) bitsLt_bf16_f32

/-- What the region finds as its activations. -/
theorem entry (c : Dev nD) : (V m c main_v1 : FVec Ideal S8192x4096 .bf16) = X (m ((c : Thread nD τ).loc main_arg0)) := by
  entry_read
  rfl

/-- The activations' block at a step is 1024 rows of them. -/
theorem blk0 (c : Dev nD) (t : Fin cfg0.N) (i : Fin 1024) (x : Fin 4096) (h : 1024 * (t.val / 6) + i.val < 8192) :
    (iblk m c 0 t : FVec Ideal S1024x4096 .bf16) (ix2 i x)
      = (V m c main_v1 : FVec Ideal S8192x4096 .bf16) (ix2 ⟨1024 * (t.val / 6) + i.val, h⟩ x) := by
  blk_ext [iblk, idx t]

/-- The weights' block at a step is 1024 rows of them. -/
theorem blk1 (c : Dev nD) (t : Fin cfg0.N) (i : Fin 1024) (x : Fin 4096) (h : 1024 * (t.val % 6) + i.val < 6144) :
    (iblk m c 1 t : FVec Ideal S1024x4096 .bf16) (ix2 i x)
      = (m ((c : Thread nD τ).loc main_arg1) : FVec Ideal S6144x4096 .bf16) (ix2 ⟨1024 * (t.val % 6) + i.val, h⟩ x) := by
  refine Eq.trans ?_ (congrFun (V_main_arg1 m c) _)
  blk_ext [iblk, idx t]

/-- What the body computes, at a row and a column. -/
theorem pay_at (v0 v1 : Vec Ideal S1024x4096 .bf16) (i n : Fin 1024) :
    (k0_pay1 (F := Ideal) v0 v1 (ix2 i n) : EReal) = ∑ k : Fin 4096, (v1 (ix2 i k) : EReal) * (v0 (ix2 n k) : EReal) := by
  pointwise [k0_pay1]

/-- What the call leaves, over the tokens and the weights. -/
def out (X : FVec Ideal S8192x4096 .bf16) (W : FVec Ideal S6144x4096 .bf16) : FVec Ideal S8192x6144 .f32 := fun j =>
  (∑ k : Fin 4096, (X (ix2 (j 0) k) : EReal) * (W (ix2 (j 1) k) : EReal) : EReal)

/-- The result after the run. -/
theorem result (c : Dev nD) : (dats m 0 c).arrAt 2 (cfgs 0).N = out (V m c main_v1)
    (m ((c : Thread nD τ).loc main_arg1)) := by
  refine (dats m 0 c).arrAt_eq_of_covers 2 _ (by decide +kernel) fun t _ y => ?_
  have ht : t.val < 48 := lt_of_lt_of_eq t.isLt N_0
  blk_simp
  rw [after0_2]; frame_out
  obtain ⟨i, n, rfl⟩ : ∃ (i n : Fin 1024), y = ix2 i n := ⟨y 0, y 1, eq_ix2 (n0 := 1024) (n1 := 1024) y⟩
  refine (pay_at _ _ i n).trans ?_
  have hj : ((cfg0.win 2).blk t).view.emb (ix2 i n)
      = (ix2 ⟨1024 * (t.val / 6) + i.val, by omega⟩ ⟨1024 * (t.val % 6) + n.val, by omega⟩ : S8192x6144.Idx) := by
    blk_ext [idx t]
  refine Eq.trans ?_ (congrArg (out _ _) hj.symm)
  refine Finset.sum_congr rfl fun k _ => ?_
  rw [blk0 m c t i k (by omega), blk1 m c t n k (by omega)]
  rfl

end Cert.InProjSsdPromptIdeal.Value

namespace Cert.Proof

open Cert.InProjSsdPromptIdeal Cert.InProjSsdPromptIdeal.Value

/-- The reference of the prompt's second projection runs, leaves its arguments and has no semaphore. -/
theorem frame_InProjSsdPromptRefIdeal : Cert.quiescent_InProjSsdPromptRefIdeal := fun m ρ _ =>
  (θ_run Cert.InProjSsdPromptRefIdeal.defs _ _).mono (fun r h => ⟨fun c => (h c).2, sem_eq_zero_of_no_sems (by rfl) r.2⟩)
    (Cert.InProjSsdPromptRefIdeal.Value.run m ρ)

/-- Over the extended reals the prompt's second projection is the reference's product. -/
theorem algebraic_InProjSsdPrompt : Cert.algebraic_InProjSsdPromptIdeal_InProjSsdPromptRefIdeal := by
  pair_intro
  · run_from Cert.InProjSsdPromptIdeal.Value.run_blocks m g
  · run_from Cert.InProjSsdPromptRefIdeal.Value.run m' g'
    refine Eq.trans ?_ (result m c).symm
    rw [entry]
    funext j
    obtain ⟨i, n, rfl⟩ : ∃ (i : Fin 8192) (n : Fin 6144), j = ix2 i n := ⟨j 0, j 1, eq_ix2 (n0 := 8192) (n1 := 6144) j⟩
    exact Cert.InProjSsdPromptRefIdeal.Value.ref_at _ _ i n

end Cert.Proof
-- ==== Proof.MlpUpPromptValue.lean ====
module

public import proofs.«01_k».proof.Defs
public import proofs.«01_k».proof.Proof.Gen.MlpUpPromptIdeal.Value
public import proofs.«01_k».proof.Proof.Gen.MlpUpPromptRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpUpPromptRefIdeal.Value

open Cert.MlpUpPromptRefIdeal Cert.MlpUpPromptRefIdeal.Gen

/-- The square of the positive part of a number. -/
def relu2 (x : EReal) : EReal := max x 0 * max x 0

/-- The reference's product over its arguments, before the rectifier. -/
abbrev PRE (a0 : FVec Ideal S8192x4096 .bf16) (a1 : FVec Ideal S4096x16384 .bf16) : FVec Ideal S8192x16384 .f32 :=
  Host.dotGeneral (F := Ideal) (φ₁ := .f32) (φ₂ := .f32) dot_S8192x4096_S4096x16384_S8192x16384_1_0_0_1_n_n none
    (extf .f32 a0 bitsLt_bf16_f32) (extf .f32 a1 bitsLt_bf16_f32)

/-- The positive part of it. -/
abbrev POS (a0 : FVec Ideal S8192x4096 .bf16) (a1 : FVec Ideal S4096x16384 .bf16) : FVec Ideal S8192x16384 .f32 :=
  maximumf (PRE a0 a1) (broadcastInDim S8192x16384 ![] bcast_S_S8192x16384 (constant S_ .f32 0x00000000#32))

/-- The reference's result over its arguments. -/
abbrev REF (a0 : FVec Ideal S8192x4096 .bf16) (a1 : FVec Ideal S4096x16384 .bf16) : FVec Ideal S8192x16384 .bf16 :=
  truncf .bf16 (mulf (POS a0 a1) (POS a0 a1)) bitsLt_bf16_f32

/-- The reference's result at a row and a column. -/
theorem ref_at (a0 : FVec Ideal S8192x4096 .bf16) (a1 : FVec Ideal S4096x16384 .bf16) (i : Fin 8192) (n : Fin 16384) :
    (REF a0 a1 (ix2 i n) : EReal) = relu2 (∑ k : Fin 4096, (a0 (ix2 i k) : EReal) * (a1 (ix2 k n) : EReal)) := by
  pointwise [REF, POS, PRE, relu2]

end Cert.MlpUpPromptRefIdeal.Value

namespace Cert.MlpUpPromptIdeal.Value

open Cert.MlpUpPromptIdeal Cert.MlpUpPromptIdeal.Gen
open Cert.MlpUpPromptRefIdeal.Value (relu2)

variable (m : (ℓ : Loc nD τ sig) → Buf (Elt Ideal) ℓ)

/-- Where each window's block lies at each step of the grid. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

/-- The activations' block at a step is 1024 rows of them. -/
theorem blk0 (c : Dev nD) (t : Fin cfg0.N) (i : Fin 1024) (x : Fin 4096) (h : 1024 * (t.val / 16) + i.val < 8192) :
    (iblk m c 0 t : FVec Ideal S1024x4096 .bf16) (ix2 i x)
      = (m ((c : Thread nD τ).loc main_arg0) : FVec Ideal S8192x4096 .bf16) (ix2 ⟨1024 * (t.val / 16) + i.val, h⟩ x) := by
  refine Eq.trans ?_ (congrFun (V_main_arg0 m c) _)
  blk_ext [iblk, idx t]

/-- The weights' block at a step is 1024 columns of them. -/
theorem blk1 (c : Dev nD) (t : Fin cfg0.N) (i : Fin 4096) (x : Fin 1024) (h : 1024 * (t.val % 16) + x.val < 16384) :
    (iblk m c 1 t : FVec Ideal S4096x1024 .bf16) (ix2 i x)
      = (m ((c : Thread nD τ).loc main_arg1) : FVec Ideal S4096x16384 .bf16) (ix2 i ⟨1024 * (t.val % 16) + x.val, h⟩) := by
  refine Eq.trans ?_ (congrFun (V_main_arg1 m c) _)
  blk_ext [iblk, idx t]

/-- What the body computes, at a row and a column. -/
theorem pay_at (v0 : Vec Ideal S4096x1024 .bf16) (v1 : Vec Ideal S1024x4096 .bf16) (i n : Fin 1024) :
    (k0_pay1 (F := Ideal) v0 v1 (ix2 i n) : EReal) = relu2 (∑ k : Fin 4096, (v1 (ix2 i k) : EReal) * (v0 (ix2 k n) : EReal)) := by
  pointwise [k0_pay1, relu2]

/-- What the call leaves, over the activations and the weights. -/
def out (X : FVec Ideal S8192x4096 .bf16) (W : FVec Ideal S4096x16384 .bf16) : FVec Ideal S8192x16384 .bf16 := fun j =>
  relu2 (∑ k : Fin 4096, (X (ix2 (j 0) k) : EReal) * (W (ix2 k (j 1)) : EReal))

/-- The result after the run. -/
theorem result (c : Dev nD) : (dats m 0 c).arrAt 2 (cfgs 0).N = out (m ((c : Thread nD τ).loc main_arg0))
    (m ((c : Thread nD τ).loc main_arg1)) := by
  refine (dats m 0 c).arrAt_eq_of_covers 2 _ (by decide +kernel) fun t _ y => ?_
  have ht : t.val < 128 := lt_of_lt_of_eq t.isLt N_0
  blk_simp
  rw [after0_2]; frame_out
  obtain ⟨i, n, rfl⟩ : ∃ (i n : Fin 1024), y = ix2 i n := ⟨y 0, y 1, eq_ix2 (n0 := 1024) (n1 := 1024) y⟩
  refine (pay_at _ _ i n).trans ?_
  have hj : ((cfg0.win 2).blk t).view.emb (ix2 i n)
      = (ix2 ⟨1024 * (t.val / 16) + i.val, by omega⟩ ⟨1024 * (t.val % 16) + n.val, by omega⟩ : S8192x16384.Idx) := by
    blk_ext [idx t]
  refine Eq.trans ?_ (congrArg (out _ _) hj.symm)
  refine congrArg relu2 (Finset.sum_congr rfl fun k _ => ?_)
  rw [blk0 m c t i k (by omega), blk1 m c t k n (by omega)]
  rfl

end Cert.MlpUpPromptIdeal.Value

namespace Cert.Proof

open Cert.MlpUpPromptIdeal Cert.MlpUpPromptIdeal.Value

/-- The reference of the prompt's first product of the feed-forward part runs, leaves its arguments and has no semaphore. -/
theorem frame_MlpUpPromptRefIdeal : Cert.quiescent_MlpUpPromptRefIdeal := fun m ρ _ =>
  (θ_run Cert.MlpUpPromptRefIdeal.defs _ _).mono (fun r h => ⟨fun c => (h c).2, sem_eq_zero_of_no_sems (by rfl) r.2⟩)
    (Cert.MlpUpPromptRefIdeal.Value.run m ρ)

/-- Over the extended reals the prompt's first product of the feed-forward part is the reference's. -/
theorem algebraic_MlpUpPrompt : Cert.algebraic_MlpUpPromptIdeal_MlpUpPromptRefIdeal := by
  pair_intro
  · run_from Cert.MlpUpPromptIdeal.Value.run_blocks m g
  · run_from Cert.MlpUpPromptRefIdeal.Value.run m' g'
    refine Eq.trans ?_ (result m c).symm
    funext j
    obtain ⟨i, n, rfl⟩ : ∃ (i : Fin 8192) (n : Fin 16384), j = ix2 i n := ⟨j 0, j 1, eq_ix2 (n0 := 8192) (n1 := 16384) j⟩
    exact Cert.MlpUpPromptRefIdeal.Value.ref_at _ _ i n

end Cert.Proof
-- ==== Proof.DownProjPromptValue.lean ====
module

public import proofs.«01_k».proof.Defs
public import proofs.«01_k».proof.Proof.Gen.DownProjPromptIdeal.Value
public import proofs.«01_k».proof.Proof.Gen.DownProjPromptRefIdeal.Run
public import proofs.«01_k».proof.Proof.DownProjValue
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownProjPromptRefIdeal.Value

open Cert.DownProjPromptRefIdeal Cert.DownProjPromptRefIdeal.Gen
open Cert.DownProjRefIdeal.Value (base)

/-- A column of the statistics over all columns. -/
abbrev COL (a : FVec Ideal S8192x1 .f32) : FVec Ideal S8192x4096 .f32 := broadcastInDim S8192x4096 ![0, 1] bcast_S8192x1_S8192x4096_0_1 a

/-- A row over all rows. -/
abbrev ROW (a : FVec Ideal S1x4096 .f32) : FVec Ideal S8192x4096 .f32 :=
  broadcastInDim S8192x4096 ![0, 1] bcast_S1x4096_S8192x4096_0_1 (broadcastInDim S1x4096 ![1] bcast_S4096_S1x4096_1 (shapeCast S4096 a shapeCasts_S1x4096_S4096))

/-- The reference's residual sum over its arguments. -/
abbrev REF (a0 : FVec Ideal S8192x16384 .bf16) (w : FVec Ideal S16384x4096 .bf16) (a2 : FVec Ideal S8192x4096 .f32)
    (a3 : FVec Ideal S8192x128 .f32) (a4 a5 : FVec Ideal S1x4096 .f32) : FVec Ideal S8192x4096 .f32 :=
  addf (mulf (broadcastInDim S8192x4096 ![] bcast_S_S8192x4096 (constant S_ .f32 0x3F9837F0#32))
    (addf (mulf (mulf (subf a2 (COL (extractStridedSlice S8192x1 ![0, 0] a3 slices_S8192x128_S8192x1_0_0)))
      (COL (extractStridedSlice S8192x1 ![0, 1] a3 slices_S8192x128_S8192x1_0_1))) (ROW a4)) (ROW a5)))
    (Host.dotGeneral (F := Ideal) (φ₁ := .f32) (φ₂ := .f32) dot_S8192x16384_S16384x4096_S8192x4096_1_0_0_1_n_n none
      (extf .f32 a0 bitsLt_bf16_f32) (extf .f32 w bitsLt_bf16_f32))

/-- The reference's residual sum at a row and a column. -/
theorem ref_at (a0 : FVec Ideal S8192x16384 .bf16) (w : FVec Ideal S16384x4096 .bf16) (a2 : FVec Ideal S8192x4096 .f32)
    (a3 : FVec Ideal S8192x128 .f32) (a4 a5 : FVec Ideal S1x4096 .f32) (i : Fin 8192) (n : Fin 4096) :
    (REF a0 w a2 a3 a4 a5 (ix2 i n) : EReal) = base (a2 (ix2 i n)) (a3 (ix2 i 0)) (a3 (ix2 i 1)) (a4 (ix2 0 n)) (a5 (ix2 0 n))
      + ∑ k : Fin 16384, (a0 (ix2 i k) : EReal) * w (ix2 k n) := by
  pointwise [REF, COL, ROW, base]

end Cert.DownProjPromptRefIdeal.Value

namespace Cert.DownProjPromptIdeal.Value

open Cert.DownProjPromptIdeal Cert.DownProjPromptIdeal.Gen
open Cert.DownProjRefIdeal.Value (base)
open Cert.DownProjIdeal.Value (row_at)

variable (m : (ℓ : Loc nD τ sig) → Buf (Elt Ideal) ℓ)

/-- Where each window's block lies at each step of the grid. -/
theorem idx : ∀ t : Fin cfg0.N, win0_0.index t = ![t.val / 32, t.val % 8] ∧ win0_1.index t = ![t.val % 8, t.val / 8 % 4]
    ∧ win0_2.index t = ![t.val / 32, t.val / 8 % 4] ∧ win0_3.index t = ![t.val / 32, 0] ∧ win0_4.index t = ![0, t.val / 8 % 4]
    ∧ win0_5.index t = ![0, t.val / 8 % 4] ∧ win0_6.index t = ![t.val / 32, t.val / 8 % 4] :=
  (by decide +kernel : ∀ t : Fin grid0.N, _)

/-- What the region finds as its scale. -/
theorem scaleEntry (c : Dev nD) (n : Fin 4096) : (V m c main_v1 : FVec Ideal S1x4096 .f32) (ix2 0 n)
    = (m ((c : Thread nD τ).loc main_arg4) : FVec Ideal S1x4096 .f32) (ix2 0 n) := by
  have e : (V m c main_v1 : FVec Ideal S1x4096 .f32) = broadcastInDim S1x4096 ![1] bcast_S4096_S1x4096_1
      (shapeCast S4096 (m ((c : Thread nD τ).loc main_arg4) : FVec Ideal S1x4096 .f32) shapeCasts_S1x4096_S4096) := by
    entry_read; rfl
  rw [e]; exact row_at _ n

/-- What the region finds as its shift. -/
theorem shiftEntry (c : Dev nD) (n : Fin 4096) : (V m c main_v3 : FVec Ideal S1x4096 .f32) (ix2 0 n)
    = (m ((c : Thread nD τ).loc main_arg5) : FVec Ideal S1x4096 .f32) (ix2 0 n) := by
  have e : (V m c main_v3 : FVec Ideal S1x4096 .f32) = broadcastInDim S1x4096 ![1] bcast_S4096_S1x4096_1
      (shapeCast S4096 (m ((c : Thread nD τ).loc main_arg5) : FVec Ideal S1x4096 .f32) shapeCasts_S1x4096_S4096) := by
    entry_read; rfl
  rw [e]; exact row_at _ n

/-- The activations' block at a step is 1024 rows and 2048 columns of them. -/
theorem blk0 (c : Dev nD) (t : Fin cfg0.N) (i : Fin 1024) (k : Fin 2048) (h : 1024 * (t.val / 32) + i.val < 8192) (h' : 2048 * (t.val % 8) + k.val < 16384) :
    (iblk m c 0 t : FVec Ideal S1024x2048 .bf16) (ix2 i k)
      = (m ((c : Thread nD τ).loc main_arg0) : FVec Ideal S8192x16384 .bf16) (ix2 ⟨1024 * (t.val / 32) + i.val, h⟩ ⟨2048 * (t.val % 8) + k.val, h'⟩) := by
  refine Eq.trans ?_ (congrFun (V_main_arg0 m c) _)
  blk_ext [iblk, idx t]

/-- The weights' block at a step. -/
theorem blk1 (c : Dev nD) (t : Fin cfg0.N) (k : Fin 2048) (x : Fin 1024) (h : 2048 * (t.val % 8) + k.val < 16384) (h' : 1024 * (t.val / 8 % 4) + x.val < 4096) :
    (iblk m c 1 t : FVec Ideal S2048x1024 .bf16) (ix2 k x)
      = (m ((c : Thread nD τ).loc main_arg1) : FVec Ideal S16384x4096 .bf16) (ix2 ⟨2048 * (t.val % 8) + k.val, h⟩ ⟨1024 * (t.val / 8 % 4) + x.val, h'⟩) := by
  refine Eq.trans ?_ (congrFun (V_main_arg1 m c) _)
  blk_ext [iblk, idx t]

/-- The residual's block at a step. -/
theorem blk2 (c : Dev nD) (t : Fin cfg0.N) (i : Fin 1024) (x : Fin 1024) (h : 1024 * (t.val / 32) + i.val < 8192) (h' : 1024 * (t.val / 8 % 4) + x.val < 4096) :
    (iblk m c 2 t : FVec Ideal S1024x1024 .f32) (ix2 i x)
      = (m ((c : Thread nD τ).loc main_arg2) : FVec Ideal S8192x4096 .f32) (ix2 ⟨1024 * (t.val / 32) + i.val, h⟩ ⟨1024 * (t.val / 8 % 4) + x.val, h'⟩) := by
  refine Eq.trans ?_ (congrFun (V_main_arg2 m c) _)
  blk_ext [iblk, idx t]

/-- The statistics' block at a step is 1024 rows of them. -/
theorem blk3 (c : Dev nD) (t : Fin cfg0.N) (i : Fin 1024) (x : Fin 128) (h : 1024 * (t.val / 32) + i.val < 8192) :
    (iblk m c 3 t : FVec Ideal S1024x128 .f32) (ix2 i x)
      = (m ((c : Thread nD τ).loc main_arg3) : FVec Ideal S8192x128 .f32) (ix2 ⟨1024 * (t.val / 32) + i.val, h⟩ x) := by
  refine Eq.trans ?_ (congrFun (V_main_arg3 m c) _)
  blk_ext [iblk, idx t]

/-- The scale's block at a step is 1024 columns of it. -/
theorem blk4 (c : Dev nD) (t : Fin cfg0.N) (x : Fin 1024) (h' : 1024 * (t.val / 8 % 4) + x.val < 4096) :
    (iblk m c 4 t : FVec Ideal S1x1024 .f32) (ix2 0 x)
      = (m ((c : Thread nD τ).loc main_arg4) : FVec Ideal S1x4096 .f32) (ix2 0 ⟨1024 * (t.val / 8 % 4) + x.val, h'⟩) := by
  refine Eq.trans ?_ (scaleEntry m c _)
  blk_ext [iblk, idx t]

/-- The shift's block at a step is 1024 columns of it. -/
theorem blk5 (c : Dev nD) (t : Fin cfg0.N) (x : Fin 1024) (h' : 1024 * (t.val / 8 % 4) + x.val < 4096) :
    (iblk m c 5 t : FVec Ideal S1x1024 .f32) (ix2 0 x)
      = (m ((c : Thread nD τ).loc main_arg5) : FVec Ideal S1x4096 .f32) (ix2 0 ⟨1024 * (t.val / 8 % 4) + x.val, h'⟩) := by
  refine Eq.trans ?_ (shiftEntry m c _)
  blk_ext [iblk, idx t]

/-- What a run of steps begins with, at a row and a column. -/
theorem init_at (s : Vec Ideal S1024x128 .f32) (p : Vec Ideal S1024x1024 .f32) (g b : Vec Ideal S1x1024 .f32) (i n : Fin 1024) :
    (k0_pay1 (F := Ideal) s p g b (ix2 i n) : EReal) = base (p (ix2 i n)) (s (ix2 i 0)) (s (ix2 i 1)) (g (ix2 0 n)) (b (ix2 0 n)) := by
  pointwise [k0_pay1, base]

/-- What a step adds, at a row and a column. -/
theorem step_at (w : Vec Ideal S2048x1024 .bf16) (acc : Vec Ideal S1024x1024 .f32) (x : Vec Ideal S1024x2048 .bf16) (i n : Fin 1024) :
    (k0_pay2 (F := Ideal) w acc x (ix2 i n) : EReal) = acc (ix2 i n) + ∑ k : Fin 2048, (x (ix2 i k) : EReal) * (w (ix2 k n) : EReal) := by
  pointwise [k0_pay2]

/-- A block's product, at a row and a column. -/
def dot (x : FVec Ideal S1024x2048 .bf16) (w : FVec Ideal S2048x1024 .bf16) (i n : Fin 1024) : EReal :=
  ∑ k : Fin 2048, (x (ix2 i k) : EReal) * (w (ix2 k n) : EReal)

/-- What a step's product adds to the running sum. -/
def part (c : Dev nD) (t : Fin cfg0.N) (i n : Fin 1024) : EReal := dot (iblk m c 0 t) (iblk m c 1 t) i n

/-- What a run of steps begins with. -/
def start (c : Dev nD) (t : Fin cfg0.N) (i n : Fin 1024) : EReal :=
  base ((iblk m c 2 t : FVec Ideal S1024x1024 .f32) (ix2 i n)) ((iblk m c 3 t : FVec Ideal S1024x128 .f32) (ix2 i 0))
    ((iblk m c 3 t : FVec Ideal S1024x128 .f32) (ix2 i 1)) ((iblk m c 4 t : FVec Ideal S1x1024 .f32) (ix2 0 n)) ((iblk m c 5 t : FVec Ideal S1x1024 .f32) (ix2 0 n))

/-- What a step adds to the running sum, its first step the run's beginning too. -/
def term (c : Dev nD) (t : Fin cfg0.N) (j : S1024x1024.Idx) : EReal :=
  (if t.val % 8 = 0 then start m c t (j 0) (j 1) else 0) + part m c t (j 0) (j 1)

/-- The running sum after a run's first step. -/
theorem acc_first (c : Dev nD) (t : Fin cfg0.N) (h : t.val % 8 = 0) (j : S1024x1024.Idx) :
    ((outsAt0 m c t.val t.isLt).2 j : EReal) = 0 + term m c t j := by
  rw [outsAt0_A m c t h (by omega)]; frame_out
  obtain ⟨i, n, rfl⟩ : ∃ (i n : Fin 1024), j = ix2 i n := ⟨j 0, j 1, eq_ix2 (n0 := 1024) (n1 := 1024) j⟩
  refine (step_at _ _ _ i n).trans ?_
  rw [zero_add, term, if_pos h]
  exact congrArg₂ (· + ·) (init_at _ _ _ _ i n) rfl

/-- The running sum after any other step. -/
theorem acc_next (c : Dev nD) (t : Fin cfg0.N) (h : ¬t.val % 8 = 0) (j : S1024x1024.Idx) :
    ((outsAt0 m c t.val t.isLt).2 j : EReal) = (outsAt0 m c (t.val - 1) (Nat.lt_of_le_of_lt (Nat.sub_le _ _) t.isLt)).2 j + term m c t j := by
  obtain ⟨i, n, rfl⟩ : ∃ (i n : Fin 1024), j = ix2 i n := ⟨j 0, j 1, eq_ix2 (n0 := 1024) (n1 := 1024) j⟩
  rw [term, if_neg h, zero_add]
  by_cases h1 : t.val % 8 = 7
  · rw [outsAt0_C m c t h h1]; frame_out
    refine (step_at _ _ _ i n).trans (congrArg₂ (· + ·) (congrFun ((Memref.isWhole_whole cc0_scratch0).read_unread _) _) rfl)
  · rw [outsAt0_B m c t h h1]; frame_out
    refine (step_at _ _ _ i n).trans (congrArg₂ (· + ·) (congrFun ((Memref.isWhole_whole cc0_scratch0).read_unread _) _) rfl)

/-- A run's last step writes the running sum back. -/
theorem out_last (c : Dev nD) (t : Fin cfg0.N) (h : t.val % 8 = 7) (j : S1024x1024.Idx) :
    ((outsAt0 m c t.val t.isLt).1 j : EReal) = (outsAt0 m c t.val t.isLt).2 j := by
  rw [outsAt0_C m c t (by omega) h]; frame_out

/-- The result, over the call's arguments. -/
def out (a0 : FVec Ideal S8192x16384 .bf16) (w : FVec Ideal S16384x4096 .bf16) (a2 : FVec Ideal S8192x4096 .f32)
    (a3 : FVec Ideal S8192x128 .f32) (a4 a5 : FVec Ideal S1x4096 .f32) : FVec Ideal S8192x4096 .f32 := fun j =>
  base (a2 (ix2 (j 0) (j 1))) (a3 (ix2 (j 0) 0)) (a3 (ix2 (j 0) 1)) (a4 (ix2 0 (j 1))) (a5 (ix2 0 (j 1)))
    + ∑ k : Fin 16384, (a0 (ix2 (j 0) k) : EReal) * w (ix2 k (j 1))

/-- A step of a run over the contraction's blocks: its product over the arguments. -/
theorem part_at (c : Dev nD) (X : FVec Ideal S8192x16384 .bf16) (W : FVec Ideal S16384x4096 .bf16) (hX : (m ((c : Thread nD τ).loc main_arg0) : FVec Ideal S8192x16384 .bf16) = X)
    (hW : (m ((c : Thread nD τ).loc main_arg1) : FVec Ideal S16384x4096 .bf16) = W) (q : Nat) (hq : q < 32) (s : Fin 8) (hN : 8 * q + s.val < cfg0.N) (i n : Fin 1024) :
    part m c ⟨8 * q + s.val, hN⟩ i n = ∑ k : Fin 2048, (X (ix2 ⟨1024 * (q / 4) + i.val, by omega⟩ ⟨s.val * 2048 + k.val, by omega⟩) : EReal)
      * W (ix2 ⟨s.val * 2048 + k.val, by omega⟩ ⟨1024 * (q % 4) + n.val, by omega⟩) := by
  unfold part dot
  refine Finset.sum_congr (M := EReal) rfl fun k _ => ?_
  refine congrArg₂ (· * ·) ((blk0 m c ⟨8 * q + s.val, hN⟩ i k (by show 1024 * ((8 * q + s.val) / 32) + i.val < 8192; omega)
      (by show 2048 * ((8 * q + s.val) % 8) + k.val < 16384; omega)).trans ?_)
    ((blk1 m c ⟨8 * q + s.val, hN⟩ k n (by show 2048 * ((8 * q + s.val) % 8) + k.val < 16384; omega)
      (by show 1024 * ((8 * q + s.val) / 8 % 4) + n.val < 4096; omega)).trans ?_)
  · rw [hX]
    exact congrArg₂ (fun x y => X (ix2 x y)) (Fin.ext (by show 1024 * ((8 * q + s.val) / 32) + i.val = 1024 * (q / 4) + i.val; omega))
      (Fin.ext (by show 2048 * ((8 * q + s.val) % 8) + k.val = s.val * 2048 + k.val; omega))
  · rw [hW]
    exact congrArg₂ (fun x y => W (ix2 x y)) (Fin.ext (by show 2048 * ((8 * q + s.val) % 8) + k.val = s.val * 2048 + k.val; omega))
      (Fin.ext (by show 1024 * ((8 * q + s.val) / 8 % 4) + n.val = 1024 * (q % 4) + n.val; omega))

/-- The beginning of a run over the arguments. -/
theorem start_at (c : Dev nD) (t : Fin cfg0.N) (p q : Nat) (hp : p < 8) (hq : q < 4) (hr : t.val / 32 = p) (ht : t.val / 8 % 4 = q) (i n : Fin 1024) :
    start m c t i n = base ((m ((c : Thread nD τ).loc main_arg2) : FVec Ideal S8192x4096 .f32) (ix2 ⟨1024 * p + i.val, by omega⟩ ⟨1024 * q + n.val, by omega⟩))
      ((m ((c : Thread nD τ).loc main_arg3) : FVec Ideal S8192x128 .f32) (ix2 ⟨1024 * p + i.val, by omega⟩ 0))
      ((m ((c : Thread nD τ).loc main_arg3) : FVec Ideal S8192x128 .f32) (ix2 ⟨1024 * p + i.val, by omega⟩ 1))
      ((m ((c : Thread nD τ).loc main_arg4) : FVec Ideal S1x4096 .f32) (ix2 0 ⟨1024 * q + n.val, by omega⟩))
      ((m ((c : Thread nD τ).loc main_arg5) : FVec Ideal S1x4096 .f32) (ix2 0 ⟨1024 * q + n.val, by omega⟩)) := by
  subst ht hr
  unfold start
  rw [blk2 m c t i n (by omega) (by omega), blk3 m c t i 0 (by omega), blk3 m c t i 1 (by omega), blk4 m c t n (by omega), blk5 m c t n (by omega)]

/-- The result after the run. -/
theorem result (c : Dev nD) : (dats m 0 c).arrAt 6 (cfgs 0).N = out (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 256 := lt_of_lt_of_eq t.isLt N_0
  have h7 : t.val % 8 = 7 := (flush0_6 t).mp hf
  blk_simp
  rw [after0_6]
  obtain ⟨i, n, rfl⟩ : ∃ (i n : Fin 1024), y = ix2 i n := ⟨y 0, y 1, eq_ix2 (n0 := 1024) (n1 := 1024) y⟩
  have hj : ((cfg0.win 6).blk t).view.emb (ix2 i n)
      = (ix2 ⟨1024 * (t.val / 8 / 4) + i.val, by omega⟩ ⟨1024 * (t.val / 8 % 4) + n.val, by omega⟩ : S8192x4096.Idx) := by
    refine Eq.trans (b := (ix2 ⟨1024 * (t.val / 32) + i.val, by omega⟩ ⟨1024 * (t.val / 8 % 4) + n.val, by omega⟩ : S8192x4096.Idx)) ?_ ?_
    · blk_ext [idx t]
    · exact congrArg₂ ix2 (Fin.ext (by show 1024 * (t.val / 32) + i.val = 1024 * (t.val / 8 / 4) + i.val; omega)) rfl
  refine Eq.trans ?_ (congrArg (out _ _ _ _ _ _) hj.symm)
  refine (out_last m c t h7 _).trans ?_
  refine (Pipeline.eq_sum_fin_of_reset_step_apply_of_flush (M := EReal) (fun n h => (outsAt0 m c n h).2) 8 (fun _ => 0) (term m c)
    (acc_first m c) (acc_next m c) t h7 (ix2 i n)).trans ?_
  rw [zero_add]
  unfold term
  rw [Finset.sum_add_distrib]
  refine congrArg₂ (· + ·) ?_ ?_
  · rw [Finset.sum_eq_single (0 : Fin 8)]
    · rw [if_pos (by show (8 * (t.val / 8) + 0) % 8 = 0; omega)]
      exact start_at m c _ (t.val / 8 / 4) (t.val / 8 % 4) (by omega) (by omega) (by show (8 * (t.val / 8) + 0) / 32 = t.val / 8 / 4; omega)
        (by show (8 * (t.val / 8) + 0) / 8 % 4 = t.val / 8 % 4; omega) i n
    · intro s _ hs
      have : s.val ≠ 0 := fun h => hs (Fin.ext h)
      exact if_neg (by show ¬(8 * (t.val / 8) + s.val) % 8 = 0; omega)
    · intro h; exact absurd (Finset.mem_univ _) h
  · refine (Finset.sum_congr rfl fun s _ => part_at m c _ _ rfl rfl (t.val / 8) (by omega) s _ i n).trans ?_
    exact Fin.sum_mul_add_congr fun s k hl => rfl

end Cert.DownProjPromptIdeal.Value

namespace Cert.Proof

open Cert.DownProjPromptIdeal Cert.DownProjPromptIdeal.Value

/-- The reference of the prompt's second feed-forward product runs, leaves its arguments and has no semaphore. -/
theorem frame_DownProjPromptRefIdeal : Cert.quiescent_DownProjPromptRefIdeal := fun m ρ _ =>
  (θ_run Cert.DownProjPromptRefIdeal.defs _ _).mono (fun r h => ⟨fun c => (h c).2, sem_eq_zero_of_no_sems (by rfl) r.2⟩)
    (Cert.DownProjPromptRefIdeal.Value.run m ρ)

/-- Over the extended reals the prompt's second feed-forward product, added up block by block onto the residual, is the reference's. -/
theorem algebraic_DownProjPrompt : Cert.algebraic_DownProjPromptIdeal_DownProjPromptRefIdeal := by
  pair_intro
  · run_from Cert.DownProjPromptIdeal.Value.run_blocks m g
  · run_from Cert.DownProjPromptRefIdeal.Value.run m' g'
    refine Eq.trans ?_ (result m c).symm
    funext j
    obtain ⟨i, n, rfl⟩ : ∃ (i : Fin 8192) (n : Fin 4096), j = ix2 i n := ⟨j 0, j 1, eq_ix2 (n0 := 8192) (n1 := 4096) j⟩
    exact Cert.DownProjPromptRefIdeal.Value.ref_at _ _ _ _ _ _ i n

end Cert.Proof
-- ==== Proof.InProjGlaPromptValue.lean ====
module

public import proofs.«01_k».proof.Proof.InProjSsdPromptValue
public import proofs.«01_k».proof.Proof.SameText
public import proofs.«01_k».proof.Proof.Gen.InProjGlaPrompt
public import proofs.«01_k».proof.Proof.Gen.InProjGlaPromptIdeal
public import proofs.«01_k».proof.Proof.Gen.InProjGlaPromptRefIdeal
public import proofs.«01_k».proof.Proof.Gen.InProjSsdPrompt.Frame
public import proofs.«01_k».proof.Proof.Gen.InProjSsdPromptIdeal.Frame

/-! The prompt's first projection has the shapes and the text of its second, and takes that one's claims. -/

@[expose] public section

set_option maxRecDepth 16384

noncomputable section

open Idealize.ShloMosaic Idealize.ShloMosaic.TcCoe Idealize.SL.Sem

namespace Cert.Proof

/-- The two projections' bodies are the same. -/
theorem same_body_InProj {F : FTy → Type} [FloatOps F] : Cert.InProjGlaPrompt.defs₀ (F := F) = Cert.InProjSsdPrompt.defs₀ (F := F) := by
  refine congrArg Defs.onTc ?_
  funext l x
  match l, x with
  | 0, (t, s) => rfl
  | ⟨_ + 1, h⟩, _ => exact absurd h (Nat.not_lt.2 (Nat.le_add_left _ _))

/-- So are their tables. -/
theorem same_defs_InProj {F : FTy → Type} [FloatOps F] : Cert.InProjGlaPrompt.defs (F := F) = Cert.InProjSsdPrompt.defs (F := F) :=
  congrArg (Pipeline.defs (Cert.InProjSsdPrompt.pcfgs (F := F))) same_body_InProj

/-- The two projections' bodies are the same in their idealizations. -/
theorem same_body_InProjIdeal {F : FTy → Type} [FloatOps F] : Cert.InProjGlaPromptIdeal.defs₀ (F := F) = Cert.InProjSsdPromptIdeal.defs₀ (F := F) := by
  refine congrArg Defs.onTc ?_
  funext l x
  match l, x with
  | 0, (t, s) => rfl
  | ⟨_ + 1, h⟩, _ => exact absurd h (Nat.not_lt.2 (Nat.le_add_left _ _))

/-- So are their tables. -/
theorem same_defs_InProjIdeal {F : FTy → Type} [FloatOps F] : Cert.InProjGlaPromptIdeal.defs (F := F) = Cert.InProjSsdPromptIdeal.defs (F := F) :=
  congrArg (Pipeline.defs (Cert.InProjSsdPromptIdeal.pcfgs (F := F))) same_body_InProjIdeal

/-- The prompt's first projection runs, leaves its arguments and every semaphore at zero. -/
theorem frame_InProjGlaPrompt : Cert.quiescent_InProjGlaPrompt := fun m ρ _ =>
  run_of_eq same_defs_InProj (Cert.InProjSsdPrompt.Gen.frame m ρ)

/-- The same over the extended reals. -/
theorem frame_InProjGlaPromptIdeal : Cert.quiescent_InProjGlaPromptIdeal := fun m ρ _ =>
  run_of_eq same_defs_InProjIdeal (Cert.InProjSsdPromptIdeal.Gen.frame m ρ)

/-- Its reference runs, leaves its arguments and has no semaphore. -/
theorem frame_InProjGlaPromptRefIdeal : Cert.quiescent_InProjGlaPromptRefIdeal := frame_InProjSsdPromptRefIdeal

/-- Over the extended reals the prompt's first projection is the reference's product. -/
theorem algebraic_InProjGlaPrompt : Cert.algebraic_InProjGlaPromptIdeal_InProjGlaPromptRefIdeal := fun m g m' g' hpre hagree =>
  (algebraic_InProjSsdPrompt m g m' g' hpre hagree).imp fun _ h => ⟨run_of_eq same_defs_InProjIdeal h.1, h.2⟩

end Cert.Proof
-- ==== Proof.OutProjPromptValue.lean ====
module

public import proofs.«01_k».proof.Defs
public import proofs.«01_k».proof.Proof.Gen.OutProjPromptIdeal.Value
public import proofs.«01_k».proof.Proof.Gen.OutProjPromptRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjPromptRefIdeal.Value

open Cert.OutProjPromptRefIdeal Cert.OutProjPromptRefIdeal.Gen

/-- The tokens as a matrix. -/
abbrev tokens (r : FVec Ideal S4x2048x4096 .f32) : FVec Ideal S8192x4096 .f32 := shapeCast S8192x4096 r shapeCasts_S4x2048x4096_S8192x4096

/-- The reference's residual sum over its arguments. -/
abbrev REF (a0 a1 : FVec Ideal S8192x2048 .bf16) (w0 w1 : FVec Ideal S2048x4096 .bf16) (r : FVec Ideal S4x2048x4096 .f32) : FVec Ideal S8192x4096 .f32 :=
  addf (mulf (broadcastInDim S8192x4096 ![] bcast_S_S8192x4096 (constant S_ .f32 0x3F9837F0#32)) (tokens r))
    (Host.dotGeneral (F := Ideal) (φ₁ := .f32) (φ₂ := .f32) dot_S8192x4096_S4096x4096_S8192x4096_1_0_0_1_n_n none
      (extf .f32 (concatenate S8192x4096 1 [⟨S8192x2048, a0⟩, ⟨S8192x2048, a1⟩] concatenates_S8192x2048_S8192x2048_S8192x4096_d1) bitsLt_bf16_f32)
      (extf .f32 (concatenate S4096x4096 0 [⟨S2048x4096, w0⟩, ⟨S2048x4096, w1⟩] concatenates_S2048x4096_S2048x4096_S4096x4096_d0) bitsLt_bf16_f32))

/-- The reference's residual sum at a row and a column: a sum over each mixer's half of the rows. -/
theorem ref_at (a0 a1 : FVec Ideal S8192x2048 .bf16) (w0 w1 : FVec Ideal S2048x4096 .bf16) (r : FVec Ideal S4x2048x4096 .f32) (i : Fin 8192) (n : Fin 4096) :
    (REF a0 a1 w0 w1 r (ix2 i n) : EReal) = Ideal.ofBits .f32 0x3F9837F0#32 * tokens r (ix2 i n)
      + ((∑ k : Fin 2048, (a0 (ix2 i k) : EReal) * w0 (ix2 k n)) + ∑ k : Fin 2048, (a1 (ix2 i k) : EReal) * w1 (ix2 k n)) := by
  pointwise [REF]

end Cert.OutProjPromptRefIdeal.Value

namespace Cert.OutProjPromptIdeal.Value

open Cert.OutProjPromptIdeal Cert.OutProjPromptIdeal.Gen
open Cert.OutProjPromptRefIdeal.Value (tokens)

variable (m : (ℓ : Loc nD τ sig) → Buf (Elt Ideal) ℓ)

/-- Where each window's block lies at each step of the grid. -/
theorem idx : ∀ t : Fin cfg0.N, win0_0.index t = ![t.val / 4, 0] ∧ win0_1.index t = ![t.val / 4, 0]
    ∧ win0_2.index t = ![0, t.val % 4] ∧ win0_3.index t = ![0, t.val % 4] ∧ win0_4.index t = ![t.val / 4, t.val % 4]
    ∧ win0_5.index t = ![t.val / 4, t.val % 4] :=
  (by decide +kernel : ∀ t : Fin grid0.N, _)

/-- What the region finds as its residual: the argument as a matrix of tokens. -/
theorem entry (c : Dev nD) : (V m c main_v0 : FVec Ideal S8192x4096 .f32) = tokens (m ((c : Thread nD τ).loc main_arg4)) := by
  entry_read
  rfl

/-- The first activations' block at a step is 1024 rows of them. -/
theorem blk0 (c : Dev nD) (t : Fin cfg0.N) (i : Fin 1024) (x : Fin 2048) (h : 1024 * (t.val / 4) + i.val < 8192) :
    (iblk m c 0 t : FVec Ideal S1024x2048 .bf16) (ix2 i x)
      = (m ((c : Thread nD τ).loc main_arg0) : FVec Ideal S8192x2048 .bf16) (ix2 ⟨1024 * (t.val / 4) + i.val, h⟩ x) := by
  refine Eq.trans ?_ (congrFun (V_main_arg0 m c) _)
  blk_ext [iblk, idx t]

/-- The second activations' block at a step is 1024 rows of them. -/
theorem blk1 (c : Dev nD) (t : Fin cfg0.N) (i : Fin 1024) (x : Fin 2048) (h : 1024 * (t.val / 4) + i.val < 8192) :
    (iblk m c 1 t : FVec Ideal S1024x2048 .bf16) (ix2 i x)
      = (m ((c : Thread nD τ).loc main_arg1) : FVec Ideal S8192x2048 .bf16) (ix2 ⟨1024 * (t.val / 4) + i.val, h⟩ x) := by
  refine Eq.trans ?_ (congrFun (V_main_arg1 m c) _)
  blk_ext [iblk, idx t]

/-- The first weights' block at a step is 1024 columns of them. -/
theorem blk2 (c : Dev nD) (t : Fin cfg0.N) (k : Fin 2048) (x : Fin 1024) (h : 1024 * (t.val % 4) + x.val < 4096) :
    (iblk m c 2 t : FVec Ideal S2048x1024 .bf16) (ix2 k x)
      = (m ((c : Thread nD τ).loc main_arg2) : FVec Ideal S2048x4096 .bf16) (ix2 k ⟨1024 * (t.val % 4) + x.val, h⟩) := by
  refine Eq.trans ?_ (congrFun (V_main_arg2 m c) _)
  blk_ext [iblk, idx t]

/-- The second weights' block at a step is 1024 columns of them. -/
theorem blk3 (c : Dev nD) (t : Fin cfg0.N) (k : Fin 2048) (x : Fin 1024) (h : 1024 * (t.val % 4) + x.val < 4096) :
    (iblk m c 3 t : FVec Ideal S2048x1024 .bf16) (ix2 k x)
      = (m ((c : Thread nD τ).loc main_arg3) : FVec Ideal S2048x4096 .bf16) (ix2 k ⟨1024 * (t.val % 4) + x.val, h⟩) := by
  refine Eq.trans ?_ (congrFun (V_main_arg3 m c) _)
  blk_ext [iblk, idx t]

/-- The residual's block at a step. -/
theorem blk4 (c : Dev nD) (t : Fin cfg0.N) (i x : Fin 1024) (h : 1024 * (t.val / 4) + i.val < 8192) (h' : 1024 * (t.val % 4) + x.val < 4096) :
    (iblk m c 4 t : FVec Ideal S1024x1024 .f32) (ix2 i x)
      = (V m c main_v0 : FVec Ideal S8192x4096 .f32) (ix2 ⟨1024 * (t.val / 4) + i.val, h⟩ ⟨1024 * (t.val % 4) + x.val, h'⟩) := by
  blk_ext [iblk, idx t]

/-- What the body computes, at a row and a column. -/
theorem pay_at (v0 v1 : Vec Ideal S2048x1024 .bf16) (v2 : Vec Ideal S1024x1024 .f32) (v6 v9 : Vec Ideal S1024x2048 .bf16) (i n : Fin 1024) :
    (k0_pay1 (F := Ideal) v0 v1 v2 v6 v9 (ix2 i n) : EReal) = (Ideal.ofBits .f32 0x3F9837F0#32 * v2 (ix2 i n)
      + ∑ k : Fin 2048, (v6 (ix2 i k) : EReal) * v0 (ix2 k n)) + ∑ k : Fin 2048, (v9 (ix2 i k) : EReal) * v1 (ix2 k n) := by
  pointwise [k0_pay1]

/-- What the call leaves, over the activations, the weights and the residual. -/
def out (a b : FVec Ideal S8192x2048 .bf16) (w v : FVec Ideal S2048x4096 .bf16) (r : FVec Ideal S8192x4096 .f32) : FVec Ideal S8192x4096 .f32 := fun j =>
  (Ideal.ofBits .f32 0x3F9837F0#32 * r (ix2 (j 0) (j 1))
    + ((∑ k : Fin 2048, (a (ix2 (j 0) k) : EReal) * w (ix2 k (j 1))) + ∑ k : Fin 2048, (b (ix2 (j 0) k) : EReal) * v (ix2 k (j 1))) : EReal)

/-- The result after the run. -/
theorem result (c : Dev nD) : (dats m 0 c).arrAt 5 (cfgs 0).N = out (m ((c : Thread nD τ).loc main_arg0))
    (m ((c : Thread nD τ).loc main_arg1)) (m ((c : Thread nD τ).loc main_arg2)) (m ((c : Thread nD τ).loc main_arg3)) (V m c main_v0) := by
  refine (dats m 0 c).arrAt_eq_of_covers 5 _ (by decide +kernel) fun t _ y => ?_
  have ht : t.val < 32 := lt_of_lt_of_eq t.isLt N_0
  blk_simp
  rw [after0_5]; frame_out
  obtain ⟨i, n, rfl⟩ : ∃ (i n : Fin 1024), y = ix2 i n := ⟨y 0, y 1, eq_ix2 (n0 := 1024) (n1 := 1024) y⟩
  refine (pay_at _ _ _ _ _ i n).trans ?_
  have hj : ((cfg0.win 5).blk t).view.emb (ix2 i n)
      = (ix2 ⟨1024 * (t.val / 4) + i.val, by omega⟩ ⟨1024 * (t.val % 4) + n.val, by omega⟩ : S8192x4096.Idx) := by
    blk_ext [idx t]
  refine Eq.trans ?_ (congrArg (out _ _ _ _ _) hj.symm)
  rw [blk4 m c t i n (by omega) (by omega), add_assoc]
  refine congrArg₂ (· + ·) rfl (congrArg₂ (· + ·) (Finset.sum_congr rfl fun k _ => ?_) (Finset.sum_congr rfl fun k _ => ?_))
  · rw [blk0 m c t i k (by omega), blk2 m c t k n (by omega)]; rfl
  · rw [blk1 m c t i k (by omega), blk3 m c t k n (by omega)]; rfl

end Cert.OutProjPromptIdeal.Value

namespace Cert.Proof

open Cert.OutProjPromptIdeal Cert.OutProjPromptIdeal.Value

/-- The reference of the prompt's output projection runs, leaves its arguments and has no semaphore. -/
theorem frame_OutProjPromptRefIdeal : Cert.quiescent_OutProjPromptRefIdeal := fun m ρ _ =>
  (θ_run Cert.OutProjPromptRefIdeal.defs _ _).mono (fun r h => ⟨fun c => (h c).2, sem_eq_zero_of_no_sems (by rfl) r.2⟩)
    (Cert.OutProjPromptRefIdeal.Value.run m ρ)

/-- Over the extended reals the prompt's residual sum is the reference's. -/
theorem algebraic_OutProjPrompt : Cert.algebraic_OutProjPromptIdeal_OutProjPromptRefIdeal := by
  pair_intro
  · run_from Cert.OutProjPromptIdeal.Value.run_blocks m g
  · run_from Cert.OutProjPromptRefIdeal.Value.run m' g'
    refine Eq.trans ?_ (result m c).symm
    rw [entry]
    funext j
    obtain ⟨i, n, rfl⟩ : ∃ (i : Fin 8192) (n : Fin 4096), j = ix2 i n := ⟨j 0, j 1, eq_ix2 (n0 := 8192) (n1 := 4096) j⟩
    exact Cert.OutProjPromptRefIdeal.Value.ref_at _ _ _ _ _ i n

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.InProjValue
public import proofs.«01_k».proof.Proof.Gen.Mixers
public import proofs.«01_k».proof.Proof.Gen.MixersIdeal
public import proofs.«01_k».proof.Proof.MixBits
public import proofs.«01_k».proof.Proof.MixGlaValue
public import proofs.«01_k».proof.Proof.Gen.MlpUpPrompt
public import proofs.«01_k».proof.Proof.Gen.MlpUpPrompt.Frame
public import proofs.«01_k».proof.Proof.Gen.MlpUpPromptIdeal
public import proofs.«01_k».proof.Proof.Gen.MlpUpPromptIdeal.Frame
public import proofs.«01_k».proof.Proof.Gen.MlpUpPromptIdeal.Value
public import proofs.«01_k».proof.Proof.Gen.MlpUpPromptRefIdeal
public import proofs.«01_k».proof.Proof.Gen.MlpUpPromptRefIdeal.Run
public import proofs.«01_k».proof.Proof.Gen.DownProjPrompt
public import proofs.«01_k».proof.Proof.Gen.DownProjPrompt.Frame
public import proofs.«01_k».proof.Proof.Gen.DownProjPromptIdeal
public import proofs.«01_k».proof.Proof.Gen.DownProjPromptIdeal.Frame
public import proofs.«01_k».proof.Proof.Gen.DownProjPromptIdeal.Value
public import proofs.«01_k».proof.Proof.Gen.DownProjPromptRefIdeal
public import proofs.«01_k».proof.Proof.Gen.DownProjPromptRefIdeal.Run
public import proofs.«01_k».proof.Proof.Gen.InProjGlaPrompt
public import proofs.«01_k».proof.Proof.Gen.InProjGlaPromptIdeal
public import proofs.«01_k».proof.Proof.Gen.InProjGlaPromptRefIdeal
public import proofs.«01_k».proof.Proof.Gen.OutProjPrompt
public import proofs.«01_k».proof.Proof.Gen.OutProjPrompt.Frame
public import proofs.«01_k».proof.Proof.Gen.OutProjPromptIdeal
public import proofs.«01_k».proof.Proof.Gen.OutProjPromptIdeal.Frame
public import proofs.«01_k».proof.Proof.Gen.OutProjPromptIdeal.Value
public import proofs.«01_k».proof.Proof.Gen.OutProjPromptRefIdeal
public import proofs.«01_k».proof.Proof.Gen.OutProjPromptRefIdeal.Run
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.DownProj
public import proofs.«01_k».proof.Proof.Gen.DownProj.Frame
public import proofs.«01_k».proof.Proof.Gen.DownProjIdeal
public import proofs.«01_k».proof.Proof.Gen.DownProjIdeal.Frame
public import proofs.«01_k».proof.Proof.Gen.DownProjIdeal.Value
public import proofs.«01_k».proof.Proof.Gen.DownProjRefIdeal
public import proofs.«01_k».proof.Proof.Gen.DownProjRefIdeal.Run
public import proofs.«01_k».proof.Proof.Gen.InProjGla
public import proofs.«01_k».proof.Proof.Gen.InProjGla.Frame
public import proofs.«01_k».proof.Proof.Gen.InProjGlaIdeal
public import proofs.«01_k».proof.Proof.Gen.InProjGlaIdeal.Frame
public import proofs.«01_k».proof.Proof.Gen.InProjGlaIdeal.Value
public import proofs.«01_k».proof.Proof.Gen.InProjGlaRefIdeal
public import proofs.«01_k».proof.Proof.Gen.InProjGlaRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.NormStats
public import proofs.«01_k».proof.Proof.Gen.NormStats.Frame
public import proofs.«01_k».proof.Proof.Gen.NormStatsIdeal
public import proofs.«01_k».proof.Proof.Gen.NormStatsIdeal.Frame
public import proofs.«01_k».proof.Proof.Gen.NormStatsIdeal.Value
public import proofs.«01_k».proof.Proof.Gen.NormStatsRefIdeal
public import proofs.«01_k».proof.Proof.Gen.NormStatsRefIdeal.Run
public import proofs.«01_k».proof.Proof.Gen.NormSample
public import proofs.«01_k».proof.Proof.Gen.NormSample.Frame
public import proofs.«01_k».proof.Proof.Gen.NormSampleIdeal
public import proofs.«01_k».proof.Proof.Gen.NormSampleIdeal.Frame
public import proofs.«01_k».proof.Proof.Gen.NormSampleIdeal.Value
public import proofs.«01_k».proof.Proof.Gen.NormSampleRefIdeal
public import proofs.«01_k».proof.Proof.Gen.NormSampleRefIdeal.Run
public import proofs.«01_k».proof.Proof.Gen.NormPrompt
public import proofs.«01_k».proof.Proof.Gen.NormPrompt.Frame
public import proofs.«01_k».proof.Proof.Gen.NormPromptIdeal
public import proofs.«01_k».proof.Proof.Gen.NormPromptIdeal.Frame
public import proofs.«01_k».proof.Proof.Gen.NormPromptIdeal.Value
public import proofs.«01_k».proof.Proof.Gen.NormPromptRefIdeal
public import proofs.«01_k».proof.Proof.Gen.NormPromptRefIdeal.Run
public import proofs.«01_k».proof.Proof.Gen.InProjSsdPrompt
public import proofs.«01_k».proof.Proof.Gen.InProjSsdPrompt.Frame
public import proofs.«01_k».proof.Proof.Gen.InProjSsdPromptIdeal
public import proofs.«01_k».proof.Proof.Gen.InProjSsdPromptIdeal.Frame
public import proofs.«01_k».proof.Proof.Gen.InProjSsdPromptIdeal.Value
public import proofs.«01_k».proof.Proof.Gen.InProjSsdPromptRefIdeal
public import proofs.«01_k».proof.Proof.Gen.InProjSsdPromptRefIdeal.Run
public import proofs.«01_k».proof.Proof.Gen.MixersRefIdeal
public import proofs.«01_k».proof.Proof.Gen.MixersRefIdeal.Run
public import proofs.«01_k».proof.Proof.MlpUpValue
public import proofs.«01_k».proof.Proof.DownProjValue
public import proofs.«01_k».proof.Proof.InProjGlaValue
public import proofs.«01_k».proof.Proof.OutProjValue
public import proofs.«01_k».proof.Proof.NormStatsValue
public import proofs.«01_k».proof.Proof.NormSampleValue
public import proofs.«01_k».proof.Proof.NormPromptValue
public import proofs.«01_k».proof.Proof.InProjSsdPromptValue
public import proofs.«01_k».proof.Proof.MlpUpPromptValue
public import proofs.«01_k».proof.Proof.DownProjPromptValue
public import proofs.«01_k».proof.Proof.InProjGlaPromptValue
public import proofs.«01_k».proof.Proof.OutProjPromptValue
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore whose counter could move. -/
theorem frame_ref : Cert.quiescent_ReferenceIdeal := fun m ρ _ =>
  (θ_run Cert.ReferenceIdeal.defs _ _).mono (fun r h => ⟨fun c => (h c).2.2, sem_eq_zero_of_no_sems (by rfl) r.2⟩)
    (Cert.ReferenceIdeal.Value.run m ρ)

/-- Over the extended reals the kernel's two arrays are the reference's: the product with columns 6160 to 12303 of the
    input projection, and those columns turned into rows. -/
theorem algebraic : Cert.algebraic_KernelIdeal_ReferenceIdeal := by
  pair_intro
  · run_from Cert.KernelIdeal.Value.run_blocks m g
  · run_from Cert.ReferenceIdeal.Value.run m' g'
    · exact ((Cert.KernelIdeal.Value.final m c).trans (Cert.KernelIdeal.Value.prod_eq m c)).symm
    · exact ((Cert.KernelIdeal.Value.final3 m c).trans (Cert.KernelIdeal.Value.rows_eq m c)).symm

/-- All claims of the fourteen calls: of each the three frames, the preservation by the empty list of rules, and the
    equality of values with its reference. -/
theorem claim : Cert.Claim :=
  ⟨Cert.Kernel.Gen.facts, Cert.KernelIdeal.Gen.facts, Cert.ReferenceIdeal.Gen.facts,
    Cert.MlpUp.Gen.facts, Cert.MlpUpIdeal.Gen.facts, Cert.MlpUpRefIdeal.Gen.facts,
    Cert.DownProj.Gen.facts, Cert.DownProjIdeal.Gen.facts, Cert.DownProjRefIdeal.Gen.facts,
    Cert.InProjGla.Gen.facts, Cert.InProjGlaIdeal.Gen.facts, Cert.InProjGlaRefIdeal.Gen.facts,
    Cert.OutProj.Gen.facts, Cert.OutProjIdeal.Gen.facts, Cert.OutProjRefIdeal.Gen.facts,
    Cert.NormStats.Gen.facts, Cert.NormStatsIdeal.Gen.facts, Cert.NormStatsRefIdeal.Gen.facts,
    Cert.NormSample.Gen.facts, Cert.NormSampleIdeal.Gen.facts, Cert.NormSampleRefIdeal.Gen.facts,
    Cert.NormPrompt.Gen.facts, Cert.NormPromptIdeal.Gen.facts, Cert.NormPromptRefIdeal.Gen.facts,
    Cert.InProjSsdPrompt.Gen.facts, Cert.InProjSsdPromptIdeal.Gen.facts, Cert.InProjSsdPromptRefIdeal.Gen.facts,
    Cert.Mixers.Gen.facts, Cert.MixersIdeal.Gen.facts, Cert.MixersRefIdeal.Gen.facts,
    Cert.MlpUpPrompt.Gen.facts, Cert.MlpUpPromptIdeal.Gen.facts, Cert.MlpUpPromptRefIdeal.Gen.facts,
    Cert.DownProjPrompt.Gen.facts, Cert.DownProjPromptIdeal.Gen.facts, Cert.DownProjPromptRefIdeal.Gen.facts,
    Cert.InProjGlaPrompt.Gen.facts, Cert.InProjGlaPromptIdeal.Gen.facts, Cert.InProjGlaPromptRefIdeal.Gen.facts,
    Cert.OutProjPrompt.Gen.facts, Cert.OutProjPromptIdeal.Gen.facts, Cert.OutProjPromptRefIdeal.Gen.facts,
    fun m ρ _ => Cert.Kernel.Gen.frame m ρ, fun m ρ _ => Cert.KernelIdeal.Gen.frame m ρ, frame_ref,
    fun m ρ _ => Cert.MlpUp.Gen.frame m ρ, fun m ρ _ => Cert.MlpUpIdeal.Gen.frame m ρ, mlpUp_frame_ref,
    fun m ρ _ => Cert.DownProj.Gen.frame m ρ, fun m ρ _ => Cert.DownProjIdeal.Gen.frame m ρ, frame_DownProjRefIdeal,
    fun m ρ _ => Cert.InProjGla.Gen.frame m ρ, fun m ρ _ => Cert.InProjGlaIdeal.Gen.frame m ρ, frame_InProjGlaRefIdeal,
    fun m ρ _ => Cert.OutProj.Gen.frame m ρ, fun m ρ _ => Cert.OutProjIdeal.Gen.frame m ρ, frame_OutProjRefIdeal,
    fun m ρ _ => Cert.NormStats.Gen.frame m ρ, fun m ρ _ => Cert.NormStatsIdeal.Gen.frame m ρ, frame_NormStatsRefIdeal,
    fun m ρ _ => Cert.NormSample.Gen.frame m ρ, fun m ρ _ => Cert.NormSampleIdeal.Gen.frame m ρ, frame_NormSampleRefIdeal,
    fun m ρ _ => Cert.NormPrompt.Gen.frame m ρ, fun m ρ _ => Cert.NormPromptIdeal.Gen.frame m ρ, frame_NormPromptRefIdeal,
    fun m ρ _ => Cert.InProjSsdPrompt.Gen.frame m ρ, fun m ρ _ => Cert.InProjSsdPromptIdeal.Gen.frame m ρ, frame_InProjSsdPromptRefIdeal,
    frame_Mixers, frame_MixersIdeal, frame_MixersRefIdeal,
    fun m ρ _ => Cert.MlpUpPrompt.Gen.frame m ρ, fun m ρ _ => Cert.MlpUpPromptIdeal.Gen.frame m ρ, frame_MlpUpPromptRefIdeal,
    fun m ρ _ => Cert.DownProjPrompt.Gen.frame m ρ, fun m ρ _ => Cert.DownProjPromptIdeal.Gen.frame m ρ, frame_DownProjPromptRefIdeal,
    frame_InProjGlaPrompt, frame_InProjGlaPromptIdeal, frame_InProjGlaPromptRefIdeal,
    fun m ρ _ => Cert.OutProjPrompt.Gen.frame m ρ, fun m ρ _ => Cert.OutProjPromptIdeal.Gen.frame m ρ, frame_OutProjPromptRefIdeal,
    trivial, algebraic,
    trivial, mlpUp_algebraic,
    trivial, algebraic_DownProj,
    trivial, algebraic_InProjGla,
    trivial, algebraic_OutProj,
    trivial, algebraic_NormStats,
    trivial, algebraic_NormSample,
    trivial, algebraic_NormPrompt,
    trivial, algebraic_InProjSsdPrompt,
    trivial, algebraic_Mixers,
    trivial, algebraic_MlpUpPrompt,
    trivial, algebraic_DownProjPrompt,
    trivial, algebraic_InProjGlaPrompt,
    trivial, algebraic_OutProjPrompt⟩

end Cert.Proof

end
